-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_below_inf [hPre_gates_below_inf : Cert.Pre_gates_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_gates_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_below_inf [hPre_gates_below_inf : Cert.Pre_gates_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_gates_below_inf [hKernelIdeal : Cert.KernelIdeal.Facts] [hPre_gates_below_inf : Cert.Pre_gates_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_gates_below_inf [hReferenceIdeal : Cert.ReferenceIdeal.Facts] [hPre_gates_below_inf : Cert.Pre_gates_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal_pre_gates_below_inf [hKernelIdeal : Cert.KernelIdeal.Facts] [hReferenceIdeal : Cert.ReferenceIdeal.Facts] [hPre_gates_below_inf : Cert.Pre_gates_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v100) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)) (v3 : (c : Dev Cert.Kernel3Ideal.nD) → Buf (Elt Ideal) ((c.tc : Thread Cert.Kernel3Ideal.nD Cert.Kernel3Ideal.τ).loc Cert.Kernel3Ideal.main_v6_3)) (v4 : (c : Dev Cert.Kernel3Ideal.nD) → Buf (Elt Ideal) ((c.tc : Thread Cert.Kernel3Ideal.nD Cert.Kernel3Ideal.τ).loc Cert.Kernel3Ideal.main_v6_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_v6_3) = v3 c
          ∧ r.2.mem ((c.tc : Thread Cert.Kernel3Ideal.nD Cert.Kernel3Ideal.τ).loc Cert.Kernel3Ideal.main_v6_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_v15) = v1 c
          ∧ r.2.mem ((c.tc : Thread Cert.Reference3Ideal.nD Cert.Reference3Ideal.τ).loc Cert.Reference3Ideal.main_v26) = v2 c
          ∧ r.2.mem ((c.tc : Thread Cert.Reference3Ideal.nD Cert.Reference3Ideal.τ).loc Cert.Reference3Ideal.main_v17) = v3 c
          ∧ r.2.mem ((c.tc : Thread Cert.Reference3Ideal.nD Cert.Reference3Ideal.τ).loc Cert.Reference3Ideal.main_v25) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)) (v2 : (c : Dev Cert.Kernel4Ideal.nD) → Buf (Elt Ideal) ((c.tc : Thread Cert.Kernel4Ideal.nD Cert.Kernel4Ideal.τ).loc Cert.Kernel4Ideal.main_v9_2)) (v3 : (c : Dev Cert.Kernel4Ideal.nD) → Buf (Elt Ideal) ((c.tc : Thread Cert.Kernel4Ideal.nD Cert.Kernel4Ideal.τ).loc Cert.Kernel4Ideal.main_v9_3)) (v4 : (c : Dev Cert.Kernel4Ideal.nD) → Buf (Elt Ideal) ((c.tc : Thread Cert.Kernel4Ideal.nD Cert.Kernel4Ideal.τ).loc Cert.Kernel4Ideal.main_v9_4)) (v5 : (c : Dev Cert.Kernel4Ideal.nD) → Buf (Elt Ideal) ((c.tc : Thread Cert.Kernel4Ideal.nD Cert.Kernel4Ideal.τ).loc Cert.Kernel4Ideal.main_v9_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_v9_2) = v2 c
          ∧ r.2.mem ((c.tc : Thread Cert.Kernel4Ideal.nD Cert.Kernel4Ideal.τ).loc Cert.Kernel4Ideal.main_v9_3) = v3 c
          ∧ r.2.mem ((c.tc : Thread Cert.Kernel4Ideal.nD Cert.Kernel4Ideal.τ).loc Cert.Kernel4Ideal.main_v9_4) = v4 c
          ∧ r.2.mem ((c.tc : Thread Cert.Kernel4Ideal.nD Cert.Kernel4Ideal.τ).loc Cert.Kernel4Ideal.main_v9_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_v50) = v2 c
          ∧ r.2.mem ((c.tc : Thread Cert.Reference4Ideal.nD Cert.Reference4Ideal.τ).loc Cert.Reference4Ideal.main_v51) = v3 c
          ∧ r.2.mem ((c.tc : Thread Cert.Reference4Ideal.nD Cert.Reference4Ideal.τ).loc Cert.Reference4Ideal.main_v52) = v4 c
          ∧ r.2.mem ((c.tc : Thread Cert.Reference4Ideal.nD Cert.Reference4Ideal.τ).loc Cert.Reference4Ideal.main_v53) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v33) = v0 c
          ∧ r.2.mem ((c.tc : Thread Cert.Reference5Ideal.nD Cert.Reference5Ideal.τ).loc Cert.Reference5Ideal.main_v35) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_gates_below_inf : Cert.Pre_gates_below_inf.Facts),
    quiescent_Kernel (hKernel := hKernel)
    ∧ quiescent_KernelIdeal (hKernelIdeal := hKernelIdeal)
    ∧ quiescent_KernelIdeal_pre_gates_below_inf (hKernelIdeal := hKernelIdeal) (hPre_gates_below_inf := hPre_gates_below_inf)
    ∧ quiescent_ReferenceIdeal (hReferenceIdeal := hReferenceIdeal)
    ∧ quiescent_ReferenceIdeal_pre_gates_below_inf (hReferenceIdeal := hReferenceIdeal) (hPre_gates_below_inf := hPre_gates_below_inf)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_gates_below_inf (hKernelIdeal := hKernelIdeal) (hReferenceIdeal := hReferenceIdeal) (hPre_gates_below_inf := hPre_gates_below_inf)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_gates_below_inf.lean ====
abbrev S32768x512 : Shape := ⟨2, ![32768, 512]⟩
abbrev S32768x1024 : Shape := ⟨2, ![32768, 1024]⟩
abbrev S256 : Shape := ⟨1, ![256]⟩
abbrev S_ : Shape := ⟨0, ![]⟩

class Facts : Prop where
  bcast_S_S32768x512 : S_.BroadcastsInDim S32768x512 (![] : Fin 0 → Fin S32768x512.rank)

variable [Facts]

def fn {F : FTy → Type} [FloatOps F] (main_arg0 : FVec F S32768x512 .f32) (main_arg1 : FVec F S32768x512 .f32) (main_arg2 : FVec F S32768x512 .f32) (main_arg3 : FVec F S32768x1024 .bf16) (main_arg4 : FVec F S32768x1024 .f32) (main_arg5 : FVec F S256 .f32) : IVec S32768x512 1 :=
  let main_cst : FVec F S_ .f32 := constant S_ .f32 0x7F800000#32
  let main_v0 : FVec F S32768x512 .f32 := broadcastInDim S32768x512 ![] bcast_S_S32768x512 main_cst
  let main_v1 : IVec S32768x512 1 := cmpf .olt main_arg2 main_v0
  main_v1
-- ==== Kernel.lean ====
abbrev S32768x512 : Shape := ⟨2, ![32768, 512]⟩
abbrev S32768x1024 : Shape := ⟨2, ![32768, 1024]⟩
abbrev S256 : Shape := ⟨1, ![256]⟩
abbrev S1x256 : Shape := ⟨2, ![1, 256]⟩
abbrev S256x512 : Shape := ⟨2, ![256, 512]⟩
abbrev S256x1024 : Shape := ⟨2, ![256, 1024]⟩
abbrev S4x128x256 : Shape := ⟨3, ![4, 128, 256]⟩
abbrev S256x256 : Shape := ⟨2, ![256, 256]⟩
abbrev S256x128 : Shape := ⟨2, ![256, 128]⟩
abbrev S1x128 : Shape := ⟨2, ![1, 128]⟩
abbrev S64x128 : Shape := ⟨2, ![64, 128]⟩
abbrev S128x256 : Shape := ⟨2, ![128, 256]⟩
abbrev S128x64 : Shape := ⟨2, ![128, 64]⟩
abbrev S64x256 : Shape := ⟨2, ![64, 256]⟩
abbrev S1x128x256 : Shape := ⟨3, ![1, 128, 256]⟩
abbrev S128x1 : Shape := ⟨2, ![128, 1]⟩
abbrev S256x1 : Shape := ⟨2, ![256, 1]⟩

abbrev nBuf : Space → Nat
  | .hbm => 8
  | .vmem => 14
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S32768x1024, .bf16⟩
  | .hbm, ⟨4, _⟩ => ⟨S32768x1024, .f32⟩
  | .hbm, ⟨5, _⟩ => ⟨S256, .f32⟩
  | .hbm, ⟨6, _⟩ => ⟨S1x256, .f32⟩
  | .hbm, ⟨7, _⟩ => ⟨S32768x1024, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .bf16⟩
  | .local _ .vmem, ⟨7, _⟩ => ⟨S256x1024, .bf16⟩
  | .local _ .vmem, ⟨8, _⟩ => ⟨S256x1024, .f32⟩
  | .local _ .vmem, ⟨9, _⟩ => ⟨S256x1024, .f32⟩
  | .local _ .vmem, ⟨10, _⟩ => ⟨S1x256, .f32⟩
  | .local _ .vmem, ⟨11, _⟩ => ⟨S256x1024, .bf16⟩
  | .local _ .vmem, ⟨12, _⟩ => ⟨S256x1024, .bf16⟩
  | .local _ .vmem, ⟨13, _⟩ => ⟨S4x128x256, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S32768x512 : Shape := ⟨2, ![32768, 512]⟩
abbrev S32768x1024 : Shape := ⟨2, ![32768, 1024]⟩
abbrev S256 : Shape := ⟨1, ![256]⟩
abbrev S8x4096x4x128 : Shape := ⟨4, ![8, 4096, 4, 128]⟩
abbrev S8x4096x4x256 : Shape := ⟨4, ![8, 4096, 4, 256]⟩
abbrev S_ : Shape := ⟨0, ![]⟩
abbrev S8x64x64x4x128 : Shape := ⟨5, ![8, 64, 64, 4, 128]⟩
abbrev S8x4x64x64x128 : Shape := ⟨5, ![8, 4, 64, 64, 128]⟩
abbrev S8x64x64x4x256 : Shape := ⟨5, ![8, 64, 64, 4, 256]⟩
abbrev S8x4x64x64x256 : Shape := ⟨5, ![8, 4, 64, 64, 256]⟩
abbrev S8x4x64x1x128 : Shape := ⟨5, ![8, 4, 64, 1, 128]⟩
abbrev S64x64 : Shape := ⟨2, ![64, 64]⟩
abbrev S8x4x64x64x64 : Shape := ⟨5, ![8, 4, 64, 64, 64]⟩
abbrev S8x4x64x128 : Shape := ⟨4, ![8, 4, 64, 128]⟩
abbrev S8x4x128x256 : Shape := ⟨4, ![8, 4, 128, 256]⟩
abbrev S64x8x4x64x128 : Shape := ⟨5, ![64, 8, 4, 64, 128]⟩
abbrev S64x8x4x64x256 : Shape := ⟨5, ![64, 8, 4, 64, 256]⟩
abbrev S64x8x4x128 : Shape := ⟨4, ![64, 8, 4, 128]⟩
abbrev S1x8x4x64x128 : Shape := ⟨5, ![1, 8, 4, 64, 128]⟩
abbrev S1x8x4x64x256 : Shape := ⟨5, ![1, 8, 4, 64, 256]⟩
abbrev S8x4x64x256 : Shape := ⟨4, ![8, 4, 64, 256]⟩
abbrev S1x8x4x128 : Shape := ⟨4, ![1, 8, 4, 128]⟩
abbrev S8x4x128 : Shape := ⟨3, ![8, 4, 128]⟩
abbrev S8x4x128x1 : Shape := ⟨4, ![8, 4, 128, 1]⟩
abbrev S8x4096x4 : Shape := ⟨3, ![8, 4096, 4]⟩
abbrev S8x4096x4x1 : Shape := ⟨4, ![8, 4096, 4, 1]⟩
abbrev S1x1x1x256 : Shape := ⟨4, ![1, 1, 1, 256]⟩

abbrev nBuf : Space → Nat
  | .hbm => 157
  | .vmem => 0
  | .smem => 0
  | _ => 0

abbrev hbmTy0_0 (i : Nat) : BufTy := match i % 128 with
  | 0 => ⟨S32768x512, .f32⟩
  | 1 => ⟨S32768x512, .f32⟩
  | 2 => ⟨S32768x512, .f32⟩
  | 3 => ⟨S32768x1024, .bf16⟩
  | 4 => ⟨S32768x1024, .f32⟩
  | 5 => ⟨S256, .f32⟩
  | 6 => ⟨S8x4096x4x128, .f32⟩
  | 7 => ⟨S8x4096x4x128, .f32⟩
  | 8 => ⟨S32768x1024, .f32⟩
  | 9 => ⟨S8x4096x4x256, .f32⟩
  | 10 => ⟨S8x4096x4x128, .f32⟩
  | 11 => ⟨S_, .f32⟩
  | 12 => ⟨S8x4096x4x128, .f32⟩
  | 13 => ⟨S8x4096x4x128, .f32⟩
  | 14 => ⟨S8x64x64x4x128, .f32⟩
  | 15 => ⟨S8x4x64x64x128, .f32⟩
  | 16 => ⟨S8x64x64x4x128, .f32⟩
  | 17 => ⟨S8x4x64x64x128, .f32⟩
  | 18 => ⟨S8x64x64x4x256, .f32⟩
  | 19 => ⟨S8x4x64x64x256, .f32⟩
  | 20 => ⟨S8x64x64x4x128, .f32⟩
  | 21 => ⟨S8x4x64x64x128, .f32⟩
  | 22 => ⟨S_, .f32⟩
  | 23 => ⟨S_, .f32⟩
  | 24 => ⟨S8x4x64x64x128, .f32⟩
  | 25 => ⟨S8x4x64x1x128, .f32⟩
  | 26 => ⟨S_, .i1⟩
  | 27 => ⟨S64x64, .i1⟩
  | 28 => ⟨S64x64, .i32⟩
  | 29 => ⟨S_, .i32⟩
  | 30 => ⟨S64x64, .i32⟩
  | 31 => ⟨S64x64, .i32⟩
  | 32 => ⟨S64x64, .i32⟩
  | 33 => ⟨S64x64, .i1⟩
  | 34 => ⟨S_, .i1⟩
  | 35 => ⟨S64x64, .i1⟩
  | 36 => ⟨S64x64, .i1⟩
  | 37 => ⟨S8x4x64x64x128, .f32⟩
  | 38 => ⟨S8x4x64x64x128, .f32⟩
  | 39 => ⟨S8x4x64x64x128, .f32⟩
  | 40 => ⟨S8x4x64x64x128, .f32⟩
  | 41 => ⟨S8x4x64x64x128, .f32⟩
  | 42 => ⟨S8x4x64x64x128, .f32⟩
  | 43 => ⟨S8x4x64x64x128, .f32⟩
  | 44 => ⟨S8x4x64x64x128, .f32⟩
  | 45 => ⟨S8x4x64x64x64, .f32⟩
  | 46 => ⟨S_, .f32⟩
  | 47 => ⟨S_, .f32⟩
  | 48 => ⟨S8x4x64x64x64, .i1⟩
  | 49 => ⟨S8x4x64x64x64, .f32⟩
  | 50 => ⟨S8x4x64x64x64, .f32⟩
  | 51 => ⟨S8x4x64x64x256, .f32⟩
  | 52 => ⟨S8x4x64x64x128, .f32⟩
  | 53 => ⟨S8x4x64x64x128, .f32⟩
  | 54 => ⟨S8x4x64x1x128, .f32⟩
  | 55 => ⟨S8x4x64x128, .f32⟩
  | 56 => ⟨S8x4x64x1x128, .f32⟩
  | 57 => ⟨S8x4x64x64x128, .f32⟩
  | 58 => ⟨S8x4x64x64x128, .f32⟩
  | 59 => ⟨S8x4x64x64x128, .f32⟩
  | 60 => ⟨S8x4x64x64x128, .f32⟩
  | 61 => ⟨S_, .f32⟩
  | 62 => ⟨S8x4x128x256, .f32⟩
  | 63 => ⟨S64x8x4x64x128, .f32⟩
  | 64 => ⟨S64x8x4x64x128, .f32⟩
  | 65 => ⟨S64x8x4x64x256, .f32⟩
  | 66 => ⟨S64x8x4x128, .f32⟩
  | 67 => ⟨S64x8x4x64x256, .f32⟩
  | 68 => ⟨S_, .f32⟩
  | 69 => ⟨S64x8x4x64x256, .f32⟩
  | 70 => ⟨S_, .i32⟩
  | 71 => ⟨S64x8x4x64x128, .f32⟩
  | 72 => ⟨S64x8x4x64x128, .f32⟩
  | 73 => ⟨S64x8x4x64x256, .f32⟩
  | 74 => ⟨S64x8x4x128, .f32⟩
  | 75 => ⟨S64x8x4x64x256, .f32⟩
  | 76 => ⟨S_, .i32⟩
  | 77 => ⟨S8x4x128x256, .f32⟩
  | 78 => ⟨S64x8x4x64x256, .f32⟩
  | 79 => ⟨S_, .i32⟩
  | 80 => ⟨S_, .i1⟩
  | 81 => ⟨S_, .i32⟩
  | 82 => ⟨S_, .i32⟩
  | 83 => ⟨S_, .i32⟩
  | 84 => ⟨S_, .i32⟩
  | 85 => ⟨S1x8x4x64x128, .f32⟩
  | 86 => ⟨S8x4x64x128, .f32⟩
  | 87 => ⟨S_, .i32⟩
  | 88 => ⟨S_, .i32⟩
  | 89 => ⟨S_, .i32⟩
  | 90 => ⟨S_, .i32⟩
  | 91 => ⟨S1x8x4x64x128, .f32⟩
  | 92 => ⟨S8x4x64x128, .f32⟩
  | 93 => ⟨S_, .i32⟩
  | 94 => ⟨S_, .i32⟩
  | 95 => ⟨S_, .i32⟩
  | 96 => ⟨S_, .i32⟩
  | 97 => ⟨S1x8x4x64x256, .f32⟩
  | 98 => ⟨S8x4x64x256, .f32⟩
  | 99 => ⟨S_, .i32⟩
  | 100 => ⟨S_, .i32⟩
  | 101 => ⟨S_, .i32⟩
  | 102 => ⟨S1x8x4x128, .f32⟩
  | 103 => ⟨S8x4x128, .f32⟩
  | 104 => ⟨S_, .i32⟩
  | 105 => ⟨S_, .i32⟩
  | 106 => ⟨S_, .i32⟩
  | 107 => ⟨S_, .i32⟩
  | 108 => ⟨S1x8x4x64x256, .f32⟩
  | 109 => ⟨S8x4x64x256, .f32⟩
  | 110 => ⟨S8x4x64x256, .f32⟩
  | 111 => ⟨S8x4x64x256, .f32⟩
  | 112 => ⟨S8x4x128, .f32⟩
  | 113 => ⟨S8x4x128x1, .f32⟩
  | 114 => ⟨S8x4x128x256, .f32⟩
  | 115 => ⟨S8x4x128x256, .f32⟩
  | 116 => ⟨S8x4x128x256, .f32⟩
  | 117 => ⟨S8x4x128x256, .f32⟩
  | 118 => ⟨S1x8x4x64x256, .f32⟩
  | 119 => ⟨S_, .i32⟩
  | 120 => ⟨S_, .i32⟩
  | 121 => ⟨S_, .i32⟩
  | 122 => ⟨S_, .i32⟩
  | 123 => ⟨S64x8x4x64x256, .f32⟩
  | 124 => ⟨S_, .i32⟩
  | 125 => ⟨S_, .i32⟩
  | 126 => ⟨S8x64x64x4x256, .f32⟩
  | 127 => ⟨S8x4096x4x256, .f32⟩
  | _ => ⟨S32768x512, .f32⟩

abbrev hbmTy0_1 (i : Nat) : BufTy := match i % 128 with
  | 0 => ⟨S8x4096x4x256, .f32⟩
  | 1 => ⟨S_, .f32⟩
  | 2 => ⟨S8x4096x4, .f32⟩
  | 3 => ⟨S8x4096x4x1, .f32⟩
  | 4 => ⟨S_, .f32⟩
  | 5 => ⟨S8x4096x4x1, .f32⟩
  | 6 => ⟨S8x4096x4x1, .f32⟩
  | 7 => ⟨S_, .f32⟩
  | 8 => ⟨S8x4096x4x1, .f32⟩
  | 9 => ⟨S8x4096x4x1, .f32⟩
  | 10 => ⟨S8x4096x4x1, .f32⟩
  | 11 => ⟨S8x4096x4x256, .f32⟩
  | 12 => ⟨S8x4096x4x256, .f32⟩
  | 13 => ⟨S1x1x1x256, .f32⟩
  | 14 => ⟨S8x4096x4x256, .f32⟩
  | 15 => ⟨S8x4096x4x256, .f32⟩
  | 16 => ⟨S8x4096x4x256, .f32⟩
  | 17 => ⟨S8x4096x4x256, .f32⟩
  | 18 => ⟨S8x4096x4x256, .f32⟩
  | 19 => ⟨S_, .f32⟩
  | 20 => ⟨S8x4096x4x256, .f32⟩
  | 21 => ⟨S8x4096x4x256, .f32⟩
  | 22 => ⟨S_, .f32⟩
  | 23 => ⟨S8x4096x4x256, .f32⟩
  | 24 => ⟨S8x4096x4x256, .f32⟩
  | 25 => ⟨S8x4096x4x256, .f32⟩
  | 26 => ⟨S8x4096x4x256, .f32⟩
  | 27 => ⟨S32768x1024, .f32⟩
  | 28 => ⟨S32768x1024, .bf16⟩
  | _ => ⟨S32768x512, .f32⟩

abbrev hbmTy (i : Nat) : BufTy := match i / 128 with
  | 0 => hbmTy0_0 i
  | 1 => hbmTy0_1 i
  | _ => ⟨S32768x512, .f32⟩

abbrev bufTy : (tb : Table) → Fin (tcTables nBuf tb) → BufTy
  | .hbm, ⟨i, _⟩ => hbmTy i
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_call0_cst : Ref sig .tc := ⟨.hbm, 22, rfl⟩
abbrev main_call0_call0_v0 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_0 : Ref sig .tc := ⟨.hbm, 34, rfl⟩
abbrev main_call1_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_0 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_1 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_2 : Ref sig .tc := ⟨.hbm, 68, rfl⟩
abbrev main_v45 : Ref sig .tc := ⟨.hbm, 69, rfl⟩
abbrev main_c_3 : Ref sig .tc := ⟨.hbm, 70, rfl⟩
abbrev main_v46_0 : Ref sig .tc := ⟨.hbm, 71, rfl⟩
abbrev main_v46_1 : Ref sig .tc := ⟨.hbm, 72, rfl⟩
abbrev main_v46_2 : Ref sig .tc := ⟨.hbm, 73, rfl⟩
abbrev main_v46_3 : Ref sig .tc := ⟨.hbm, 74, rfl⟩
abbrev main_v46_4 : Ref sig .tc := ⟨.hbm, 75, rfl⟩
abbrev main_v46_5 : Ref sig .tc := ⟨.hbm, 76, rfl⟩
abbrev main_v46_6 : Ref sig .tc := ⟨.hbm, 77, rfl⟩
abbrev main_v46_7 : Ref sig .tc := ⟨.hbm, 78, rfl⟩
abbrev main_while0c_c_14 : Ref sig .tc := ⟨.hbm, 79, rfl⟩
abbrev main_while0c_v67 : Ref sig .tc := ⟨.hbm, 80, rfl⟩
abbrev main_while0b_call3_c : Ref sig .tc := ⟨.hbm, 81, rfl⟩
abbrev main_while0b_call3_c_0 : Ref sig .tc := ⟨.hbm, 82, rfl⟩
abbrev main_while0b_call3_c_1 : Ref sig .tc := ⟨.hbm, 83, rfl⟩
abbrev main_while0b_call3_c_2 : Ref sig .tc := ⟨.hbm, 84, rfl⟩
abbrev main_while0b_call3_v0 : Ref sig .tc := ⟨.hbm, 85, rfl⟩
abbrev main_while0b_v67 : Ref sig .tc := ⟨.hbm, 86, rfl⟩
abbrev main_while0b_call4_c : Ref sig .tc := ⟨.hbm, 87, rfl⟩
abbrev main_while0b_call4_c_0 : Ref sig .tc := ⟨.hbm, 88, rfl⟩
abbrev main_while0b_call4_c_1 : Ref sig .tc := ⟨.hbm, 89, rfl⟩
abbrev main_while0b_call4_c_2 : Ref sig .tc := ⟨.hbm, 90, rfl⟩
abbrev main_while0b_call4_v0 : Ref sig .tc := ⟨.hbm, 91, rfl⟩
abbrev main_while0b_v68 : Ref sig .tc := ⟨.hbm, 92, rfl⟩
abbrev main_while0b_call5_c : Ref sig .tc := ⟨.hbm, 93, rfl⟩
abbrev main_while0b_call5_c_0 : Ref sig .tc := ⟨.hbm, 94, rfl⟩
abbrev main_while0b_call5_c_1 : Ref sig .tc := ⟨.hbm, 95, rfl⟩
abbrev main_while0b_call5_c_2 : Ref sig .tc := ⟨.hbm, 96, rfl⟩
abbrev main_while0b_call5_v0 : Ref sig .tc := ⟨.hbm, 97, rfl⟩
abbrev main_while0b_v69 : Ref sig .tc := ⟨.hbm, 98, rfl⟩
abbrev main_while0b_call6_c : Ref sig .tc := ⟨.hbm, 99, rfl⟩
abbrev main_while0b_call6_c_0 : Ref sig .tc := ⟨.hbm, 100, rfl⟩
abbrev main_while0b_call6_c_1 : Ref sig .tc := ⟨.hbm, 101, rfl⟩
abbrev main_while0b_call6_v0 : Ref sig .tc := ⟨.hbm, 102, rfl⟩
abbrev main_while0b_v70 : Ref sig .tc := ⟨.hbm, 103, rfl⟩
abbrev main_while0b_call7_c : Ref sig .tc := ⟨.hbm, 104, rfl⟩
abbrev main_while0b_call7_c_0 : Ref sig .tc := ⟨.hbm, 105, rfl⟩
abbrev main_while0b_call7_c_1 : Ref sig .tc := ⟨.hbm, 106, rfl⟩
abbrev main_while0b_call7_c_2 : Ref sig .tc := ⟨.hbm, 107, rfl⟩
abbrev main_while0b_call7_v0 : Ref sig .tc := ⟨.hbm, 108, rfl⟩
abbrev main_while0b_v71 : Ref sig .tc := ⟨.hbm, 109, rfl⟩
abbrev main_while0b_v72 : Ref sig .tc := ⟨.hbm, 110, rfl⟩
abbrev main_while0b_v73 : Ref sig .tc := ⟨.hbm, 111, rfl⟩
abbrev main_while0b_v74 : Ref sig .tc := ⟨.hbm, 112, rfl⟩
abbrev main_while0b_v75 : Ref sig .tc := ⟨.hbm, 113, rfl⟩
abbrev main_while0b_v76 : Ref sig .tc := ⟨.hbm, 114, rfl⟩
abbrev main_while0b_v77 : Ref sig .tc := ⟨.hbm, 115, rfl⟩
abbrev main_while0b_v78 : Ref sig .tc := ⟨.hbm, 116, rfl⟩
abbrev main_while0b_v79 : Ref sig .tc := ⟨.hbm, 117, rfl⟩
abbrev main_while0b_call8_v0 : Ref sig .tc := ⟨.hbm, 118, rfl⟩
abbrev main_while0b_call8_c : Ref sig .tc := ⟨.hbm, 119, rfl⟩
abbrev main_while0b_call8_c_0 : Ref sig .tc := ⟨.hbm, 120, rfl⟩
abbrev main_while0b_call8_c_1 : Ref sig .tc := ⟨.hbm, 121, rfl⟩
abbrev main_while0b_call8_c_2 : Ref sig .tc := ⟨.hbm, 122, rfl⟩
abbrev main_while0b_v80 : Ref sig .tc := ⟨.hbm, 123, rfl⟩
abbrev main_while0b_c_14 : Ref sig .tc := ⟨.hbm, 124, rfl⟩
abbrev main_while0b_v81 : Ref sig .tc := ⟨.hbm, 125, rfl⟩
abbrev main_v47 : Ref sig .tc := ⟨.hbm, 126, rfl⟩
abbrev main_v48 : Ref sig .tc := ⟨.hbm, 127, rfl⟩
abbrev main_v49 : Ref sig .tc := ⟨.hbm, 128, rfl⟩
abbrev main_cst_4 : Ref sig .tc := ⟨.hbm, 129, rfl⟩
abbrev main_v50 : Ref sig .tc := ⟨.hbm, 130, rfl⟩
abbrev main_v51 : Ref sig .tc := ⟨.hbm, 131, rfl⟩
abbrev main_cst_5 : Ref sig .tc := ⟨.hbm, 132, rfl⟩
abbrev main_v52 : Ref sig .tc := ⟨.hbm, 133, rfl⟩
abbrev main_v53 : Ref sig .tc := ⟨.hbm, 134, rfl⟩
abbrev main_cst_6 : Ref sig .tc := ⟨.hbm, 135, rfl⟩
abbrev main_v54 : Ref sig .tc := ⟨.hbm, 136, rfl⟩
abbrev main_v55 : Ref sig .tc := ⟨.hbm, 137, rfl⟩
abbrev main_v56 : Ref sig .tc := ⟨.hbm, 138, rfl⟩
abbrev main_v57 : Ref sig .tc := ⟨.hbm, 139, rfl⟩
abbrev main_v58 : Ref sig .tc := ⟨.hbm, 140, rfl⟩
abbrev main_v59 : Ref sig .tc := ⟨.hbm, 141, rfl⟩
abbrev main_v60 : Ref sig .tc := ⟨.hbm, 142, rfl⟩
abbrev main_v61 : Ref sig .tc := ⟨.hbm, 143, rfl⟩
abbrev main_v62 : Ref sig .tc := ⟨.hbm, 144, rfl⟩
abbrev main_call9_v0 : Ref sig .tc := ⟨.hbm, 145, rfl⟩
abbrev main_call9_v1 : Ref sig .tc := ⟨.hbm, 146, rfl⟩
abbrev main_call9_cst : Ref sig .tc := ⟨.hbm, 147, rfl⟩
abbrev main_call9_v2 : Ref sig .tc := ⟨.hbm, 148, rfl⟩
abbrev main_call9_v3 : Ref sig .tc := ⟨.hbm, 149, rfl⟩
abbrev main_call9_cst_0 : Ref sig .tc := ⟨.hbm, 150, rfl⟩
abbrev main_call9_v4 : Ref sig .tc := ⟨.hbm, 151, rfl⟩
abbrev main_call9_v5 : Ref sig .tc := ⟨.hbm, 152, rfl⟩
abbrev main_v63 : Ref sig .tc := ⟨.hbm, 153, rfl⟩
abbrev main_v64 : Ref sig .tc := ⟨.hbm, 154, rfl⟩
abbrev main_v65 : Ref sig .tc := ⟨.hbm, 155, rfl⟩
abbrev main_v66 : Ref sig .tc := ⟨.hbm, 156, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S32768x1024 : Shape := ⟨2, ![32768, 1024]⟩
abbrev S1024x1024 : Shape := ⟨2, ![1024, 1024]⟩
abbrev S1024 : Shape := ⟨1, ![1024]⟩
abbrev S256 : Shape := ⟨1, ![256]⟩
abbrev S2048x1024 : Shape := ⟨2, ![2048, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x5632 : Shape := ⟨2, ![1, 5632]⟩
abbrev S1x1024 : Shape := ⟨2, ![1, 1024]⟩
abbrev S1x256 : Shape := ⟨2, ![1, 256]⟩
abbrev S512x1024 : Shape := ⟨2, ![512, 1024]⟩
abbrev S256x1024 : Shape := ⟨2, ![256, 1024]⟩
abbrev S512x2816 : Shape := ⟨2, ![512, 2816]⟩
abbrev S22x8x256 : Shape := ⟨3, ![22, 8, 256]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x256 : Shape := ⟨2, ![256, 256]⟩
abbrev S1x8x256 : Shape := ⟨3, ![1, 8, 256]⟩
abbrev S8x256 : Shape := ⟨2, ![8, 256]⟩
abbrev S520x256 : Shape := ⟨2, ![520, 256]⟩
abbrev S3x256 : Shape := ⟨2, ![3, 256]⟩

abbrev nBuf : Space → Nat
  | .hbm => 24
  | .vmem => 22
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S256, .f32⟩
  | .hbm, ⟨6, _⟩ => ⟨S2048x1024, .bf16⟩
  | .hbm, ⟨7, _⟩ => ⟨S2048x1024, .bf16⟩
  | .hbm, ⟨8, _⟩ => ⟨S1024x1024, .f32⟩
  | .hbm, ⟨9, _⟩ => ⟨S1024, .f32⟩
  | .hbm, ⟨10, _⟩ => ⟨S1024x5632, .f32⟩
  | .hbm, ⟨11, _⟩ => ⟨S3x5632, .f32⟩
  | .hbm, ⟨12, _⟩ => ⟨S5632, .f32⟩
  | .hbm, ⟨13, _⟩ => ⟨S2816x1024, .f32⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S1024x5632, .bf16⟩
  | .hbm, ⟨18, _⟩ => ⟨S2816x1024, .bf16⟩
  | .hbm, ⟨19, _⟩ => ⟨S1x5632, .f32⟩
  | .hbm, ⟨20, _⟩ => ⟨S1x1024, .f32⟩
  | .hbm, ⟨21, _⟩ => ⟨S1x256, .f32⟩
  | .hbm, ⟨22, _⟩ => ⟨S1x1024, .f32⟩
  | .hbm, ⟨23, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x256, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x5632, .bf16⟩
  | .local _ .vmem, ⟨15, _⟩ => ⟨S3x5632, .f32⟩
  | .local _ .vmem, ⟨16, _⟩ => ⟨S1x5632, .f32⟩
  | .local _ .vmem, ⟨17, _⟩ => ⟨S2816x1024, .bf16⟩
  | .local _ .vmem, ⟨18, _⟩ => ⟨S512x1024, .f32⟩
  | .local _ .vmem, ⟨19, _⟩ => ⟨S512x1024, .f32⟩
  | .local _ .vmem, ⟨20, _⟩ => ⟨S512x2816, .bf16⟩
  | .local _ .vmem, ⟨21, _⟩ => ⟨S22x8x256, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_7 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S32768x1024 : Shape := ⟨2, ![32768, 1024]⟩
abbrev S1024x1024 : Shape := ⟨2, ![1024, 1024]⟩
abbrev S1024 : Shape := ⟨1, ![1024]⟩
abbrev S256 : Shape := ⟨1, ![256]⟩
abbrev S2048x1024 : Shape := ⟨2, ![2048, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x4096x1024 : Shape := ⟨3, ![8, 4096, 1024]⟩
abbrev S8x256x4x256 : Shape := ⟨4, ![8, 256, 4, 256]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4x256 : Shape := ⟨4, ![8, 4096, 4, 256]⟩
abbrev S8x4096x4 : Shape := ⟨3, ![8, 4096, 4]⟩
abbrev S8x4096x4x1 : Shape := ⟨4, ![8, 4096, 4, 1]⟩
abbrev S1x1x1x256 : Shape := ⟨4, ![1, 1, 1, 256]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x256x4096 : Shape := ⟨4, ![8, 4, 256, 4096]⟩
abbrev S8x4096x5632 : Shape := ⟨3, ![8, 4096, 5632]⟩
abbrev S8x4098x5632 : Shape := ⟨3, ![8, 4098, 5632]⟩
abbrev S1x5632 : Shape := ⟨2, ![1, 5632]⟩
abbrev S1x1x5632 : Shape := ⟨3, ![1, 1, 5632]⟩
abbrev S8x4096x2816 : Shape := ⟨3, ![8, 4096, 2816]⟩

abbrev nBuf : Space → Nat
  | .hbm => 138
  | .vmem => 0
  | .smem => 0
  | _ => 0

abbrev hbmTy0_0 (i : Nat) : BufTy := match i % 128 with
  | 0 => ⟨S32768x1024, .f32⟩
  | 1 => ⟨S32768x1024, .bf16⟩
  | 2 => ⟨S1024x1024, .f32⟩
  | 3 => ⟨S1024, .f32⟩
  | 4 => ⟨S1024x1024, .f32⟩
  | 5 => ⟨S256, .f32⟩
  | 6 => ⟨S2048x1024, .bf16⟩
  | 7 => ⟨S2048x1024, .bf16⟩
  | 8 => ⟨S1024x1024, .f32⟩
  | 9 => ⟨S1024, .f32⟩
  | 10 => ⟨S1024x5632, .f32⟩
  | 11 => ⟨S3x5632, .f32⟩
  | 12 => ⟨S5632, .f32⟩
  | 13 => ⟨S2816x1024, .f32⟩
  | 14 => ⟨S8x4096x1024, .f32⟩
  | 15 => ⟨S32768x1024, .f32⟩
  | 16 => ⟨S8x4096x1024, .f32⟩
  | 17 => ⟨S8x4096x1024, .f32⟩
  | 18 => ⟨S8x4096x1024, .f32⟩
  | 19 => ⟨S2048x1024, .f32⟩
  | 20 => ⟨S8x256x4x256, .f32⟩
  | 21 => ⟨S2048x1024, .f32⟩
  | 22 => ⟨S8x256x4x256, .f32⟩
  | 23 => ⟨S8x4096x1024, .f32⟩
  | 24 => ⟨S_, .f32⟩
  | 25 => ⟨S8x4096, .f32⟩
  | 26 => ⟨S8x4096x1, .f32⟩
  | 27 => ⟨S_, .f32⟩
  | 28 => ⟨S8x4096x1, .f32⟩
  | 29 => ⟨S8x4096x1, .f32⟩
  | 30 => ⟨S_, .f32⟩
  | 31 => ⟨S8x4096x1, .f32⟩
  | 32 => ⟨S8x4096x1, .f32⟩
  | 33 => ⟨S8x4096x1, .f32⟩
  | 34 => ⟨S8x4096x1024, .f32⟩
  | 35 => ⟨S8x4096x1024, .f32⟩
  | 36 => ⟨S1x1x1024, .f32⟩
  | 37 => ⟨S8x4096x1024, .f32⟩
  | 38 => ⟨S8x4096x1024, .f32⟩
  | 39 => ⟨S8x4096x1024, .f32⟩
  | 40 => ⟨S8x4096x4x256, .f32⟩
  | 41 => ⟨S8x4096x4x256, .f32⟩
  | 42 => ⟨S_, .f32⟩
  | 43 => ⟨S8x4096x4, .f32⟩
  | 44 => ⟨S8x4096x4x1, .f32⟩
  | 45 => ⟨S_, .f32⟩
  | 46 => ⟨S8x4096x4x1, .f32⟩
  | 47 => ⟨S8x4096x4x1, .f32⟩
  | 48 => ⟨S_, .f32⟩
  | 49 => ⟨S8x4096x4x1, .f32⟩
  | 50 => ⟨S8x4096x4x1, .f32⟩
  | 51 => ⟨S8x4096x4x1, .f32⟩
  | 52 => ⟨S8x4096x4x256, .f32⟩
  | 53 => ⟨S8x4096x4x256, .f32⟩
  | 54 => ⟨S1x1x1x256, .f32⟩
  | 55 => ⟨S8x4096x4x256, .f32⟩
  | 56 => ⟨S8x4096x4x256, .f32⟩
  | 57 => ⟨S8x4x4096x256, .f32⟩
  | 58 => ⟨S_, .f32⟩
  | 59 => ⟨S8x4x4096x256, .f32⟩
  | 60 => ⟨S8x4x4096x256, .f32⟩
  | 61 => ⟨S_, .f32⟩
  | 62 => ⟨S8x4x4096, .f32⟩
  | 63 => ⟨S_, .f32⟩
  | 64 => ⟨S8x4x4096, .f32⟩
  | 65 => ⟨S8x4x4096, .f32⟩
  | 66 => ⟨S8x4x4096x1, .f32⟩
  | 67 => ⟨S8x4x4096x256, .f32⟩
  | 68 => ⟨S8x4x4096x256, .f32⟩
  | 69 => ⟨S8x4x4096x256, .f32⟩
  | 70 => ⟨S_, .f32⟩
  | 71 => ⟨S8x4x4096, .f32⟩
  | 72 => ⟨S8x4x4096x1, .f32⟩
  | 73 => ⟨S8x4x4096x256, .f32⟩
  | 74 => ⟨S8x4x4096x256, .f32⟩
  | 75 => ⟨S8x4x256x4096, .f32⟩
  | 76 => ⟨S8x4096x4x256, .f32⟩
  | 77 => ⟨S8x4096x1024, .f32⟩
  | 78 => ⟨S8x4096x1024, .f32⟩
  | 79 => ⟨S8x4096x1024, .f32⟩
  | 80 => ⟨S8x4096x1024, .f32⟩
  | 81 => ⟨S_, .f32⟩
  | 82 => ⟨S8x4096, .f32⟩
  | 83 => ⟨S8x4096x1, .f32⟩
  | 84 => ⟨S_, .f32⟩
  | 85 => ⟨S8x4096x1, .f32⟩
  | 86 => ⟨S8x4096x1, .f32⟩
  | 87 => ⟨S_, .f32⟩
  | 88 => ⟨S8x4096x1, .f32⟩
  | 89 => ⟨S8x4096x1, .f32⟩
  | 90 => ⟨S8x4096x1, .f32⟩
  | 91 => ⟨S8x4096x1024, .f32⟩
  | 92 => ⟨S8x4096x1024, .f32⟩
  | 93 => ⟨S1x1x1024, .f32⟩
  | 94 => ⟨S8x4096x1024, .f32⟩
  | 95 => ⟨S8x4096x1024, .f32⟩
  | 96 => ⟨S8x4096x5632, .f32⟩
  | 97 => ⟨S_, .i32⟩
  | 98 => ⟨S_, .f32⟩
  | 99 => ⟨S8x4098x5632, .f32⟩
  | 100 => ⟨S1x5632, .f32⟩
  | 101 => ⟨S5632, .f32⟩
  | 102 => ⟨S8x4096x5632, .f32⟩
  | 103 => ⟨S1x1x5632, .f32⟩
  | 104 => ⟨S8x4096x5632, .f32⟩
  | 105 => ⟨S8x4096x5632, .f32⟩
  | 106 => ⟨S1x5632, .f32⟩
  | 107 => ⟨S5632, .f32⟩
  | 108 => ⟨S8x4096x5632, .f32⟩
  | 109 => ⟨S1x1x5632, .f32⟩
  | 110 => ⟨S8x4096x5632, .f32⟩
  | 111 => ⟨S8x4096x5632, .f32⟩
  | 112 => ⟨S8x4096x5632, .f32⟩
  | 113 => ⟨S1x5632, .f32⟩
  | 114 => ⟨S5632, .f32⟩
  | 115 => ⟨S8x4096x5632, .f32⟩
  | 116 => ⟨S1x1x5632, .f32⟩
  | 117 => ⟨S8x4096x5632, .f32⟩
  | 118 => ⟨S8x4096x5632, .f32⟩
  | 119 => ⟨S8x4096x5632, .f32⟩
  | 120 => ⟨S1x1x5632, .f32⟩
  | 121 => ⟨S8x4096x5632, .f32⟩
  | 122 => ⟨S8x4096x5632, .f32⟩
  | 123 => ⟨S8x4096x2816, .f32⟩
  | 124 => ⟨S8x4096x2816, .f32⟩
  | 125 => ⟨S8x4096x2816, .f32⟩
  | 126 => ⟨S8x4096x2816, .f32⟩
  | 127 => ⟨S_, .f32⟩
  | _ => ⟨S32768x1024, .f32⟩

abbrev hbmTy0_1 (i : Nat) : BufTy := match i % 128 with
  | 0 => ⟨S8x4096x2816, .f32⟩
  | 1 => ⟨S8x4096x2816, .f32⟩
  | 2 => ⟨S_, .f32⟩
  | 3 => ⟨S8x4096x2816, .f32⟩
  | 4 => ⟨S8x4096x2816, .f32⟩
  | 5 => ⟨S8x4096x2816, .f32⟩
  | 6 => ⟨S8x4096x2816, .f32⟩
  | 7 => ⟨S8x4096x1024, .f32⟩
  | 8 => ⟨S8x4096x1024, .f32⟩
  | 9 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_9 : Ref sig .tc := ⟨.hbm, 81, rfl⟩
abbrev main_v57 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c : Ref sig .tc := ⟨.hbm, 97, rfl⟩
abbrev main_call0_v0 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_call1_v0 : Ref sig .tc := ⟨.hbm, 125, rfl⟩
abbrev main_call1_v1 : Ref sig .tc := ⟨.hbm, 126, rfl⟩
abbrev main_call1_cst : Ref sig .tc := ⟨.hbm, 127, rfl⟩
abbrev main_call1_v2 : Ref sig .tc := ⟨.hbm, 128, rfl⟩
abbrev main_call1_v3 : Ref sig .tc := ⟨.hbm, 129, rfl⟩
abbrev main_call1_cst_0 : Ref sig .tc := ⟨.hbm, 130, rfl⟩
abbrev main_call1_v4 : Ref sig .tc := ⟨.hbm, 131, rfl⟩
abbrev main_call1_v5 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩

abbrev nD : Nat := 1
abbrev τ : Topo := Topo.v7x

variable {F : FTy → Type} [FloatOps F]
-- ==== Kernel3.lean ====
abbrev S32768x1024 : Shape := ⟨2, ![32768, 1024]⟩
abbrev S1024 : Shape := ⟨1, ![1024]⟩
abbrev S1024x3088 : Shape := ⟨2, ![1024, 3088]⟩
abbrev S16x512 : Shape := ⟨2, ![16, 512]⟩
abbrev S512 : Shape := ⟨1, ![512]⟩
abbrev S_ : Shape := ⟨0, ![]⟩
abbrev S1024x3200 : Shape := ⟨2, ![1024, 3200]⟩
abbrev S128x512 : Shape := ⟨2, ![128, 512]⟩
abbrev S1x512 : Shape := ⟨2, ![1, 512]⟩
abbrev S1x1024 : Shape := ⟨2, ![1, 1024]⟩
abbrev S32768x512 : Shape := ⟨2, ![32768, 512]⟩
abbrev S512x1024 : Shape := ⟨2, ![512, 1024]⟩
abbrev S512x512 : Shape := ⟨2, ![512, 512]⟩
abbrev S512x1 : Shape := ⟨2, ![512, 1]⟩
abbrev S1024x512 : Shape := ⟨2, ![1024, 512]⟩
abbrev S1024x128 : Shape := ⟨2, ![1024, 128]⟩
abbrev S512x128 : Shape := ⟨2, ![512, 128]⟩

abbrev nBuf : Space → Nat
  | .hbm => 20
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3088, .f32⟩
  | .hbm, ⟨3, _⟩ => ⟨S16x512, .f32⟩
  | .hbm, ⟨4, _⟩ => ⟨S512, .f32⟩
  | .hbm, ⟨5, _⟩ => ⟨S_, .i32⟩
  | .hbm, ⟨6, _⟩ => ⟨S_, .f32⟩
  | .hbm, ⟨7, _⟩ => ⟨S1024x3200, .f32⟩
  | .hbm, ⟨8, _⟩ => ⟨S1024x3200, .bf16⟩
  | .hbm, ⟨9, _⟩ => ⟨S_, .i32⟩
  | .hbm, ⟨10, _⟩ => ⟨S_, .f32⟩
  | .hbm, ⟨11, _⟩ => ⟨S128x512, .f32⟩
  | .hbm, ⟨12, _⟩ => ⟨S128x512, .bf16⟩
  | .hbm, ⟨13, _⟩ => ⟨S1x512, .f32⟩
  | .hbm, ⟨14, _⟩ => ⟨S1x1024, .f32⟩
  | .hbm, ⟨15, _⟩ => ⟨S32768x512, .f32⟩
  | .hbm, ⟨16, _⟩ => ⟨S32768x512, .f32⟩
  | .hbm, ⟨17, _⟩ => ⟨S32768x1024, .bf16⟩
  | .hbm, ⟨18, _⟩ => ⟨S32768x1024, .f32⟩
  | .hbm, ⟨19, _⟩ => ⟨S32768x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S128x512, .bf16⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x512, .f32⟩
  | .local _ .vmem, ⟨15, _⟩ => ⟨S512x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S32768x1024 : Shape := ⟨2, ![32768, 1024]⟩
abbrev S1024 : Shape := ⟨1, ![1024]⟩
abbrev S1024x3088 : Shape := ⟨2, ![1024, 3088]⟩
abbrev S16x512 : Shape := ⟨2, ![16, 512]⟩
abbrev S512 : Shape := ⟨1, ![512]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3088 : Shape := ⟨2, ![32768, 3088]⟩
abbrev S32768x512 : Shape := ⟨2, ![32768, 512]⟩
abbrev S32768x16 : Shape := ⟨2, ![32768, 16]⟩
abbrev S1x512 : Shape := ⟨2, ![1, 512]⟩

abbrev nBuf : Space → Nat
  | .hbm => 51
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3088, .f32⟩
  | .hbm, ⟨3, _⟩ => ⟨S16x512, .f32⟩
  | .hbm, ⟨4, _⟩ => ⟨S512, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x3088, .f32⟩
  | .hbm, ⟨22, _⟩ => ⟨S32768x512, .f32⟩
  | .hbm, ⟨23, _⟩ => ⟨S32768x512, .f32⟩
  | .hbm, ⟨24, _⟩ => ⟨S32768x1024, .f32⟩
  | .hbm, ⟨25, _⟩ => ⟨S32768x1024, .f32⟩
  | .hbm, ⟨26, _⟩ => ⟨S32768x16, .f32⟩
  | .hbm, ⟨27, _⟩ => ⟨S32768x512, .f32⟩
  | .hbm, ⟨28, _⟩ => ⟨S1x512, .f32⟩
  | .hbm, ⟨29, _⟩ => ⟨S32768x512, .f32⟩
  | .hbm, ⟨30, _⟩ => ⟨S32768x512, .f32⟩
  | .hbm, ⟨31, _⟩ => ⟨S32768x512, .f32⟩
  | .hbm, ⟨32, _⟩ => ⟨S_, .f32⟩
  | .hbm, ⟨33, _⟩ => ⟨S32768x512, .f32⟩
  | .hbm, ⟨34, _⟩ => ⟨S32768x512, .f32⟩
  | .hbm, ⟨35, _⟩ => ⟨S32768x512, .f32⟩
  | .hbm, ⟨36, _⟩ => ⟨S32768x512, .f32⟩
  | .hbm, ⟨37, _⟩ => ⟨S32768x512, .i1⟩
  | .hbm, ⟨38, _⟩ => ⟨S32768x512, .f32⟩
  | .hbm, ⟨39, _⟩ => ⟨S32768x512, .f32⟩
  | .hbm, ⟨40, _⟩ => ⟨S32768x512, .f32⟩
  | .hbm, ⟨41, _⟩ => ⟨S32768x512, .f32⟩
  | .hbm, ⟨42, _⟩ => ⟨S32768x512, .f32⟩
  | .hbm, ⟨43, _⟩ => ⟨S32768x512, .f32⟩
  | .hbm, ⟨44, _⟩ => ⟨S32768x512, .f32⟩
  | .hbm, ⟨45, _⟩ => ⟨S32768x512, .f32⟩
  | .hbm, ⟨46, _⟩ => ⟨S32768x512, .f32⟩
  | .hbm, ⟨47, _⟩ => ⟨S_, .f32⟩
  | .hbm, ⟨48, _⟩ => ⟨S32768x512, .f32⟩
  | .hbm, ⟨49, _⟩ => ⟨S32768x512, .f32⟩
  | .hbm, ⟨50, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_call0_cst : Ref sig .tc := ⟨.hbm, 32, rfl⟩
abbrev main_call0_call0_v0 : Ref sig .tc := ⟨.hbm, 33, rfl⟩
abbrev main_call0_call0_v1 : Ref sig .tc := ⟨.hbm, 34, rfl⟩
abbrev main_call0_call0_v2 : Ref sig .tc := ⟨.hbm, 35, rfl⟩
abbrev main_call0_call0_v3 : Ref sig .tc := ⟨.hbm, 36, rfl⟩
abbrev main_call0_call0_v4 : Ref sig .tc := ⟨.hbm, 37, rfl⟩
abbrev main_call0_call0_v5 : Ref sig .tc := ⟨.hbm, 38, rfl⟩
abbrev main_call0_call0_v6 : Ref sig .tc := ⟨.hbm, 39, rfl⟩
abbrev main_call0_call0_v7 : Ref sig .tc := ⟨.hbm, 40, rfl⟩
abbrev main_call0_call0_v8 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_v11 : Ref sig .tc := ⟨.hbm, 44, rfl⟩
abbrev main_call0_v1 : Ref sig .tc := ⟨.hbm, 45, rfl⟩
abbrev main_v23 : Ref sig .tc := ⟨.hbm, 46, rfl⟩
abbrev main_cst_2 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩

abbrev nD : Nat := 1
abbrev τ : Topo := Topo.v7x

variable {F : FTy → Type} [FloatOps F]
-- ==== Kernel4.lean ====
abbrev S32768x1024 : Shape := ⟨2, ![32768, 1024]⟩
abbrev S1024 : Shape := ⟨1, ![1024]⟩
abbrev S1024x3592 : Shape := ⟨2, ![1024, 3592]⟩
abbrev S128 : Shape := ⟨1, ![128]⟩
abbrev S1024x2048 : Shape := ⟨2, ![1024, 2048]⟩
abbrev S1024x8 : Shape := ⟨2, ![1024, 8]⟩
abbrev S_ : Shape := ⟨0, ![]⟩
abbrev S1024x128 : Shape := ⟨2, ![1024, 128]⟩
abbrev S1024x1536 : Shape := ⟨2, ![1024, 1536]⟩
abbrev S1024x3712 : Shape := ⟨2, ![1024, 3712]⟩
abbrev S1x128 : Shape := ⟨2, ![1, 128]⟩
abbrev S1x1024 : Shape := ⟨2, ![1, 1024]⟩
abbrev S32768x1536 : Shape := ⟨2, ![32768, 1536]⟩
abbrev S32768x512 : Shape := ⟨2, ![32768, 512]⟩
abbrev S32768x128 : Shape := ⟨2, ![32768, 128]⟩
abbrev S512x1024 : Shape := ⟨2, ![512, 1024]⟩
abbrev S512x1536 : Shape := ⟨2, ![512, 1536]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1024x512 : Shape := ⟨2, ![1024, 512]⟩

abbrev nBuf : Space → Nat
  | .hbm => 22
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3592, .f32⟩
  | .hbm, ⟨3, _⟩ => ⟨S128, .f32⟩
  | .hbm, ⟨4, _⟩ => ⟨S128, .f32⟩
  | .hbm, ⟨5, _⟩ => ⟨S1024x2048, .f32⟩
  | .hbm, ⟨6, _⟩ => ⟨S1024x8, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x1536, .f32⟩
  | .hbm, ⟨11, _⟩ => ⟨S1024x3712, .f32⟩
  | .hbm, ⟨12, _⟩ => ⟨S1024x3712, .bf16⟩
  | .hbm, ⟨13, _⟩ => ⟨S1x128, .f32⟩
  | .hbm, ⟨14, _⟩ => ⟨S1x128, .f32⟩
  | .hbm, ⟨15, _⟩ => ⟨S1x1024, .f32⟩
  | .hbm, ⟨16, _⟩ => ⟨S32768x1536, .f32⟩
  | .hbm, ⟨17, _⟩ => ⟨S32768x512, .f32⟩
  | .hbm, ⟨18, _⟩ => ⟨S32768x128, .f32⟩
  | .hbm, ⟨19, _⟩ => ⟨S32768x512, .bf16⟩
  | .hbm, ⟨20, _⟩ => ⟨S32768x512, .bf16⟩
  | .hbm, ⟨21, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3712, .bf16⟩
  | .local _ .vmem, ⟨4, _⟩ => ⟨S1x128, .f32⟩
  | .local _ .vmem, ⟨5, _⟩ => ⟨S1x128, .f32⟩
  | .local _ .vmem, ⟨6, _⟩ => ⟨S512x1536, .f32⟩
  | .local _ .vmem, ⟨7, _⟩ => ⟨S512x1536, .f32⟩
  | .local _ .vmem, ⟨8, _⟩ => ⟨S512x512, .f32⟩
  | .local _ .vmem, ⟨9, _⟩ => ⟨S512x512, .f32⟩
  | .local _ .vmem, ⟨10, _⟩ => ⟨S512x128, .f32⟩
  | .local _ .vmem, ⟨11, _⟩ => ⟨S512x128, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S32768x1024 : Shape := ⟨2, ![32768, 1024]⟩
abbrev S1024 : Shape := ⟨1, ![1024]⟩
abbrev S1024x3592 : Shape := ⟨2, ![1024, 3592]⟩
abbrev S128 : Shape := ⟨1, ![128]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3592 : Shape := ⟨2, ![32768, 3592]⟩
abbrev S32768x1536 : Shape := ⟨2, ![32768, 1536]⟩
abbrev S32768x512 : Shape := ⟨2, ![32768, 512]⟩
abbrev S32768x8 : Shape := ⟨2, ![32768, 8]⟩
abbrev S32768x4x128 : Shape := ⟨3, ![32768, 4, 128]⟩
abbrev S32768x4 : Shape := ⟨2, ![32768, 4]⟩
abbrev S32768x4x1 : Shape := ⟨3, ![32768, 4, 1]⟩
abbrev S1x1x128 : Shape := ⟨3, ![1, 1, 128]⟩
abbrev S32768x128 : Shape := ⟨2, ![32768, 128]⟩

abbrev nBuf : Space → Nat
  | .hbm => 70
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3592, .f32⟩
  | .hbm, ⟨3, _⟩ => ⟨S128, .f32⟩
  | .hbm, ⟨4, _⟩ => ⟨S128, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x3592, .f32⟩
  | .hbm, ⟨22, _⟩ => ⟨S32768x1536, .f32⟩
  | .hbm, ⟨23, _⟩ => ⟨S32768x512, .f32⟩
  | .hbm, ⟨24, _⟩ => ⟨S32768x8, .f32⟩
  | .hbm, ⟨25, _⟩ => ⟨S32768x512, .f32⟩
  | .hbm, ⟨26, _⟩ => ⟨S32768x512, .f32⟩
  | .hbm, ⟨27, _⟩ => ⟨S32768x512, .f32⟩
  | .hbm, ⟨28, _⟩ => ⟨S32768x4x128, .f32⟩
  | .hbm, ⟨29, _⟩ => ⟨S32768x4x128, .f32⟩
  | .hbm, ⟨30, _⟩ => ⟨S_, .f32⟩
  | .hbm, ⟨31, _⟩ => ⟨S32768x4, .f32⟩
  | .hbm, ⟨32, _⟩ => ⟨S32768x4x1, .f32⟩
  | .hbm, ⟨33, _⟩ => ⟨S_, .f32⟩
  | .hbm, ⟨34, _⟩ => ⟨S32768x4x1, .f32⟩
  | .hbm, ⟨35, _⟩ => ⟨S32768x4x1, .f32⟩
  | .hbm, ⟨36, _⟩ => ⟨S_, .f32⟩
  | .hbm, ⟨37, _⟩ => ⟨S32768x4x1, .f32⟩
  | .hbm, ⟨38, _⟩ => ⟨S32768x4x1, .f32⟩
  | .hbm, ⟨39, _⟩ => ⟨S32768x4x1, .f32⟩
  | .hbm, ⟨40, _⟩ => ⟨S32768x4x128, .f32⟩
  | .hbm, ⟨41, _⟩ => ⟨S32768x4x128, .f32⟩
  | .hbm, ⟨42, _⟩ => ⟨S1x1x128, .f32⟩
  | .hbm, ⟨43, _⟩ => ⟨S32768x4x128, .f32⟩
  | .hbm, ⟨44, _⟩ => ⟨S32768x4x128, .f32⟩
  | .hbm, ⟨45, _⟩ => ⟨S32768x512, .f32⟩
  | .hbm, ⟨46, _⟩ => ⟨S32768x4x128, .f32⟩
  | .hbm, ⟨47, _⟩ => ⟨S32768x4x128, .f32⟩
  | .hbm, ⟨48, _⟩ => ⟨S_, .f32⟩
  | .hbm, ⟨49, _⟩ => ⟨S32768x4, .f32⟩
  | .hbm, ⟨50, _⟩ => ⟨S32768x4x1, .f32⟩
  | .hbm, ⟨51, _⟩ => ⟨S_, .f32⟩
  | .hbm, ⟨52, _⟩ => ⟨S32768x4x1, .f32⟩
  | .hbm, ⟨53, _⟩ => ⟨S32768x4x1, .f32⟩
  | .hbm, ⟨54, _⟩ => ⟨S_, .f32⟩
  | .hbm, ⟨55, _⟩ => ⟨S32768x4x1, .f32⟩
  | .hbm, ⟨56, _⟩ => ⟨S32768x4x1, .f32⟩
  | .hbm, ⟨57, _⟩ => ⟨S32768x4x1, .f32⟩
  | .hbm, ⟨58, _⟩ => ⟨S32768x4x128, .f32⟩
  | .hbm, ⟨59, _⟩ => ⟨S32768x4x128, .f32⟩
  | .hbm, ⟨60, _⟩ => ⟨S1x1x128, .f32⟩
  | .hbm, ⟨61, _⟩ => ⟨S32768x4x128, .f32⟩
  | .hbm, ⟨62, _⟩ => ⟨S32768x4x128, .f32⟩
  | .hbm, ⟨63, _⟩ => ⟨S32768x512, .f32⟩
  | .hbm, ⟨64, _⟩ => ⟨S_, .i32⟩
  | .hbm, ⟨65, _⟩ => ⟨S_, .f32⟩
  | .hbm, ⟨66, _⟩ => ⟨S32768x128, .f32⟩
  | .hbm, ⟨67, _⟩ => ⟨S32768x512, .bf16⟩
  | .hbm, ⟨68, _⟩ => ⟨S32768x512, .bf16⟩
  | .hbm, ⟨69, _⟩ => ⟨S32768x512, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_c : Ref sig .tc := ⟨.hbm, 64, rfl⟩
abbrev main_call0_v0 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩

abbrev nD : Nat := 1
abbrev τ : Topo := Topo.v7x

variable {F : FTy → Type} [FloatOps F]
-- ==== Kernel5.lean ====
abbrev S2048x1024 : Shape := ⟨2, ![2048, 1024]⟩
abbrev S1024 : Shape := ⟨1, ![1024]⟩
abbrev S1024x2048 : Shape := ⟨2, ![1024, 2048]⟩
abbrev S256 : Shape := ⟨1, ![256]⟩
abbrev S1x256 : Shape := ⟨2, ![1, 256]⟩
abbrev S1x1024 : Shape := ⟨2, ![1, 1024]⟩
abbrev S256x1024 : Shape := ⟨2, ![256, 1024]⟩
abbrev S256x1 : Shape := ⟨2, ![256, 1]⟩
abbrev S1024x512 : Shape := ⟨2, ![1024, 512]⟩
abbrev S256x512 : Shape := ⟨2, ![256, 512]⟩
abbrev S256x256 : Shape := ⟨2, ![256, 256]⟩

abbrev nBuf : Space → Nat
  | .hbm => 9
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2048, .f32⟩
  | .hbm, ⟨3, _⟩ => ⟨S256, .f32⟩
  | .hbm, ⟨4, _⟩ => ⟨S1024x2048, .bf16⟩
  | .hbm, ⟨5, _⟩ => ⟨S1x256, .f32⟩
  | .hbm, ⟨6, _⟩ => ⟨S1x1024, .f32⟩
  | .hbm, ⟨7, _⟩ => ⟨S2048x1024, .bf16⟩
  | .hbm, ⟨8, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S1x256, .f32⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S2048x1024 : Shape := ⟨2, ![2048, 1024]⟩
abbrev S1024 : Shape := ⟨1, ![1024]⟩
abbrev S1024x2048 : Shape := ⟨2, ![1024, 2048]⟩
abbrev S256 : Shape := ⟨1, ![256]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2048 : Shape := ⟨2, ![2048, 2048]⟩
abbrev S2048x2x4x256 : Shape := ⟨4, ![2048, 2, 4, 256]⟩
abbrev S2048x1x4x256 : Shape := ⟨4, ![2048, 1, 4, 256]⟩
abbrev S2048x4x256 : Shape := ⟨3, ![2048, 4, 256]⟩
abbrev S2048x4 : Shape := ⟨2, ![2048, 4]⟩
abbrev S2048x4x1 : Shape := ⟨3, ![2048, 4, 1]⟩
abbrev S1x1x256 : Shape := ⟨3, ![1, 1, 256]⟩

abbrev nBuf : Space → Nat
  | .hbm => 46
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2048, .f32⟩
  | .hbm, ⟨3, _⟩ => ⟨S256, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x2048, .f32⟩
  | .hbm, ⟨21, _⟩ => ⟨S2048x2x4x256, .f32⟩
  | .hbm, ⟨22, _⟩ => ⟨S2048x1x4x256, .f32⟩
  | .hbm, ⟨23, _⟩ => ⟨S2048x4x256, .f32⟩
  | .hbm, ⟨24, _⟩ => ⟨S2048x4x256, .f32⟩
  | .hbm, ⟨25, _⟩ => ⟨S_, .f32⟩
  | .hbm, ⟨26, _⟩ => ⟨S2048x4, .f32⟩
  | .hbm, ⟨27, _⟩ => ⟨S2048x4x1, .f32⟩
  | .hbm, ⟨28, _⟩ => ⟨S_, .f32⟩
  | .hbm, ⟨29, _⟩ => ⟨S2048x4x1, .f32⟩
  | .hbm, ⟨30, _⟩ => ⟨S2048x4x1, .f32⟩
  | .hbm, ⟨31, _⟩ => ⟨S_, .f32⟩
  | .hbm, ⟨32, _⟩ => ⟨S2048x4x1, .f32⟩
  | .hbm, ⟨33, _⟩ => ⟨S2048x4x1, .f32⟩
  | .hbm, ⟨34, _⟩ => ⟨S2048x4x1, .f32⟩
  | .hbm, ⟨35, _⟩ => ⟨S2048x4x256, .f32⟩
  | .hbm, ⟨36, _⟩ => ⟨S2048x4x256, .f32⟩
  | .hbm, ⟨37, _⟩ => ⟨S1x1x256, .f32⟩
  | .hbm, ⟨38, _⟩ => ⟨S2048x4x256, .f32⟩
  | .hbm, ⟨39, _⟩ => ⟨S2048x4x256, .f32⟩
  | .hbm, ⟨40, _⟩ => ⟨S2048x1x4x256, .f32⟩
  | .hbm, ⟨41, _⟩ => ⟨S2048x4x256, .f32⟩
  | .hbm, ⟨42, _⟩ => ⟨S2048x1024, .f32⟩
  | .hbm, ⟨43, _⟩ => ⟨S2048x1024, .bf16⟩
  | .hbm, ⟨44, _⟩ => ⟨S2048x1024, .f32⟩
  | .hbm, ⟨45, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Proof.Spec.lean ====
/- The gated linear attention as plain formulas over the extended reals: arrays are functions of a token and a column, a chunk is given by its
   first token, a head by its number. Both programs are read down to these. -/
module

public import Idealize.ShloMosaic.Lib.Pointwise

@[expose] public section

noncomputable section

namespace Cert.Gla

open Idealize.ShloMosaic Finset

/-- A matrix read at two natural numbers, zero outside. -/
def rd {n0 n1 : ℕ} (x : (⟨2, ![n0, n1]⟩ : Shape).Idx → EReal) (a b : ℕ) : EReal :=
  if h : a < n0 ∧ b < n1 then x (ix2 ⟨a, h.1⟩ ⟨b, h.2⟩) else 0

/-- A matrix read inside its bounds. -/
theorem rd_eq {n0 n1 : ℕ} (x : (⟨2, ![n0, n1]⟩ : Shape).Idx → EReal) (a : Fin n0) (b : Fin n1) : rd x a b = x (ix2 a b) := by
  unfold rd
  rw [dif_pos ⟨a.isLt, b.isLt⟩]

/-- A vector read at a natural number, zero outside. -/
def rd1 {n : ℕ} (x : (⟨1, ![n]⟩ : Shape).Idx → EReal) (a : ℕ) : EReal := if h : a < n then x (ix1 ⟨a, h⟩) else 0

/-- A vector read inside its bounds. -/
theorem rd1_eq {n : ℕ} (x : (⟨1, ![n]⟩ : Shape).Idx → EReal) (a : Fin n) : rd1 x a = x (ix1 a) := by
  unfold rd1
  rw [dif_pos a.isLt]

/-- The arguments: queries, keys, gates, values and output gates by token and column, the norm's weights by column. -/
structure Args where
  Q : ℕ → ℕ → EReal
  K : ℕ → ℕ → EReal
  G : ℕ → ℕ → EReal
  V : ℕ → ℕ → EReal
  R : ℕ → ℕ → EReal
  W : ℕ → EReal

/-- The arguments as the formulas take them. -/
def argsOf (q k g : (⟨2, ![32768, 512]⟩ : Shape).Idx → EReal) (v r : (⟨2, ![32768, 1024]⟩ : Shape).Idx → EReal) (w : (⟨1, ![256]⟩ : Shape).Idx → EReal) : Args :=
  ⟨rd q, rd k, rd g, rd v, rd r, rd1 w⟩

/-- A matrix read at the index with the given coordinates. -/
theorem rd_at {n0 n1 : ℕ} (x : (⟨2, ![n0, n1]⟩ : Shape).Idx → EReal) (y : (⟨2, ![n0, n1]⟩ : Shape).Idx) (a b : ℕ) (h0 : ((y 0 : Fin n0) : ℕ) = a)
    (h1 : ((y 1 : Fin n1) : ℕ) = b) : x y = rd x a b := by
  subst h0 h1
  exact (congrArg x (eq_ix2 y)).trans (rd_eq x (y 0 : Fin n0) (y 1 : Fin n1)).symm

/-- The queries' scale, the rounded inverse square root of the head's width. -/
abbrev sc : EReal := Ideal.ofBits .f32 0x3DB504F3#32
/-- A head's width in the values, as a number. -/
abbrev wd : EReal := Ideal.ofBits .f32 0x43800000#32
/-- The norm's guard against division by zero. -/
abbrev eps : EReal := Ideal.ofBits .f32 0x358637BD#32

variable (I : Args) (h s : ℕ)

/-- The gates summed from the chunk's first token to its `i`-th. -/
def cum (i d : ℕ) : EReal := ∑ j ∈ range (i + 1), I.G (s + j) d

/-- The weight of token `j` for token `i` of the same chunk, the gates centred at the chunk's middle. -/
def att (i j : ℕ) : EReal :=
  ∑ κ ∈ range 128, (I.Q (s + i) (128 * h + κ) * sc * Ideal.exp (cum I s i (128 * h + κ) - cum I s 32 (128 * h + κ)))
    * (I.K (s + j) (128 * h + κ) * Ideal.exp (cum I s 32 (128 * h + κ) - cum I s j (128 * h + κ)))

/-- What token `i` gets from the tokens of its own chunk. -/
def intra (i v : ℕ) : EReal := ∑ j ∈ range (i + 1), att I h s i j * I.V (s + j) (256 * h + v)

/-- What a chunk adds to the state. -/
def upd (κ v : ℕ) : EReal :=
  ∑ j ∈ range 64, (I.K (s + j) (128 * h + κ) * Ideal.exp (cum I s 63 (128 * h + κ) - cum I s j (128 * h + κ))) * I.V (s + j) (256 * h + v)

/-- The state after a chunk, of the state before it. -/
def next (S : ℕ → ℕ → EReal) (κ v : ℕ) : EReal := Ideal.exp (cum I s 63 (128 * h + κ)) * S κ v + upd I h s κ v

/-- The state before the `n`-th chunk from `s` on, of the state before the first. -/
def state (S : ℕ → ℕ → EReal) : ℕ → ℕ → ℕ → EReal
  | 0 => S
  | n + 1 => next I h (s + 64 * n) (state S n)

/-- Token `i` of a chunk before the norm: what its own chunk gives plus what the state gives. -/
def mix (S : ℕ → ℕ → EReal) (i v : ℕ) : EReal :=
  intra I h s i v + ∑ κ ∈ range 128, (I.Q (s + i) (128 * h + κ) * sc * Ideal.exp (cum I s i (128 * h + κ))) * S κ v

/-- Token `i` of a chunk in the result: normed, weighted and gated. -/
def fin (S : ℕ → ℕ → EReal) (i v : ℕ) : EReal :=
  mix I h s S i v * Ideal.rsqrt (Ideal.div (∑ w ∈ range 256, mix I h s S i w * mix I h s S i w) wd + eps) * I.W v
    * (I.R (s + i) (256 * h + v) * Ideal.div 1 (1 + Ideal.exp (-I.R (s + i) (256 * h + v))))

/-- Chunks one after the other: the state after `m + n` of them is the state `n` after the state `m`. -/
theorem state_add (S : ℕ → ℕ → EReal) (m n : ℕ) : state I h s S (m + n) = state I h (s + 64 * m) (state I h s S m) n := by
  induction n with
  | zero => rfl
  | succ n ih =>
    show next I h (s + 64 * (m + n)) (state I h s S (m + n)) = next I h (s + 64 * m + 64 * n) _
    rw [ih]
    congr 1
    ring

/-- The result at token `t` and column `c`: the batch starts with the zero state at its first token. -/
def result (t c : ℕ) : EReal :=
  fin I (c / 256) (t / 64 * 64) (state I (c / 256) (t / 4096 * 4096) (fun _ _ => 0) (t % 4096 / 64)) (t % 64) (c % 256)

/-- A sum over a block of four chunks, masked to the tokens of `a`'s chunk up to `a`, is a sum over these tokens. -/
theorem sum_masked (f : ℕ → EReal) (a : ℕ) (ha : a < 256) :
    (∑ b ∈ range 256, if b / 64 = a / 64 ∧ b ≤ a then f b else 0) = ∑ j ∈ range (a % 64 + 1), f (a / 64 * 64 + j) := by
  rw [← Finset.sum_filter]
  symm
  refine Finset.sum_bij (fun j _ => a / 64 * 64 + j) ?_ ?_ ?_ ?_
  · intro j hj
    simp only [mem_range, mem_filter] at hj ⊢
    omega
  · intro j _ j' _ h
    omega
  · intro b hb
    simp only [mem_range, mem_filter] at hb
    refine ⟨b - a / 64 * 64, ?_, ?_⟩
    · simp only [mem_range]
      omega
    · show a / 64 * 64 + (b - a / 64 * 64) = b
      omega
  · intro j _
    rfl

end Cert.Gla

end
-- ==== Proof.Head.lean ====
/- One head of the kernel over one block of 256 tokens: four chunks of 64, worked off in the block, the state handed from one to the next.
   The kernel's four heads are the same operations under different names; this module names one of them and reads it. -/
module

public import proofs.«01_k».proof.Proof.Spec
public import proofs.«01_k».proof.Proof.Gen.KernelIdeal.Skeleton

@[expose] public section

noncomputable section

namespace Cert.Gla

open Idealize.ShloMosaic Finset Cert.KernelIdeal Cert.KernelIdeal.Gen

/-- Within the block: the outputs from the tokens' own chunks. -/
def hIntra (w : IVec S256x256 1) (bc q k : FVec Ideal S256x128 .f32) (v : FVec Ideal S256x256 .bf16) : FVec Ideal S256x256 .f32 :=
  k0_pay33 w v (k0_pay29 bc (k0_pay17 bc) (k0_pay25 q) k)

/-- The keys faded to the end of their chunk, transposed. -/
def hKeys (bc k : FVec Ideal S256x128 .f32) : FVec Ideal S128x256 .bf16 := k0_pay37 bc (k0_pay23 bc) k

/-- What each of the block's chunks adds to the state. -/
def hUpd0 (bc k : FVec Ideal S256x128 .f32) (v : FVec Ideal S256x256 .bf16) : FVec Ideal S128x256 .f32 := k0_pay49 v (hKeys bc k)
@[inherit_doc hUpd0] def hUpd1 (bc k : FVec Ideal S256x128 .f32) (v : FVec Ideal S256x256 .bf16) : FVec Ideal S128x256 .f32 := k0_pay50 v (hKeys bc k)
@[inherit_doc hUpd0] def hUpd2 (bc k : FVec Ideal S256x128 .f32) (v : FVec Ideal S256x256 .bf16) : FVec Ideal S128x256 .f32 := k0_pay51 v (hKeys bc k)
@[inherit_doc hUpd0] def hUpd3 (bc k : FVec Ideal S256x128 .f32) (v : FVec Ideal S256x256 .bf16) : FVec Ideal S128x256 .f32 := k0_pay52 v (hKeys bc k)

/-- The state the block leaves. -/
def hState (bc k : FVec Ideal S256x128 .f32) (v : FVec Ideal S256x256 .bf16) (s : FVec Ideal S1x128x256 .f32) : FVec Ideal S1x128x256 .f32 :=
  k0_pay75 (k0_pay41 bc) (hUpd0 bc k v) (hUpd1 bc k v) (hUpd2 bc k v) (hUpd3 bc k v) s

/-- The block's result. -/
def hOut (w : IVec S256x256 1) (g : FVec Ideal S1x256 .f32) (bc q k : FVec Ideal S256x128 .f32) (v : FVec Ideal S256x256 .bf16) (r : FVec Ideal S256x256 .f32)
    (s : FVec Ideal S1x128x256 .f32) : FVec Ideal S256x256 .bf16 :=
  k0_pay106 (k0_pay2 g)
    (k0_pay104 (hIntra w bc q k v) (k0_pay45 bc (k0_pay25 q)) (k0_pay68 s) (k0_pay70 (k0_pay41 bc) (hUpd0 bc k v) s)
      (k0_pay72 (k0_pay41 bc) (hUpd0 bc k v) (hUpd1 bc k v) s) (k0_pay74 (k0_pay41 bc) (hUpd0 bc k v) (hUpd1 bc k v) (hUpd2 bc k v) s))
    (k0_pay105 (hIntra w bc q k v) (k0_pay45 bc (k0_pay25 q)) (k0_pay68 s) (k0_pay70 (k0_pay41 bc) (hUpd0 bc k v) s)
      (k0_pay72 (k0_pay41 bc) (hUpd0 bc k v) (hUpd1 bc k v) s) (k0_pay74 (k0_pay41 bc) (hUpd0 bc k v) (hUpd1 bc k v) (hUpd2 bc k v) s)) r

/-- The block holds head `h` of the tokens from `T` on: the gates summed chunk by chunk, queries, keys, values and output gates as they are. -/
structure HeadAt (I : Args) (h T : ℕ) (bc q k : FVec Ideal S256x128 .f32) (v : FVec Ideal S256x256 .bf16) : Prop where
  bc : ∀ (a : Fin 256) (κ : Fin 128), bc (ix2 a κ) = cum I (T + a / 64 * 64) (a % 64) (128 * h + κ)
  q : ∀ (a : Fin 256) (κ : Fin 128), q (ix2 a κ) = I.Q (T + a) (128 * h + κ)
  k : ∀ (a : Fin 256) (κ : Fin 128), k (ix2 a κ) = I.K (T + a) (128 * h + κ)
  v : ∀ (a : Fin 256) (e : Fin 256), v (ix2 a e) = I.V (T + a) (256 * h + e)

/-- The mask of the block: a token and the earlier ones of its chunk. -/
def Mask (w : IVec S256x256 1) : Prop := ∀ a b : Fin 256, w (ix2 a b) = if (b : ℕ) / 64 = a / 64 ∧ (b : ℕ) ≤ a then 1#1 else 0#1

variable {I : Args} {h T : ℕ} {bc q k : FVec Ideal S256x128 .f32} {v : FVec Ideal S256x256 .bf16} {w : IVec S256x256 1}

/-- The middle row of the token's chunk. -/
theorem mid_apply (bc : FVec Ideal S256x128 .f32) (a : Fin 256) (κ : Fin 128) :
    k0_pay17 (F := Ideal) bc (ix2 a κ) = bc (ix2 ⟨a / 64 * 64 + 32, by omega⟩ κ) := by
  pointwise [k0_pay17]
  split_ifs <;> (congr 2; ext; simp; omega)

/-- The last row of the token's chunk. -/
theorem last_apply (bc : FVec Ideal S256x128 .f32) (a : Fin 256) (κ : Fin 128) :
    k0_pay23 (F := Ideal) bc (ix2 a κ) = bc (ix2 ⟨a / 64 * 64 + 63, by omega⟩ κ) := by
  pointwise [k0_pay23]
  split_ifs <;> (congr 2; ext; simp; omega)

/-- The weights, within one chunk. -/
theorem att_apply (H : HeadAt I h T bc q k v) (a b : Fin 256) (hab : (b : ℕ) / 64 = a / 64) :
    k0_pay29 (F := Ideal) bc (k0_pay17 bc) (k0_pay25 q) k (ix2 a b) = att I h (T + a / 64 * 64) (a % 64) (b % 64) := by
  pointwise [k0_pay29, k0_pay25]
  unfold att
  rw [Finset.sum_range]
  refine Finset.sum_congr rfl fun κ _ => ?_
  simp only [mid_apply, H.bc, H.q, H.k]
  rw [show T + a / 64 * 64 + a % 64 = T + a by omega, show T + a / 64 * 64 + b % 64 = T + b by omega, hab,
    show ((a : ℕ) / 64 * 64 + 32) / 64 = a / 64 by omega, show ((a : ℕ) / 64 * 64 + 32) % 64 = 32 by omega]

/-- The output from the token's own chunk. -/
theorem hIntra_apply (H : HeadAt I h T bc q k v) (hw : Mask w) (a e : Fin 256) :
    hIntra w bc q k v (ix2 a e) = intra I h (T + a / 64 * 64) (a % 64) e := by
  unfold hIntra
  pointwise [k0_pay33]
  unfold intra
  have e1 : ∀ x : Fin 256, Scalar.select (w (ix2 a x)) (k0_pay29 (F := Ideal) bc (k0_pay17 bc) (k0_pay25 q) k (ix2 a x) * v (ix2 x e)) (0 : EReal)
      = (fun b : ℕ => if b / 64 = a / 64 ∧ b ≤ a then att I h (T + a / 64 * 64) (a % 64) (b % 64) * I.V (T + b) (256 * h + e) else 0) x := by
    intro x
    rw [hw a x]
    dsimp only
    by_cases hx : (x : ℕ) / 64 = a / 64 ∧ (x : ℕ) ≤ a
    · rw [if_pos hx, if_pos hx, att_apply H a x hx.1, H.v]
      rfl
    · rw [if_neg hx, if_neg hx]
      rfl
  rw [Finset.sum_congr rfl fun x _ => e1 x]
  refine Eq.trans (Finset.sum_range (n := 256) (fun b : ℕ => if b / 64 = a / 64 ∧ b ≤ a then
    att I h (T + a / 64 * 64) (a % 64) (b % 64) * I.V (T + b) (256 * h + e) else 0)).symm ?_
  rw [sum_masked (fun b => att I h (T + a / 64 * 64) (a % 64) (b % 64) * I.V (T + b) (256 * h + e)) a a.isLt]
  refine Finset.sum_congr rfl fun j hj => ?_
  rw [mem_range] at hj
  rw [show ((a : ℕ) / 64 * 64 + j) % 64 = j by omega, ← Nat.add_assoc T]

/-- The keys faded to the chunk's end. -/
theorem hKeys_apply (H : HeadAt I h T bc q k v) (κ : Fin 128) (b : Fin 256) (n j : ℕ) (hb : (b : ℕ) = 64 * n + j) (hj : j < 64) :
    hKeys bc k (ix2 κ b) = I.K (T + 64 * n + j) (128 * h + κ) * Ideal.exp (cum I (T + 64 * n) 63 (128 * h + κ) - cum I (T + 64 * n) j (128 * h + κ)) := by
  unfold hKeys
  pointwise [k0_pay37]
  rw [last_apply, H.k, H.bc, H.bc]
  dsimp only
  rw [show ((b : ℕ) / 64 * 64 + 63) / 64 * 64 = 64 * n by omega, show ((b : ℕ) / 64 * 64 + 63) % 64 = 63 by omega,
    show (b : ℕ) / 64 * 64 = 64 * n by omega, show (b : ℕ) % 64 = j by omega, hb, Nat.add_assoc]

/-- A sum over a chunk of the block, read as what the chunk adds. -/
theorem upd_of (H : HeadAt I h T bc q k v) (κ : Fin 128) (e : Fin 256) (n : ℕ) (f : Fin 64 → Fin 256) (hf : ∀ j, (f j : ℕ) = 64 * n + j) :
    (∑ j : Fin 64, hKeys bc k (ix2 κ (f j)) * v (ix2 (f j) e)) = upd I h (T + 64 * n) κ e := by
  unfold upd
  rw [Finset.sum_range]
  refine Finset.sum_congr rfl fun j _ => ?_
  rw [hKeys_apply H κ (f j) n j (hf j) j.isLt, H.v, hf j, Nat.add_assoc]

theorem hUpd0_apply (H : HeadAt I h T bc q k v) (κ : Fin 128) (e : Fin 256) : hUpd0 bc k v (ix2 κ e) = upd I h (T + 64 * 0) κ e := by
  unfold hUpd0
  pointwise [k0_pay49]
  exact upd_of H κ e 0 _ fun j => by simp
theorem hUpd1_apply (H : HeadAt I h T bc q k v) (κ : Fin 128) (e : Fin 256) : hUpd1 bc k v (ix2 κ e) = upd I h (T + 64 * 1) κ e := by
  unfold hUpd1
  pointwise [k0_pay50]
  exact upd_of H κ e 1 _ fun j => by simp
theorem hUpd2_apply (H : HeadAt I h T bc q k v) (κ : Fin 128) (e : Fin 256) : hUpd2 bc k v (ix2 κ e) = upd I h (T + 64 * 2) κ e := by
  unfold hUpd2
  pointwise [k0_pay51]
  exact upd_of H κ e 2 _ fun j => by simp
theorem hUpd3_apply (H : HeadAt I h T bc q k v) (κ : Fin 128) (e : Fin 256) : hUpd3 bc k v (ix2 κ e) = upd I h (T + 64 * 3) κ e := by
  unfold hUpd3
  pointwise [k0_pay52]
  exact upd_of H κ e 3 _ fun j => by simp

variable {s : FVec Ideal S1x128x256 .f32} {S : ℕ → ℕ → EReal}

/-- The summed gates at a chunk's end, by key column. -/
theorem bct_apply (H : HeadAt I h T bc q k v) (κ : Fin 128) (b : Fin 256) (n : ℕ) (hb : (b : ℕ) = 64 * n + 63) :
    k0_pay41 (F := Ideal) bc (ix2 κ b) = cum I (T + 64 * n) 63 (128 * h + κ) := by
  pointwise [k0_pay41]
  rw [H.bc, show (b : ℕ) / 64 * 64 = 64 * n by omega, show (b : ℕ) % 64 = 63 by omega]

variable (H : HeadAt I h T bc q k v) (hs : ∀ (κ : Fin 128) (e : Fin 256), s (ix3 0 κ e) = S κ e)
include H hs

theorem snap0_apply (κ : Fin 128) (e : Fin 256) : k0_pay68 (F := Ideal) s (ix2 κ e) = state I h T S 0 κ e := by
  pointwise [k0_pay68, k0_pay67]
  exact hs κ e
theorem snap1_apply (κ : Fin 128) (e : Fin 256) : k0_pay70 (F := Ideal) (k0_pay41 bc) (hUpd0 bc k v) s (ix2 κ e) = state I h T S 1 κ e := by
  pointwise [k0_pay70, k0_pay69, k0_pay67]
  rw [hUpd0_apply H, bct_apply H κ 63 0 rfl, hs]
  rfl
theorem snap2_apply (κ : Fin 128) (e : Fin 256) : k0_pay72 (F := Ideal) (k0_pay41 bc) (hUpd0 bc k v) (hUpd1 bc k v) s (ix2 κ e) = state I h T S 2 κ e := by
  pointwise [k0_pay72, k0_pay71, k0_pay69, k0_pay67]
  rw [hUpd0_apply H, hUpd1_apply H, bct_apply H κ 63 0 rfl, bct_apply H κ 127 1 rfl, hs]
  rfl
theorem snap3_apply (κ : Fin 128) (e : Fin 256) :
    k0_pay74 (F := Ideal) (k0_pay41 bc) (hUpd0 bc k v) (hUpd1 bc k v) (hUpd2 bc k v) s (ix2 κ e) = state I h T S 3 κ e := by
  pointwise [k0_pay74, k0_pay73, k0_pay71, k0_pay69, k0_pay67]
  rw [hUpd0_apply H, hUpd1_apply H, hUpd2_apply H, bct_apply H κ 63 0 rfl, bct_apply H κ 127 1 rfl, bct_apply H κ 191 2 rfl, hs]
  rfl

/-- The state the block leaves is the state four chunks on. -/
theorem hState_apply (κ : Fin 128) (e : Fin 256) : hState bc k v s (ix3 0 κ e) = state I h T S 4 κ e := by
  unfold hState
  pointwise [k0_pay75, k0_pay73, k0_pay71, k0_pay69, k0_pay67]
  rw [hUpd0_apply H, hUpd1_apply H, hUpd2_apply H, hUpd3_apply H, bct_apply H κ 63 0 rfl, bct_apply H κ 127 1 rfl, bct_apply H κ 191 2 rfl,
    bct_apply H κ 255 3 rfl, hs]
  rfl

/-- A row of the scaled, faded queries against a state. -/
theorem inter_of (a a' : Fin 256) (e : Fin 256) (n : ℕ) (x : FVec Ideal S128x256 .bf16) (haa : (a' : ℕ) = a)
    (hx : ∀ κ e, x (ix2 κ e) = state I h T S n κ e) (han : (a : ℕ) / 64 = n) :
    (∑ κ : Fin 128, k0_pay45 (F := Ideal) bc (k0_pay25 q) (ix2 a' κ) * x (ix2 κ e))
      = ∑ κ ∈ range 128, (I.Q (T + a / 64 * 64 + a % 64) (128 * h + κ) * sc * Ideal.exp (cum I (T + a / 64 * 64) (a % 64) (128 * h + κ))) * state I h T S (a / 64) κ e := by
  obtain rfl : a' = a := Fin.ext haa
  subst han
  rw [Finset.sum_range]
  refine Finset.sum_congr rfl fun κ _ => ?_
  pointwise [k0_pay45, k0_pay25]
  rw [hx, H.q, H.bc, show T + (a' : ℕ) / 64 * 64 + a' % 64 = T + a' by omega]

/-- The block before the norm. -/
theorem mix_apply (hw : Mask w) (a e : Fin 256) :
    k0_pay104 (F := Ideal) (hIntra w bc q k v) (k0_pay45 bc (k0_pay25 q)) (k0_pay68 s) (k0_pay70 (k0_pay41 bc) (hUpd0 bc k v) s)
      (k0_pay72 (k0_pay41 bc) (hUpd0 bc k v) (hUpd1 bc k v) s) (k0_pay74 (k0_pay41 bc) (hUpd0 bc k v) (hUpd1 bc k v) (hUpd2 bc k v) s) (ix2 a e)
      = mix I h (T + a / 64 * 64) (state I h T S (a / 64)) (a % 64) e := by
  pointwise [k0_pay104]
  rw [hIntra_apply H hw]
  unfold mix
  congr 1
  have a256 := a.isLt
  by_cases h0 : (a : ℕ) < 64
  · rw [dif_pos h0]
    have e0 := inter_of H hs a a e 0 _ rfl (snap0_apply H hs) (by omega)
    exact e0
  rw [dif_neg h0]
  by_cases h1 : (a : ℕ) - 64 < 64
  · rw [dif_pos h1]
    have e1 := inter_of H hs a ⟨64 + ((a : ℕ) - 64), by omega⟩ e 1 _ (by dsimp only; omega) (snap1_apply H hs) (by omega)
    exact e1
  rw [dif_neg h1]
  by_cases h2 : (a : ℕ) - 64 - 64 < 64
  · rw [dif_pos h2]
    have e2 := inter_of H hs a ⟨128 + ((a : ℕ) - 64 - 64), by omega⟩ e 2 _ (by dsimp only; omega) (snap2_apply H hs) (by omega)
    exact e2
  · rw [dif_neg h2]
    have e3 := inter_of H hs a ⟨192 + ((a : ℕ) - 64 - 64 - 64), by omega⟩ e 3 _ (by dsimp only; omega) (snap3_apply H hs) (by omega)
    exact e3

/-- The block's result is the attention's, the state before token `a`'s chunk being the block's after `a / 64` chunks. -/
theorem hOut_apply {g : FVec Ideal S1x256 .f32} {r : FVec Ideal S256x256 .f32} (hw : Mask w) (hg : ∀ e : Fin 256, g (ix2 0 e) = I.W e)
    (hr : ∀ a e : Fin 256, r (ix2 a e) = I.R (T + a) (256 * h + e)) (a e : Fin 256) :
    hOut w g bc q k v r s (ix2 a e) = fin I h (T + a / 64 * 64) (state I h T S (a / 64)) (a % 64) e := by
  unfold hOut
  pointwise [k0_pay106, k0_pay105, k0_pay2]
  simp only [mix_apply H hs hw, hg, hr]
  unfold fin
  rw [Finset.sum_range, zero_sub, show T + (a : ℕ) / 64 * 64 + a % 64 = T + a by omega]

end Cert.Gla

end
-- ==== Proof.Words.lean ====
/- The kernel's integer words: the mask "a token and the earlier ones of its chunk", computed on row and column numbers, and the gates summed with it. -/
module

public import proofs.«01_k».proof.Proof.Head

@[expose] public section

noncomputable section

namespace Cert.Gla

open Idealize.ShloMosaic Finset Cert.KernelIdeal Cert.KernelIdeal.Gen

/-- A row number divided by 64 and rounded down, in words: the truncated quotient, corrected where signs differ (never here). -/
theorem floor_word : ∀ a : Fin 256,
    Scalar.select
      (IntOp.andi
        (IntOp.cmpi CmpIPredicate.ne
          (IntOp.subi (BitVec.setWidth 32 (IntOp.cmpi CmpIPredicate.sgt (BitVec.ofNat 32 (a : ℕ)) 0#32))
            (BitVec.setWidth 32 (IntOp.cmpi CmpIPredicate.slt (BitVec.ofNat 32 (a : ℕ)) 0#32)))
          (Scalar.subi (Scalar.extui (Scalar.cmpi CmpIPredicate.sgt 64#32 0#32)) (Scalar.extui (Scalar.cmpi CmpIPredicate.slt 64#32 0#32))))
        (IntOp.cmpi CmpIPredicate.ne (IntOp.remsi ArithUnit.vector (BitVec.ofNat 32 (a : ℕ)) 64#32) 0#32))
      (IntOp.subi (IntOp.divsi ArithUnit.vector (BitVec.ofNat 32 (a : ℕ)) 64#32) 1#32)
      (IntOp.divsi ArithUnit.vector (BitVec.ofNat 32 (a : ℕ)) 64#32) = BitVec.ofNat 32 ((a : ℕ) / 64) := by
  decide +kernel

/-- The divisor's sign, in words. -/
theorem sign_word : Scalar.subi (1#32) (Scalar.extui (Scalar.cmpi CmpIPredicate.slt 64#32 0#32))
    = Scalar.subi (Scalar.extui (Scalar.cmpi CmpIPredicate.sgt 64#32 0#32)) (Scalar.extui (Scalar.cmpi CmpIPredicate.slt 64#32 0#32)) := by
  decide +kernel

/-- Chunk numbers compared, in words. -/
theorem eq_word : ∀ p q : Fin 4, IntOp.cmpi CmpIPredicate.eq (BitVec.ofNat 32 (p : ℕ)) (BitVec.ofNat 32 (q : ℕ)) = if (q : ℕ) = p then 1#1 else 0#1 := by
  decide +kernel

/-- Token numbers compared, in words. -/
theorem le_word : ∀ a b : Fin 256, IntOp.cmpi CmpIPredicate.sle (BitVec.ofNat 32 (b : ℕ)) (BitVec.ofNat 32 (a : ℕ)) = if (b : ℕ) ≤ a then 1#1 else 0#1 := by
  decide +kernel

/-- Same chunk and not later, in words. -/
theorem and_word (a b : Fin 256) :
    IntOp.andi (IntOp.cmpi CmpIPredicate.eq (BitVec.ofNat 32 ((a : ℕ) / 64)) (BitVec.ofNat 32 ((b : ℕ) / 64)))
      (IntOp.cmpi CmpIPredicate.sle (BitVec.ofNat 32 (b : ℕ)) (BitVec.ofNat 32 (a : ℕ))) = if (b : ℕ) / 64 = a / 64 ∧ (b : ℕ) ≤ a then 1#1 else 0#1 := by
  rw [le_word, show IntOp.cmpi CmpIPredicate.eq (BitVec.ofNat 32 ((a : ℕ) / 64)) (BitVec.ofNat 32 ((b : ℕ) / 64)) = if (b : ℕ) / 64 = (a : ℕ) / 64 then 1#1 else 0#1
    from eq_word ⟨a / 64, by omega⟩ ⟨b / 64, by omega⟩]
  by_cases h1 : (b : ℕ) / 64 = a / 64
  · by_cases h2 : (b : ℕ) ≤ a
    · rw [if_pos h1, if_pos h2, if_pos ⟨h1, h2⟩]; rfl
    · rw [if_pos h1, if_neg h2, if_neg fun h => h2 h.2]; rfl
  · by_cases h2 : (b : ℕ) ≤ a
    · rw [if_neg h1, if_pos h2, if_neg fun h => h1 h.1]; rfl
    · rw [if_neg h1, if_neg h2, if_neg fun h => h1 h.1]; rfl

/-- The kernel's causal mask. -/
abbrev mask : IVec S256x256 1 :=
  k0_pay9 (iota Kind.tc S256x256 32 [0] iota_S256x256_d0_w32) (iota Kind.tc S256x256 32 [1] iota_S256x256_d1_w32) 64#32 k0_pay7 k0_pay8 1#32

theorem mask_ok : Mask mask := by
  intro a b
  pointwise [k0_pay9, k0_pay7, k0_pay8]
  rw [sign_word, floor_word, floor_word, and_word]

/-- The gates summed chunk by chunk, as the kernel writes it: the mask times the gates, the gates in three roundings. -/
abbrev sums (g : FVec Ideal S256x512 .f32) : FVec Ideal S256x512 .f32 :=
  k0_pay6 (iota Kind.tc S256x256 32 [0] iota_S256x256_d0_w32) (iota Kind.tc S256x256 32 [1] iota_S256x256_d1_w32) k0_pay3 64#32 k0_pay4 k0_pay5 1#32 g

/-- A value below infinity is the sum of its three parts. -/
theorem parts {x : EReal} (hx : x < ⊤) : x + (x - x) + (x - x - (x - x)) = x := by
  induction x using EReal.rec with
  | bot => rfl
  | coe r => simp [← EReal.coe_sub]
  | top => exact absurd hx (lt_irrefl _)

theorem sums_apply {I : Args} {T : ℕ} (g : FVec Ideal S256x512 .f32) (hg : ∀ (a : Fin 256) (d : Fin 512), g (ix2 a d) = I.G (T + a) d)
    (hf : ∀ (a : Fin 256) (d : Fin 512), g (ix2 a d) < ⊤) (a : Fin 256) (d : Fin 512) :
    sums g (ix2 a d) = cum I (T + a / 64 * 64) (a % 64) d := by
  pointwise [k0_pay6, k0_pay3, k0_pay4, k0_pay5]
  simp only [sign_word, floor_word, and_word]
  rw [← Finset.sum_add_distrib, ← Finset.sum_add_distrib]
  have e1 : ∀ x : Fin 256,
      Scalar.select (if (x : ℕ) / 64 = a / 64 ∧ (x : ℕ) ≤ a then 1#1 else 0#1) (g (ix2 x d)) (0 : EReal)
        + Scalar.select (if (x : ℕ) / 64 = a / 64 ∧ (x : ℕ) ≤ a then 1#1 else 0#1) (g (ix2 x d) - g (ix2 x d)) (0 : EReal)
        + Scalar.select (if (x : ℕ) / 64 = a / 64 ∧ (x : ℕ) ≤ a then 1#1 else 0#1) (g (ix2 x d) - g (ix2 x d) - (g (ix2 x d) - g (ix2 x d))) (0 : EReal)
      = (fun b : ℕ => if b / 64 = a / 64 ∧ b ≤ a then I.G (T + b) d else 0) x := by
    intro x
    dsimp only
    by_cases hx : (x : ℕ) / 64 = a / 64 ∧ (x : ℕ) ≤ a
    · rw [if_pos hx, if_pos hx]
      exact (parts (hf x d)).trans (hg x d)
    · rw [if_neg hx, if_neg hx]
      show (0 : EReal) + 0 + 0 = 0
      simp
  refine (Finset.sum_congr rfl fun x _ => e1 x).trans ?_
  refine Eq.trans (Finset.sum_range (n := 256) (fun b : ℕ => if b / 64 = a / 64 ∧ b ≤ a then I.G (T + b) d else 0)).symm ?_
  rw [sum_masked (fun b => I.G (T + b) d) a a.isLt]
  unfold cum
  exact Finset.sum_congr rfl fun j _ => by rw [Nat.add_assoc]

end Cert.Gla

end
-- ==== Proof.Block.lean ====
/- One grid point of the kernel: what its body leaves in the result's block and in the carried state, read from the input blocks and the state before. -/
module

public import proofs.«01_k».proof.Proof.Words
public import proofs.«01_k».proof.Proof.Gen.KernelIdeal.Frame
public import Idealize.ShloMosaic.Lib.Pipeline.Value
public import Idealize.ShloMosaic.Lib.Pipeline.ValueKit.Tiles
public import Idealize.ShloMosaic.Lib.Tactic

@[expose] public section

noncomputable section

namespace Cert.Gla

open Idealize.ShloMosaic Finset Cert.KernelIdeal Cert.KernelIdeal.Gen

/-- The input blocks hold the tokens from `T` on. -/
structure BlockAt (I : Args) (T : ℕ) (x0 x1 x2 : Vec Ideal S256x512 .f32) (x3 : Vec Ideal S256x1024 .bf16) (x4 : Vec Ideal S256x1024 .f32)
    (x5 : Vec Ideal S1x256 .f32) : Prop where
  q : ∀ (a : Fin 256) (d : Fin 512), x0 (ix2 a d) = I.Q (T + a) d
  k : ∀ (a : Fin 256) (d : Fin 512), x1 (ix2 a d) = I.K (T + a) d
  g : ∀ (a : Fin 256) (d : Fin 512), x2 (ix2 a d) = I.G (T + a) d
  gt : ∀ (a : Fin 256) (d : Fin 512), (x2 (ix2 a d) : EReal) < ⊤
  v : ∀ (a : Fin 256) (d : Fin 1024), x3 (ix2 a d) = I.V (T + a) d
  r : ∀ (a : Fin 256) (d : Fin 1024), x4 (ix2 a d) = I.R (T + a) d
  w : ∀ e : Fin 256, x5 (ix2 0 e) = I.W e

/-- Columns read out of a block. -/
theorem ld_cols {n k : ℕ} {e : EltTy} (x : Vec Ideal (⟨2, ![256, n]⟩ : Shape) e) (o : ℕ) (inb) (a : Fin 256) (κ : Fin k) (h : o + κ < n) :
    View.ld (Val := Elt Ideal) (e' := e) x (Rect.unit (s := ⟨2, ![256, n]⟩) ![0, o] ![256, k] inb) (ix2 a κ) = x (ix2 a ⟨o + κ, h⟩) :=
  View.ld_unit_apply_of x ![0, o] ![256, k] inb (ix2 a κ) (ix2 a ⟨o + κ, h⟩) fun i => by
    fin_cases i
    · show (a : ℕ) = 0 + a
      omega
    · rfl

/-- The gates' block read whole is the block. -/
theorem ld_gates (x : Vec Ideal S256x512 .f32) : View.ld (Val := Elt Ideal) (e' := .f32) x (Rect.unit (s := S256x512) ![0, 0] ![256, 512] inb_S256x512_S256x512_0_0) = x :=
  View.ld_unit_zero (S := S256x512) (funext fun a => by fin_cases a <;> rfl) _ x

theorem ld_gain (x : Vec Ideal S1x256 .f32) : View.ld (Val := Elt Ideal) (e' := .f32) x (Rect.unit (s := S1x256) ![0, 0] ![1, 256] inb_S1x256_S1x256_0_0) = x :=
  View.ld_unit_zero (S := S1x256) (funext fun a => by fin_cases a <;> rfl) _ x

variable {I : Args} {T : ℕ} {x0 x1 x2 : Vec Ideal S256x512 .f32} {x3 : Vec Ideal S256x1024 .bf16} {x4 : Vec Ideal S256x1024 .f32} {x5 : Vec Ideal S1x256 .f32}

/-- Head `h`'s columns of the blocks. -/
theorem BlockAt.head (B : BlockAt I T x0 x1 x2 x3 x4 x5) (h : ℕ) (hh : h < 4) {bc q k : FVec Ideal S256x128 .f32} {v : FVec Ideal S256x256 .bf16}
    (hbc : ∀ (a : Fin 256) (κ : Fin 128), bc (ix2 a κ) = sums x2 (ix2 a ⟨128 * h + κ, by omega⟩))
    (hq : ∀ (a : Fin 256) (κ : Fin 128), q (ix2 a κ) = x0 (ix2 a ⟨128 * h + κ, by omega⟩))
    (hk : ∀ (a : Fin 256) (κ : Fin 128), k (ix2 a κ) = x1 (ix2 a ⟨128 * h + κ, by omega⟩))
    (hv : ∀ (a : Fin 256) (e : Fin 256), v (ix2 a e) = x3 (ix2 a ⟨256 * h + e, by omega⟩)) : HeadAt I h T bc q k v where
  bc a κ := (hbc a κ).trans (sums_apply x2 B.g B.gt a _)
  q a κ := (hq a κ).trans (B.q a _)
  k a κ := (hk a κ).trans (B.k a _)
  v a e := (hv a e).trans (B.v a _)

/-- The heads' columns of the summed gates. -/
theorem bc0 (x : FVec Ideal S256x512 .f32) (a : Fin 256) (κ : Fin 128) : k0_pay10 (F := Ideal) x (ix2 a κ) = x (ix2 a ⟨128 * 0 + κ, by omega⟩) := by
  pointwise [k0_pay10]
theorem bc1 (x : FVec Ideal S256x512 .f32) (a : Fin 256) (κ : Fin 128) : k0_pay11 (F := Ideal) x (ix2 a κ) = x (ix2 a ⟨128 * 1 + κ, by omega⟩) := by
  pointwise [k0_pay11]
theorem bc2 (x : FVec Ideal S256x512 .f32) (a : Fin 256) (κ : Fin 128) : k0_pay12 (F := Ideal) x (ix2 a κ) = x (ix2 a ⟨128 * 2 + κ, by omega⟩) := by
  pointwise [k0_pay12]
theorem bc3 (x : FVec Ideal S256x512 .f32) (a : Fin 256) (κ : Fin 128) : k0_pay13 (F := Ideal) x (ix2 a κ) = x (ix2 a ⟨128 * 3 + κ, by omega⟩) := by
  pointwise [k0_pay13]

/-- A head's result at its place in the block's result. -/
theorem out_at (B : BlockAt I T x0 x1 x2 x3 x4 x5) {S : ℕ → ℕ → ℕ → EReal} (h : ℕ) (hh : h < 4) {bc q k : FVec Ideal S256x128 .f32} {v : FVec Ideal S256x256 .bf16}
    {g : FVec Ideal S1x256 .f32} {r : FVec Ideal S256x256 .f32} {s : FVec Ideal S1x128x256 .f32} (H : HeadAt I h T bc q k v)
    (hg : g = x5) (hr : ∀ a e : Fin 256, r (ix2 a e) = x4 (ix2 a ⟨256 * h + e, by omega⟩)) (hs : ∀ (κ : Fin 128) (e : Fin 256), s (ix3 0 κ e) = S h κ e)
    (a : Fin 256) (c : Fin 1024) (x : S256x256.Idx) (hx0 : (a : ℕ) = x 0) (hx1 : (c : ℕ) = 256 * h + x 1) :
    hOut mask g bc q k v r s x = fin I (c / 256) (T + a / 64 * 64) (state I (c / 256) T (S (c / 256)) (a / 64)) (a % 64) (c % 256) := by
  obtain ⟨p, e, rfl⟩ : ∃ (p : Fin 256) (e : Fin 256), x = ix2 p e := ⟨x 0, x 1, eq_ix2 x⟩
  replace hx0 : (a : ℕ) = p := hx0
  replace hx1 : (c : ℕ) = 256 * h + e := hx1
  rw [hOut_apply H hs mask_ok (fun e => by rw [hg]; exact B.w e) (fun a e => (hr a e).trans (B.r a _)),
    show (c : ℕ) / 256 = h by omega, show (c : ℕ) % 256 = e by omega, hx0]

/-- A head's state at its place in the block's state. -/
theorem state_at {S : ℕ → ℕ → ℕ → EReal} (h : ℕ) {bc q k : FVec Ideal S256x128 .f32} {v : FVec Ideal S256x256 .bf16}
    {s : FVec Ideal S1x128x256 .f32} (H : HeadAt I h T bc q k v) (hs : ∀ (κ : Fin 128) (e : Fin 256), s (ix3 0 κ e) = S h κ e)
    (h' : Fin 4) (κ : Fin 128) (e : Fin 256) (x : S1x128x256.Idx) (hx0 : (h' : ℕ) = h + x 0) (hx1 : (κ : ℕ) = x 1) (hx2 : (e : ℕ) = x 2) :
    hState bc k v s x = state I h' T (S h') 4 κ e := by
  obtain ⟨p, κ', e', rfl⟩ : ∃ (p : Fin 1) (κ' : Fin 128) (e' : Fin 256), x = ix3 p κ' e' := ⟨x 0, x 1, x 2, eq_ix3 x⟩
  obtain rfl : p = 0 := Subsingleton.elim _ _
  replace hx0 : (h' : ℕ) = h + 0 := hx0
  replace hx1 : (κ : ℕ) = κ' := hx1
  replace hx2 : (e : ℕ) = e' := hx2
  rw [hState_apply H hs, show (h' : ℕ) = h by omega, hx1, hx2]

/-- A head's state read out of the carried one. -/
theorem ld_state (x : Vec Ideal S4x128x256 .f32) (h : ℕ) (hh : h < 4) (inb) (κ : Fin 128) (e : Fin 256) :
    View.ld (Val := Elt Ideal) (e' := .f32) x (Rect.unit (s := S4x128x256) ![h, 0, 0] ![1, 128, 256] inb) (ix3 0 κ e) = x (ix3 ⟨h, hh⟩ κ e) :=
  View.ld_unit_apply_of x ![h, 0, 0] ![1, 128, 256] inb (ix3 0 κ e) (ix3 ⟨h, hh⟩ κ e) fun i => by
    fin_cases i
    · rfl
    · show (κ : ℕ) = 0 + κ
      omega
    · show (e : ℕ) = 0 + e
      omega

/-- A head's result, from its columns of the blocks, at its place in the block's result. -/
theorem out_tile (B : BlockAt I T x0 x1 x2 x3 x4 x5) {S : ℕ → ℕ → ℕ → EReal} (h o o' : ℕ) (hh : h < 4) (ho : o = 128 * h) (ho' : o' = 256 * h)
    (bc : FVec Ideal S256x128 .f32) (hbc : ∀ (a : Fin 256) (κ : Fin 128), bc (ix2 a κ) = sums x2 (ix2 a ⟨128 * h + κ, by omega⟩)) (i0) (i3)
    (s : FVec Ideal S1x128x256 .f32) (hs : ∀ (κ : Fin 128) (e : Fin 256), s (ix3 0 κ e) = S h κ e) (a : Fin 256) (c : Fin 1024) (x : S256x256.Idx)
    (hx : ∀ j : Fin 2, (ix2 a c j : ℕ) = (![0, o'] : Fin 2 → ℕ) j + x j) :
    hOut mask x5 bc (View.ld x0 (Rect.unit (s := S256x512) ![0, o] ![256, 128] i0)) (View.ld x1 (Rect.unit (s := S256x512) ![0, o] ![256, 128] i0))
      (View.ld x3 (Rect.unit (s := S256x1024) ![0, o'] ![256, 256] i3)) (View.ld x4 (Rect.unit (s := S256x1024) ![0, o'] ![256, 256] i3)) s x
      = fin I (c / 256) (T + a / 64 * 64) (state I (c / 256) T (S (c / 256)) (a / 64)) (a % 64) (c % 256) := by
  subst ho ho'
  have e0 : (a : ℕ) = 0 + x 0 := hx 0
  have e1 : (c : ℕ) = 256 * h + x 1 := hx 1
  exact out_at (S := S) B h hh (B.head h hh hbc (fun a κ => ld_cols x0 _ _ a κ (by omega)) (fun a κ => ld_cols x1 _ _ a κ (by omega))
    (fun a e => ld_cols x3 _ _ a e (by omega))) rfl (fun a e => ld_cols x4 _ _ a e (by omega)) hs a c x (by omega) e1

/-- A head's state, from its columns of the blocks, at its place in the block's state. -/
theorem state_tile (B : BlockAt I T x0 x1 x2 x3 x4 x5) {S : ℕ → ℕ → ℕ → EReal} (h o o' : ℕ) (hh : h < 4) (ho : o = 128 * h) (ho' : o' = 256 * h)
    (bc : FVec Ideal S256x128 .f32) (hbc : ∀ (a : Fin 256) (κ : Fin 128), bc (ix2 a κ) = sums x2 (ix2 a ⟨128 * h + κ, by omega⟩)) (i0) (i3)
    (s : FVec Ideal S1x128x256 .f32) (hs : ∀ (κ : Fin 128) (e : Fin 256), s (ix3 0 κ e) = S h κ e) (h' : Fin 4) (κ : Fin 128) (e : Fin 256)
    (x : S1x128x256.Idx) (hx : ∀ j : Fin 3, (ix3 h' κ e j : ℕ) = (![h, 0, 0] : Fin 3 → ℕ) j + x j) :
    hState bc (View.ld x1 (Rect.unit (s := S256x512) ![0, o] ![256, 128] i0)) (View.ld x3 (Rect.unit (s := S256x1024) ![0, o'] ![256, 256] i3)) s x
      = state I h' T (S h') 4 κ e := by
  subst ho ho'
  have e0 : (h' : ℕ) = h + x 0 := hx 0
  have e1 : (κ : ℕ) = 0 + x 1 := hx 1
  have e2 : (e : ℕ) = 0 + x 2 := hx 2
  exact state_at (S := S) h (B.head h hh (q := View.ld x0 (Rect.unit (s := S256x512) ![0, 128 * h] ![256, 128] i0)) hbc (fun a κ => ld_cols x0 _ _ a κ (by omega))
    (fun a κ => ld_cols x1 _ _ a κ (by omega)) (fun a e => ld_cols x3 _ _ a e (by omega))) hs h' κ e x e0 (by omega) (by omega)

/-- A head's place in the carried state. -/
theorem mem_state (h : Fin 4) (κ : Fin 128) (e : Fin 256) (n : ℕ) (i) (hn : (h : ℕ) = n) :
    ix3 h κ e ∈ (Rect.unit (s := S4x128x256) ![n, 0, 0] ![1, 128, 256] i).set := by
  rw [Rect.mem_set_unit]
  intro j
  match j with
  | ⟨0, _⟩ => exact ⟨le_of_eq hn.symm, lt_of_eq_of_lt hn (Nat.lt_succ_self n)⟩
  | ⟨1, _⟩ => exact ⟨Nat.zero_le _, lt_of_lt_of_eq κ.isLt (Nat.zero_add _).symm⟩
  | ⟨2, _⟩ => exact ⟨Nat.zero_le _, lt_of_lt_of_eq e.isLt (Nat.zero_add _).symm⟩

/-- Four heads' states stored last are what the carried state holds, whatever was stored before. -/
theorem canon_states (i3) (w3) (i2) (w2) (i1) (w1) (i0) (w0) (L : List (View.Piece (Elt Ideal) S4x128x256 .f32)) (v : EReal) (h : Fin 4) (κ : Fin 128) (e : Fin 256)
    (hv : View.AllAt [(⟨Rect.unit ![3, 0, 0] ![1, 128, 256] i3, w3⟩ : View.Piece (Elt Ideal) S4x128x256 .f32), ⟨Rect.unit ![2, 0, 0] ![1, 128, 256] i2, w2⟩,
      ⟨Rect.unit ![1, 0, 0] ![1, 128, 256] i1, w1⟩, ⟨Rect.unit ![0, 0, 0] ![1, 128, 256] i0, w0⟩] (ix3 h κ e) v) :
    View.canon ((⟨Rect.unit ![3, 0, 0] ![1, 128, 256] i3, w3⟩ : View.Piece (Elt Ideal) S4x128x256 .f32) :: ⟨Rect.unit ![2, 0, 0] ![1, 128, 256] i2, w2⟩
      :: ⟨Rect.unit ![1, 0, 0] ![1, 128, 256] i1, w1⟩ :: ⟨Rect.unit ![0, 0, 0] ![1, 128, 256] i0, w0⟩ :: L) (ix3 h κ e) = v := by
  have key : ∀ (P : List (View.Piece (Elt Ideal) S4x128x256 .f32)) (y : S4x128x256.Idx), (∃ p ∈ P, y ∈ p.1.set) → View.canon (P ++ L) y = View.canon P y := by
    intro P y
    induction P with
    | nil => rintro ⟨p, hp, -⟩; exact absurd hp List.not_mem_nil
    | cons p P ih =>
      intro hc
      by_cases hm : y ∈ p.1.set
      · obtain ⟨x, rfl⟩ := p.1.exists_idx_of_mem hm
        rw [List.cons_append, show p.1.idx x = p.1.emb x from rfl, View.canon_cons_emb, View.canon_cons_emb]
      · rw [List.cons_append, View.canon_cons_of_not_mem _ _ hm, View.canon_cons_of_not_mem _ _ hm]
        refine ih ?_
        obtain ⟨q, hq, hyq⟩ := hc
        rcases List.mem_cons.mp hq with rfl | hq'
        · exact absurd hyq hm
        · exact ⟨q, hq', hyq⟩
  have hcov : ∃ p ∈ [(⟨Rect.unit ![3, 0, 0] ![1, 128, 256] i3, w3⟩ : View.Piece (Elt Ideal) S4x128x256 .f32), ⟨Rect.unit ![2, 0, 0] ![1, 128, 256] i2, w2⟩,
      ⟨Rect.unit ![1, 0, 0] ![1, 128, 256] i1, w1⟩, ⟨Rect.unit ![0, 0, 0] ![1, 128, 256] i0, w0⟩], ix3 h κ e ∈ p.1.set := by
    rcases (by omega : (h : ℕ) = 3 ∨ (h : ℕ) = 2 ∨ (h : ℕ) = 1 ∨ (h : ℕ) = 0) with hn | hn | hn | hn
    · exact ⟨_, List.mem_cons_self, mem_state h κ e 3 i3 hn⟩
    · exact ⟨_, List.mem_cons_of_mem _ List.mem_cons_self, mem_state h κ e 2 i2 hn⟩
    · exact ⟨_, List.mem_cons_of_mem _ (List.mem_cons_of_mem _ List.mem_cons_self), mem_state h κ e 1 i1 hn⟩
    · exact ⟨_, List.mem_cons_of_mem _ (List.mem_cons_of_mem _ (List.mem_cons_of_mem _ List.mem_cons_self)), mem_state h κ e 0 i0 hn⟩
  exact (key _ _ hcov).trans (View.canon_eq_of_allAt _ _ _ hcov hv)

section B
variable (c : Dev nD) (i : grid0.Coords) (a0 : Memref sig .tc .vmem S256x512 .f32) (h0 : a0.IsWhole) (a1 : Memref sig .tc .vmem S256x512 .f32) (h1 : a1.IsWhole)
  (a2 : Memref sig .tc .vmem S256x512 .f32) (h2 : a2.IsWhole) (a3 : Memref sig .tc .vmem S256x1024 .bf16) (h3 : a3.IsWhole)
  (a4 : Memref sig .tc .vmem S256x1024 .f32) (h4 : a4.IsWhole) (a5 : Memref sig .tc .vmem S1x256 .f32) (h5 : a5.IsWhole)
  (a6 : Memref sig .tc .vmem S256x1024 .bf16) (h6 : a6.IsWhole) (a7 : Memref sig .tc .vmem S4x128x256 .f32) (h7 : a7.IsWhole)

/-- A point that goes on: the result's block. -/
theorem out_B (hc0 : ¬cond0_0 i) (B : BlockAt I T x0 x1 x2 x3 x4 x5) (xs0 : Vec Ideal S4x128x256 .f32) {S : ℕ → ℕ → ℕ → EReal}
    (hS : ∀ (h : Fin 4) (κ : Fin 128) (e : Fin 256), xs0 (ix3 h κ e) = S h κ e) (a : Fin 256) (d : Fin 1024) :
    out0_B_6 c i a0 h0 a1 h1 a2 h2 a3 h3 a4 h4 a5 h5 a6 h6 a7 h7 hc0 x0 x1 x2 x3 x4 x5 xs0 (ix2 a d)
      = fin I (d / 256) (T + a / 64 * 64) (state I (d / 256) T (S (d / 256)) (a / 64)) (a % 64) (d % 256) := by
  have hcov := cover0_B_6 c i a0 h0 a1 h1 a2 h2 a3 h3 a4 h4 a5 h5 a6 h6 a7 h7 hc0 x0 x1 x2 x3 x4 x5 xs0
  unfold out0_B_6
  rw [View.read_writes_eq_canon _ _ _ hcov]
  refine View.canon_eq_of_allAt _ _ _ (hcov _) ?_
  clear hcov
  unfold kernelRun0_B
  dsimp only
  sl_unfold_words
  simp only [View.readAt_eq_ld]
  rw [h0.read_unread, h1.read_unread, h2.read_unread, h3.read_unread, h4.read_unread, h5.read_unread, h7.read_unread]
  rw [ld_gates, ld_gain]
  refine View.allAt_cons_unit _ _ _ _ _ (fun x hx => ?_) (View.allAt_cons_unit _ _ _ _ _ (fun x hx => ?_) (View.allAt_cons_unit _ _ _ _ _ (fun x hx => ?_)
    (View.allAt_cons_unit _ _ _ _ _ (fun x hx => ?_) (View.allAt_nil _ _))))
  · exact out_tile (S := S) B 3 384 768 (by decide) rfl rfl (k0_pay13 (sums x2)) (bc3 _) _ _ _ (fun κ e => (ld_state xs0 3 (by decide) _ κ e).trans (hS _ κ e)) a d x hx
  · exact out_tile (S := S) B 2 256 512 (by decide) rfl rfl (k0_pay12 (sums x2)) (bc2 _) _ _ _ (fun κ e => (ld_state xs0 2 (by decide) _ κ e).trans (hS _ κ e)) a d x hx
  · exact out_tile (S := S) B 1 128 256 (by decide) rfl rfl (k0_pay11 (sums x2)) (bc1 _) _ _ _ (fun κ e => (ld_state xs0 1 (by decide) _ κ e).trans (hS _ κ e)) a d x hx
  · exact out_tile (S := S) B 0 0 0 (by decide) rfl rfl (k0_pay10 (sums x2)) (bc0 _) _ _ _ (fun κ e => (ld_state xs0 0 (by decide) _ κ e).trans (hS _ κ e)) a d x hx

/-- A point that goes on: the carried state. -/
theorem sout_B (hc0 : ¬cond0_0 i) (B : BlockAt I T x0 x1 x2 x3 x4 x5) (xs0 : Vec Ideal S4x128x256 .f32) {S : ℕ → ℕ → ℕ → EReal}
    (hS : ∀ (h : Fin 4) (κ : Fin 128) (e : Fin 256), xs0 (ix3 h κ e) = S h κ e) (h : Fin 4) (κ : Fin 128) (e : Fin 256) :
    sout0_B_0 c i a0 h0 a1 h1 a2 h2 a3 h3 a4 h4 a5 h5 a6 h6 a7 h7 hc0 x0 x1 x2 x3 x4 x5 xs0 (ix3 h κ e) = state I h T (S h) 4 κ e := by
  have hcov := scover0_B_0 c i a0 h0 a1 h1 a2 h2 a3 h3 a4 h4 a5 h5 a6 h6 a7 h7 hc0 x0 x1 x2 x3 x4 x5 xs0
  unfold sout0_B_0
  rw [View.read_writes_eq_canon _ _ _ hcov]
  refine View.canon_eq_of_allAt _ _ _ (hcov _) ?_
  clear hcov
  unfold kernelRun0_B
  dsimp only
  sl_unfold_words
  simp only [View.readAt_eq_ld]
  rw [h1.read_unread, h2.read_unread, h3.read_unread, h7.read_unread]
  rw [ld_gates]
  refine View.allAt_cons_unit _ _ _ _ _ (fun x hx => ?_) (View.allAt_cons_unit _ _ _ _ _ (fun x hx => ?_) (View.allAt_cons_unit _ _ _ _ _ (fun x hx => ?_)
    (View.allAt_cons_unit _ _ _ _ _ (fun x hx => ?_) (View.allAt_nil _ _))))
  · exact state_tile (S := S) B 3 384 768 (by decide) rfl rfl (k0_pay13 (sums x2)) (bc3 _) _ _ _ (fun κ e => (ld_state xs0 3 (by decide) _ κ e).trans (hS _ κ e)) h κ e x hx
  · exact state_tile (S := S) B 2 256 512 (by decide) rfl rfl (k0_pay12 (sums x2)) (bc2 _) _ _ _ (fun κ e => (ld_state xs0 2 (by decide) _ κ e).trans (hS _ κ e)) h κ e x hx
  · exact state_tile (S := S) B 1 128 256 (by decide) rfl rfl (k0_pay11 (sums x2)) (bc1 _) _ _ _ (fun κ e => (ld_state xs0 1 (by decide) _ κ e).trans (hS _ κ e)) h κ e x hx
  · exact state_tile (S := S) B 0 0 0 (by decide) rfl rfl (k0_pay10 (sums x2)) (bc0 _) _ _ _ (fun κ e => (ld_state xs0 0 (by decide) _ κ e).trans (hS _ κ e)) h κ e x hx

/-- The state a point that starts a batch reads: zero. -/
theorem reset_at (h : ℕ) (hh : h < 4) (i0) (i1) (κ : Fin 128) (e : Fin 256) :
    a7.view.readCov [(⟨Rect.unit ![0, 0, 0] ![4, 128, 256] i0, k0_pay1 (F := Ideal)⟩ : View.Piece (Elt Ideal) S4x128x256 .f32)]
      (Rect.unit (s := S4x128x256) ![h, 0, 0] ![1, 128, 256] i1).toLoadRect (ix3 0 κ e) = (0 : EReal) := by
  rw [View.readCov_eq_canon', View.canon_unit_zero (S := S4x128x256) (funext fun a => by fin_cases a <;> rfl)]
  exact Ideal.ofBits_zero .f32

/-- A store of another head's state does not change what a head reads. -/
theorem skip_at (h h' : ℕ) (hne : h ≠ h') (i0) (w) (L : List (View.Piece (Elt Ideal) S4x128x256 .f32)) (i1) (κ : Fin 128) (e : Fin 256) :
    a7.view.readCov ((⟨Rect.unit ![h', 0, 0] ![1, 128, 256] i0, w⟩ : View.Piece (Elt Ideal) S4x128x256 .f32) :: L)
      (Rect.unit (s := S4x128x256) ![h, 0, 0] ![1, 128, 256] i1).toLoadRect (ix3 0 κ e)
    = a7.view.readCov L (Rect.unit (s := S4x128x256) ![h, 0, 0] ![1, 128, 256] i1).toLoadRect (ix3 0 κ e) := by
  rw [View.readCov_eq_canon', View.readCov_eq_canon']
  refine View.canon_cons_of_not_mem _ _ fun hm => hne ?_
  have hm' : (Rect.unit (s := S4x128x256) ![h, 0, 0] ![1, 128, 256] i1).idx (ix3 0 κ e) ∈ (Rect.unit (s := S4x128x256) ![h', 0, 0] ![1, 128, 256] i0).set := hm
  have h0 := (Rect.mem_set_unit.mp hm') 0
  replace h0 : h' ≤ h + 1 * 0 ∧ h + 1 * 0 < h' + 1 := h0
  omega

/-- A point that starts a batch: the result's block. -/
theorem out_A (hc0 : cond0_0 i) (B : BlockAt I T x0 x1 x2 x3 x4 x5) (a : Fin 256) (d : Fin 1024) :
    out0_A_6 c i a0 h0 a1 h1 a2 h2 a3 h3 a4 h4 a5 h5 a6 h6 a7 h7 hc0 x0 x1 x2 x3 x4 x5 (ix2 a d)
      = fin I (d / 256) (T + a / 64 * 64) (state I (d / 256) T (fun _ _ => 0) (a / 64)) (a % 64) (d % 256) := by
  have hcov := cover0_A_6 c i a0 h0 a1 h1 a2 h2 a3 h3 a4 h4 a5 h5 a6 h6 a7 h7 hc0 x0 x1 x2 x3 x4 x5
  unfold out0_A_6
  rw [View.read_writes_eq_canon _ _ _ hcov]
  refine View.canon_eq_of_allAt _ _ _ (hcov _) ?_
  clear hcov
  unfold kernelRun0_A
  dsimp only
  sl_unfold_words
  simp only [View.readAt_eq_ld]
  rw [h0.read_unread, h1.read_unread, h2.read_unread, h3.read_unread, h4.read_unread, h5.read_unread]
  rw [ld_gates, ld_gain]
  refine View.allAt_cons_unit _ _ _ _ _ (fun x hx => ?_) (View.allAt_cons_unit _ _ _ _ _ (fun x hx => ?_) (View.allAt_cons_unit _ _ _ _ _ (fun x hx => ?_)
    (View.allAt_cons_unit _ _ _ _ _ (fun x hx => ?_) (View.allAt_nil _ _))))
  · exact out_tile (S := fun _ _ _ => 0) B 3 384 768 (by decide) rfl rfl (k0_pay13 (sums x2)) (bc3 _) _ _ _ (fun κ e => (skip_at a7 3 2 (by decide) _ _ _ _ κ e).trans ((skip_at a7 3 1 (by decide) _ _ _ _ κ e).trans ((skip_at a7 3 0 (by decide) _ _ _ _ κ e).trans (reset_at a7 3 (by decide) _ _ κ e)))) a d x hx
  · exact out_tile (S := fun _ _ _ => 0) B 2 256 512 (by decide) rfl rfl (k0_pay12 (sums x2)) (bc2 _) _ _ _ (fun κ e => (skip_at a7 2 1 (by decide) _ _ _ _ κ e).trans ((skip_at a7 2 0 (by decide) _ _ _ _ κ e).trans (reset_at a7 2 (by decide) _ _ κ e))) a d x hx
  · exact out_tile (S := fun _ _ _ => 0) B 1 128 256 (by decide) rfl rfl (k0_pay11 (sums x2)) (bc1 _) _ _ _ (fun κ e => (skip_at a7 1 0 (by decide) _ _ _ _ κ e).trans (reset_at a7 1 (by decide) _ _ κ e)) a d x hx
  · exact out_tile (S := fun _ _ _ => 0) B 0 0 0 (by decide) rfl rfl (k0_pay10 (sums x2)) (bc0 _) _ _ _ (fun κ e => reset_at a7 0 (by decide) _ _ κ e) a d x hx

/-- A point that starts a batch: the carried state. -/
theorem sout_A (hc0 : cond0_0 i) (B : BlockAt I T x0 x1 x2 x3 x4 x5) (h : Fin 4) (κ : Fin 128) (e : Fin 256) :
    sout0_A_0 c i a0 h0 a1 h1 a2 h2 a3 h3 a4 h4 a5 h5 a6 h6 a7 h7 hc0 x0 x1 x2 x3 x4 x5 (ix3 h κ e) = state I h T (fun _ _ => 0) 4 κ e := by
  have hcov := scover0_A_0 c i a0 h0 a1 h1 a2 h2 a3 h3 a4 h4 a5 h5 a6 h6 a7 h7 hc0 x0 x1 x2 x3 x4 x5
  unfold sout0_A_0
  rw [View.read_writes_eq_canon _ _ _ hcov]
  clear hcov
  unfold kernelRun0_A
  dsimp only
  sl_unfold_words
  simp only [View.readAt_eq_ld]
  rw [h1.read_unread, h2.read_unread, h3.read_unread]
  rw [ld_gates]
  refine canon_states _ _ _ _ _ _ _ _ _ _ h κ e ?_
  refine View.allAt_cons_unit _ _ _ _ _ (fun x hx => ?_) (View.allAt_cons_unit _ _ _ _ _ (fun x hx => ?_) (View.allAt_cons_unit _ _ _ _ _ (fun x hx => ?_)
    (View.allAt_cons_unit _ _ _ _ _ (fun x hx => ?_) (View.allAt_nil _ _))))
  · exact state_tile (S := fun _ _ _ => 0) B 3 384 768 (by decide) rfl rfl (k0_pay13 (sums x2)) (bc3 _) _ _ _ (fun κ e => (skip_at a7 3 2 (by decide) _ _ _ _ κ e).trans ((skip_at a7 3 1 (by decide) _ _ _ _ κ e).trans ((skip_at a7 3 0 (by decide) _ _ _ _ κ e).trans (reset_at a7 3 (by decide) _ _ κ e)))) h κ e x hx
  · exact state_tile (S := fun _ _ _ => 0) B 2 256 512 (by decide) rfl rfl (k0_pay12 (sums x2)) (bc2 _) _ _ _ (fun κ e => (skip_at a7 2 1 (by decide) _ _ _ _ κ e).trans ((skip_at a7 2 0 (by decide) _ _ _ _ κ e).trans (reset_at a7 2 (by decide) _ _ κ e))) h κ e x hx
  · exact state_tile (S := fun _ _ _ => 0) B 1 128 256 (by decide) rfl rfl (k0_pay11 (sums x2)) (bc1 _) _ _ _ (fun κ e => (skip_at a7 1 0 (by decide) _ _ _ _ κ e).trans (reset_at a7 1 (by decide) _ _ κ e)) h κ e x hx
  · exact state_tile (S := fun _ _ _ => 0) B 0 0 0 (by decide) rfl rfl (k0_pay10 (sums x2)) (bc0 _) _ _ _ (fun κ e => reset_at a7 0 (by decide) _ _ κ e) h κ e x hx
end B

end Cert.Gla

end
-- ==== Proof.Grid.lean ====
/- The kernel over its grid: sixteen points of 256 tokens per batch, the state carried from one to the next; the array it leaves is `result`. -/
module

public import proofs.«01_k».proof.Proof.Block
public import proofs.«01_k».proof.Proof.Gen.KernelIdeal.Value

@[expose] public section

noncomputable section

namespace Cert.Gla

open Idealize.ShloMosaic Idealize.ShloMosaic.TcCoe Finset Cert.KernelIdeal Cert.KernelIdeal.Gen Cert.KernelIdeal.Value

variable (m : (ℓ : Loc nD τ sig) → Buf (Elt Ideal) ℓ)

/-- No gate is +∞. -/
def Below (g : (⟨2, ![32768, 512]⟩ : Shape).Idx → EReal) : Prop := ∀ i, g i < ⊤

/-- The kernel's arguments. -/
abbrev args (c : Dev nD) : Args :=
  argsOf (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)

theorem blk0 (c : Dev nD) (t : Fin cfg0.N) (a : Fin 256) (d : Fin 512) : iblk m c 0 t (ix2 a d) = (args m c).Q (256 * t.val + a) d := by
  obtain ⟨e0, e1⟩ := idx0 t
  have h0 : (((cfg0.win 0).blk t).view.emb (ix2 a d) 0).val = win0_0.index t (0 : Fin 2) * 256 + 1 * a := rfl
  have h1 : (((cfg0.win 0).blk t).view.emb (ix2 a d) 1).val = win0_0.index t (1 : Fin 2) * 512 + 1 * d := rfl
  refine (congrFun (V_main_arg0 m c) (((cfg0.win 0).blk t).view.emb (ix2 a d))).trans ?_
  exact rd_at _ _ _ _ (by rw [h0, e0]; omega) (by rw [h1, e1]; omega)
theorem blk1 (c : Dev nD) (t : Fin cfg0.N) (a : Fin 256) (d : Fin 512) : iblk m c 1 t (ix2 a d) = (args m c).K (256 * t.val + a) d := by
  obtain ⟨e0, e1⟩ := idx1 t
  have h0 : (((cfg0.win 1).blk t).view.emb (ix2 a d) 0).val = win0_1.index t (0 : Fin 2) * 256 + 1 * a := rfl
  have h1 : (((cfg0.win 1).blk t).view.emb (ix2 a d) 1).val = win0_1.index t (1 : Fin 2) * 512 + 1 * d := rfl
  refine (congrFun (V_main_arg1 m c) (((cfg0.win 1).blk t).view.emb (ix2 a d))).trans ?_
  exact rd_at _ _ _ _ (by rw [h0, e0]; omega) (by rw [h1, e1]; omega)
theorem blk2 (c : Dev nD) (t : Fin cfg0.N) (a : Fin 256) (d : Fin 512) : iblk m c 2 t (ix2 a d) = (args m c).G (256 * t.val + a) d := by
  obtain ⟨e0, e1⟩ := idx2 t
  have h0 : (((cfg0.win 2).blk t).view.emb (ix2 a d) 0).val = win0_2.index t (0 : Fin 2) * 256 + 1 * a := rfl
  have h1 : (((cfg0.win 2).blk t).view.emb (ix2 a d) 1).val = win0_2.index t (1 : Fin 2) * 512 + 1 * d := rfl
  refine (congrFun (V_main_arg2 m c) (((cfg0.win 2).blk t).view.emb (ix2 a d))).trans ?_
  exact rd_at _ _ _ _ (by rw [h0, e0]; omega) (by rw [h1, e1]; omega)
theorem blk2_lt (c : Dev nD) (hg : Below (m ((c : Thread nD τ).loc main_arg2))) (t : Fin cfg0.N) (a : Fin 256) (d : Fin 512) :
    LT.lt (α := EReal) (iblk m c 2 t (ix2 a d)) ⊤ :=
  lt_of_eq_of_lt (α := EReal) (congrFun (V_main_arg2 m c) (((cfg0.win 2).blk t).view.emb (ix2 a d))) (hg _)
theorem blk3 (c : Dev nD) (t : Fin cfg0.N) (a : Fin 256) (d : Fin 1024) : iblk m c 3 t (ix2 a d) = (args m c).V (256 * t.val + a) d := by
  obtain ⟨e0, e1⟩ := idx3 t
  have h0 : (((cfg0.win 3).blk t).view.emb (ix2 a d) 0).val = win0_3.index t (0 : Fin 2) * 256 + 1 * a := rfl
  have h1 : (((cfg0.win 3).blk t).view.emb (ix2 a d) 1).val = win0_3.index t (1 : Fin 2) * 1024 + 1 * d := rfl
  refine (congrFun (V_main_arg3 m c) (((cfg0.win 3).blk t).view.emb (ix2 a d))).trans ?_
  exact rd_at _ _ _ _ (by rw [h0, e0]; omega) (by rw [h1, e1]; omega)
theorem blk4 (c : Dev nD) (t : Fin cfg0.N) (a : Fin 256) (d : Fin 1024) : iblk m c 4 t (ix2 a d) = (args m c).R (256 * t.val + a) d := by
  obtain ⟨e0, e1⟩ := idx4 t
  have h0 : (((cfg0.win 4).blk t).view.emb (ix2 a d) 0).val = win0_4.index t (0 : Fin 2) * 256 + 1 * a := rfl
  have h1 : (((cfg0.win 4).blk t).view.emb (ix2 a d) 1).val = win0_4.index t (1 : Fin 2) * 1024 + 1 * d := rfl
  refine (congrFun (V_main_arg4 m c) (((cfg0.win 4).blk t).view.emb (ix2 a d))).trans ?_
  exact rd_at _ _ _ _ (by rw [h0, e0]; omega) (by rw [h1, e1]; omega)

/-- The norm's weights as the kernel takes them, a row. -/
theorem V_row (c : Dev nD) : V m c main_v0 = shapeCast S1x256 (m ((c : Thread nD τ).loc main_arg5)) shapeCasts_S256_S1x256 := by
  show StableHlo.after hostOps0 (fun b => m (c, b)) main_v0 = _
  after_results
  rfl

theorem blk5 (c : Dev nD) (t : Fin cfg0.N) (e : Fin 256) : iblk m c 5 t (ix2 0 e) = (args m c).W e := by
  obtain ⟨e0, e1⟩ := idx5 t
  have h0 : (((cfg0.win 5).blk t).view.emb (ix2 0 e) 0).val = win0_5.index t (0 : Fin 2) * 1 + 1 * 0 := rfl
  have h1 : (((cfg0.win 5).blk t).view.emb (ix2 0 e) 1).val = win0_5.index t (1 : Fin 2) * 256 + 1 * e := rfl
  refine (congrFun (V_row m c) (((cfg0.win 5).blk t).view.emb (ix2 0 e))).trans ?_
  have hy : ((cfg0.win 5).blk t).view.emb (ix2 0 e) = ix2 (0 : Fin 1) e := by
    funext j
    apply Fin.ext
    match j with
    | ⟨0, _⟩ => exact h0.trans (by rw [e0]; rfl)
    | ⟨1, _⟩ => exact h1.trans (by rw [e1]; show 0 * 256 + 1 * (e : ℕ) = e; omega)
  rw [hy]
  pointwise []
  exact (rd1_eq _ e).symm

/-- A grid point's blocks. -/
theorem block (c : Dev nD) (hg : Below (m ((c : Thread nD τ).loc main_arg2))) (t : Fin cfg0.N) :
    BlockAt (args m c) (256 * t.val) (iblk m c 0 t) (iblk m c 1 t) (iblk m c 2 t) (iblk m c 3 t) (iblk m c 4 t) (iblk m c 5 t) :=
  ⟨blk0 m c t, blk1 m c t, blk2 m c t, blk2_lt m c hg t, blk3 m c t, blk4 m c t, blk5 m c t⟩

/-- The state before the `n`-th chunk of batch `b`. -/
abbrev st (I : Args) (b n h : ℕ) : ℕ → ℕ → EReal := state I h (4096 * b) (fun _ _ => 0) n

/-- What the grid leaves after point `n`: the block of the result, and the state four chunks on. -/
theorem outs (c : Dev nD) (hg : Below (m ((c : Thread nD τ).loc main_arg2))) : ∀ (n : ℕ) (hn : n < cfg0.N),
    (∀ (a : Fin 256) (d : Fin 1024), (outsAt0 m c n hn).1 (ix2 a d) = result (args m c) (256 * n + a) d)
    ∧ ∀ (h : Fin 4) (κ : Fin 128) (e : Fin 256), (outsAt0 m c n hn).2 (ix3 h κ e) = st (args m c) (n / 16) (4 * (n % 16) + 4) h κ e := by
  have start : ∀ t : Fin cfg0.N, t.val % 16 = 0 →
      (∀ (a : Fin 256) (d : Fin 1024), (outsAt0 m c t.val t.isLt).1 (ix2 a d) = result (args m c) (256 * t.val + a) d)
      ∧ ∀ (h : Fin 4) (κ : Fin 128) (e : Fin 256), (outsAt0 m c t.val t.isLt).2 (ix3 h κ e) = st (args m c) (t.val / 16) (4 * (t.val % 16) + 4) h κ e := by
    intro t h0
    rw [outsAt0_A m c t h0]
    dsimp only
    refine ⟨fun a d => ?_, fun h κ e => ?_⟩
    · refine (out_A _ _ _ _ _ _ _ _ _ _ _ _ _ _ _ _ _ _ _ (block m c hg t) a d).trans ?_
      unfold result
      rw [show (256 * t.val + a) / 64 * 64 = 256 * t.val + a / 64 * 64 by omega, show (256 * t.val + a) % 64 = a % 64 by omega,
        show (256 * t.val + a) / 4096 * 4096 = 256 * t.val by omega, show (256 * t.val + a) % 4096 / 64 = a / 64 by omega]
    · refine (sout_A _ _ _ _ _ _ _ _ _ _ _ _ _ _ _ _ _ _ _ (block m c hg t) h κ e).trans ?_
      rw [show 256 * t.val = 4096 * (t.val / 16) by omega, show 4 * (t.val % 16) + 4 = 4 by omega]
  intro n
  induction n with
  | zero => intro hn; exact start ⟨0, hn⟩ rfl
  | succ n ih =>
    intro hn
    by_cases h0 : (n + 1) % 16 = 0
    · exact start ⟨n + 1, hn⟩ h0
    · have IH := (ih (Nat.lt_of_succ_lt hn)).2
      rw [outsAt0_succ m c n hn, stAt0_B m c ⟨n + 1, hn⟩ _ h0]
      dsimp only
      refine ⟨fun a d => ?_, fun h κ e => ?_⟩
      · refine (out_B _ _ _ _ _ _ _ _ _ _ _ _ _ _ _ _ _ _ _ (block m c hg ⟨n + 1, hn⟩) _ (S := fun h => st (args m c) (n / 16) (4 * (n % 16) + 4) h) IH a d).trans ?_
        show fin _ _ (256 * (n + 1) + a / 64 * 64) _ _ _ = _
        unfold result
        rw [show (256 * (n + 1) + (a : ℕ)) / 64 * 64 = 256 * (n + 1) + a / 64 * 64 by omega, show (256 * (n + 1) + (a : ℕ)) % 64 = a % 64 by omega,
          show (256 * (n + 1) + (a : ℕ)) / 4096 * 4096 = 4096 * (n / 16) by omega,
          show (256 * (n + 1) + (a : ℕ)) % 4096 / 64 = (4 * (n % 16) + 4) + a / 64 by omega, state_add,
          show 4096 * (n / 16) + 64 * (4 * (n % 16) + 4) = 256 * (n + 1) by omega]
      · refine (sout_B _ _ _ _ _ _ _ _ _ _ _ _ _ _ _ _ _ _ _ (block m c hg ⟨n + 1, hn⟩) _ (S := fun h => st (args m c) (n / 16) (4 * (n % 16) + 4) h) IH h κ e).trans ?_
        show state _ _ (256 * (n + 1)) _ 4 κ e = st _ ((n + 1) / 16) (4 * ((n + 1) % 16) + 4) h κ e
        rw [show (n + 1) / 16 = n / 16 by omega, show 4 * ((n + 1) % 16) + 4 = (4 * (n % 16) + 4) + 4 by omega]
        show _ = state _ _ _ _ _ κ e
        rw [state_add, show 4096 * (n / 16) + 64 * (4 * (n % 16) + 4) = 256 * (n + 1) by omega]

/-- The array the kernel leaves. -/
theorem kernel_eq (c : Dev nD) (hg : Below (m ((c : Thread nD τ).loc main_arg2))) (t : Fin 32768) (d : Fin 1024) :
    Cert.KernelIdeal.Value.G6 m c (ix2 t d) = result (args m c) t d := by
  unfold Cert.KernelIdeal.Value.G6
  have hp : Cert.KernelIdeal.Value.pt6Of (ix2 t d) = (t : ℕ) / 256 := by
    show 1 * ((t : ℕ) / 256 - 0) + 1 * ((d : ℕ) / 1024 - 0) = _
    omega
  have hN : cfg0.N = 128 := N_0
  rw [dif_pos (by rw [hp, hN]; omega), ← Cert.KernelIdeal.Value.outsAt0_sweep m c _ (by rw [hp, hN]; omega)]
  have e1 : Cert.KernelIdeal.Value.loc6Of (ix2 t d) = ix2 (⟨(t : ℕ) % 256, by omega⟩ : Fin 256) d := by
    funext j
    apply Fin.ext
    match j with
    | ⟨0, _⟩ => rfl
    | ⟨1, _⟩ => exact Nat.mod_eq_of_lt d.isLt
  rw [e1]
  refine ((outs m c hg _ _).1 _ d).trans ?_
  rw [hp]
  congr 1
  show 256 * ((t : ℕ) / 256) + (t : ℕ) % 256 = t
  omega

end Cert.Gla

end
-- ==== Proof.RefRun.lean ====
/- The reference's run as a recursion over the chunks: its loop carries the state and the outputs, the rest of what it carries stays as it was
   before the loop, so the result is a function of the sixty-fourth element of the sequence that starts at `init` and goes on by `step`. -/
module

public import proofs.«01_k».proof.Proof.Gen.ReferenceIdeal.Run
public import proofs.«01_k».proof.Proof.Gen.ReferenceIdeal.Step

@[expose] public section

noncomputable section

namespace Cert.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init R_main_v66)

variable {F : FTy → Type} [FloatOps F]

/-- The carried state before chunk `n`. -/
def seq (m : (ℓ : Loc nD τ sig) → Buf (Elt F) ℓ) (c : Dev nD) : ℕ → State F
  | 0 => init (m ((c.tc : Thread nD τ).loc main_arg0)) (m ((c.tc : Thread nD τ).loc main_arg1))
      (m ((c.tc : Thread nD τ).loc main_arg2)) (m ((c.tc : Thread nD τ).loc main_arg3))
  | n + 1 => step n (seq m c n)

/-- Contents of the buffers that agree with a state and a trip's number on everything the loop carries. -/
def Agrees (V : Valuation τ sig (Elt F)) (s : State F) (n : ℕ) : Prop :=
  (V (Proc.devRef .tc main_v46_0) = s.main_v46_0 ∧ V (Proc.devRef .tc main_v46_1) = s.main_v46_1
    ∧ V (Proc.devRef .tc main_v46_2) = s.main_v46_2 ∧ V (Proc.devRef .tc main_v46_3) = s.main_v46_3
    ∧ V (Proc.devRef .tc main_v46_4) = s.main_v46_4)
  ∧ V (Proc.devRef .tc main_v46_5) = constantI S_ 32 (BitVec.ofNat 32 n)
  ∧ V (Proc.devRef .tc main_v46_6) = s.main_v46_6 ∧ V (Proc.devRef .tc main_v46_7) = s.main_v46_7

set_option maxRecDepth 65536 in
set_option maxHeartbeats 1000000 in
/-- Before the loop the buffers agree with the first state. -/
theorem agrees_zero (m : (ℓ : Loc nD τ sig) → Buf (Elt F) ℓ) (c : Dev nD) : Agrees (entryContents preI m c) (seq m c 0) 0 := by
  refine ⟨⟨?_, ?_, ?_, ?_, ?_⟩, ?_, ?_, ?_⟩ <;> (simp only [entryContents, afterL_cons, afterL_nil]; after_reads_simp) <;> rfl

set_option maxRecDepth 65536 in
/-- One trip keeps the agreement, at the next state and the next number. -/
theorem agrees_step {V : Valuation τ sig (Elt F)} {s : State F} {n : ℕ} (h : Agrees V s n) : Agrees (STEP V) (step n s) (n + 1) := by
  obtain ⟨⟨h0, h1, h2, h3, h4⟩, h5, h6, h7⟩ := h
  refine ⟨⟨(STEP_main_v46_0 V).trans h0, (STEP_main_v46_1 V).trans h1, (STEP_main_v46_2 V).trans h2, (STEP_main_v46_3 V).trans h3,
    (STEP_main_v46_4 V).trans h4⟩, (STEP_main_v46_5 V).trans ?_, (STEP_main_v46_6 V).trans ?_, (STEP_main_v46_7 V).trans ?_⟩
  · unfold step_main_v46_5
    rw [h5]
    funext i
    show BitVec.ofNat 32 n + 1#32 = BitVec.ofNat 32 (n + 1)
    rw [BitVec.ofNat_add]
  · unfold step_main_v46_6
    rw [h3, h5, h6, h1, h2]
    rfl
  · unfold step_main_v46_7
    rw [h7, h4, h5, h0, h6]
    rfl

/-- Before trip `n` the buffers agree with state `n`. -/
theorem agrees (m : (ℓ : Loc nD τ sig) → Buf (Elt F) ℓ) (c : Dev nD) : ∀ n, Agrees (STEP^[n] (entryContents preI m c)) (seq m c n) n
  | 0 => agrees_zero m c
  | n + 1 => by
    rw [Function.iterate_succ_apply']
    exact agrees_step (agrees m c n)

set_option maxRecDepth 8192 in
/-- What follows the loop reads the outputs and two of the arguments. -/
theorem out_eq {V : Valuation τ sig (Elt F)} {s : State F} (h7 : V (Proc.devRef .tc main_v46_7) = s.main_v46_7)
    {x4 : (⟨S32768x1024, .f32⟩ : BufTy).Contents (Elt F)} (h4 : V (Proc.devRef .tc main_arg4) = x4)
    {x5 : (⟨S256, .f32⟩ : BufTy).Contents (Elt F)} (h5 : V (Proc.devRef .tc main_arg5) = x5) : out_main_v66 V = R_main_v66 s x4 x5 := by
  unfold out_main_v66
  rw [h7, h4, h5]
  rfl

/-- Every execution of the reference ends with its result read off the sixty-fourth state, the arguments as they were. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v66)
        = R_main_v66 (seq m c 64) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (out_eq (agrees m c 64).2.2.2 (iter_main_arg4 m c 64) (iter_main_arg5 m c 64)), (h c).2⟩)
    (Value.run m ρ)

end Cert.RefRun

end
-- ==== Proof.RefValue.lean ====
/- The reference's result as `result`: its reshapes, its sums and its loop over the chunks read element by element. -/
module

public import proofs.«01_k».proof.Proof.RefRun
public import proofs.«01_k».proof.Proof.Spec

@[expose] public section

noncomputable section

namespace Cert.Gla.Ref

open Idealize.ShloMosaic Idealize.ShloMosaic.TcCoe Finset Cert.ReferenceIdeal Cert.ReferenceIdeal.Gen Cert.ReferenceIdeal.Step

/-! ### A running sum, a slice and an update at a computed place -/

/-- Adding up along a list. -/
theorem foldl_add {β : Type} (f : β → EReal) : ∀ (l : List β) (z : EReal), l.foldl (fun r n => r + f n) z = z + (l.map f).sum
  | [], z => by simp
  | a :: l, z => by rw [List.foldl_cons, foldl_add f l, List.map_cons, List.sum_cons, add_assoc]

/-- The places of a window that is 64 long along the fourth axis and 1 along the others. -/
def winEquiv : Fin 64 ≃ (⟨5, ![1, 1, 1, 64, 1]⟩ : Shape).Idx where
  toFun w := ix5 0 0 0 w 0
  invFun y := y 3
  left_inv _ := rfl
  right_inv y := by
    obtain ⟨a, b, c, w, e, rfl⟩ : ∃ (a : Fin 1) (b : Fin 1) (c : Fin 1) (w : Fin 64) (e : Fin 1), y = ix5 a b c w e :=
      ⟨y 0, y 1, y 2, y 3, y 4, eq_ix5 y⟩
    rw [Subsingleton.elim a 0, Subsingleton.elim b 0, Subsingleton.elim c 0, Subsingleton.elim e 0]
    rfl

/-- A window of 64 reaching back from each place, padded with zeros: the sum of all up to that place. -/
theorem runSum (x : S8x4x64x64x128.Idx → EReal) (hw : S8x4x64x64x128.ReduceWindows ![1, 1, 1, 64, 1] ![1, 1, 1, 1, 1] ![0, 0, 0, 63, 0] ![0, 0, 0, 0, 0] S8x4x64x64x128)
    (b : Fin 8) (h : Fin 4) (n i : Fin 64) (d : Fin 128) (f : ℕ → EReal) (hf : ∀ j : Fin 64, x (ix5 b h n j d) = f j) :
    Ideal.hostReduceWindowAdd ![1, 1, 1, 64, 1] ![1, 1, 1, 1, 1] ![0, 0, 0, 63, 0] ![0, 0, 0, 0, 0] hw x 0 (ix5 b h n i d) = ∑ j ∈ range (i + 1), f j := by
  unfold Ideal.hostReduceWindowAdd Host.reduceWindow
  refine (foldl_add _ _ _).trans ?_
  rw [← Fin.sum_univ_def, zero_add]
  rw [← Equiv.sum_comp (winEquiv.trans (Shape.rowMajor _))]
  have key : ∀ w : Fin 64, (if hin : ∀ a : Fin 5, (![0, 0, 0, 63, 0] : Fin 5 → ℕ) a ≤ ((ix5 b h n i d : S8x4x64x64x128.Idx) a).val * (![1, 1, 1, 1, 1] : Fin 5 → ℕ) a + (winEquiv w a).val
        ∧ ((ix5 b h n i d : S8x4x64x64x128.Idx) a).val * (![1, 1, 1, 1, 1] : Fin 5 → ℕ) a + (winEquiv w a).val - (![0, 0, 0, 63, 0] : Fin 5 → ℕ) a < S8x4x64x64x128.size a then
      x (fun a => ⟨((ix5 b h n i d : S8x4x64x64x128.Idx) a).val * (![1, 1, 1, 1, 1] : Fin 5 → ℕ) a + (winEquiv w a).val - (![0, 0, 0, 63, 0] : Fin 5 → ℕ) a, (hin a).2⟩) else (0 : EReal))
      = if 63 ≤ (i : ℕ) + w then f (i + w - 63) else 0 := by
    intro w
    by_cases hc : 63 ≤ (i : ℕ) + w
    · rw [if_pos hc, dif_pos]
      · have hj : (i : ℕ) + w - 63 < 64 := by omega
        rw [← hf ⟨_, hj⟩]
        refine congrArg x ?_
        funext a
        apply Fin.ext
        match a with
        | ⟨0, _⟩ => exact (show (b : ℕ) * 1 + 0 - 0 = b by omega)
        | ⟨1, _⟩ => exact (show (h : ℕ) * 1 + 0 - 0 = h by omega)
        | ⟨2, _⟩ => exact (show (n : ℕ) * 1 + 0 - 0 = n by omega)
        | ⟨3, _⟩ => exact (show (i : ℕ) * 1 + w - 63 = i + w - 63 by omega)
        | ⟨4, _⟩ => exact (show (d : ℕ) * 1 + 0 - 0 = d by omega)
      · intro a
        match a with
        | ⟨0, _⟩ => exact (show 0 ≤ (b : ℕ) * 1 + 0 ∧ (b : ℕ) * 1 + 0 - 0 < 8 by omega)
        | ⟨1, _⟩ => exact (show 0 ≤ (h : ℕ) * 1 + 0 ∧ (h : ℕ) * 1 + 0 - 0 < 4 by omega)
        | ⟨2, _⟩ => exact (show 0 ≤ (n : ℕ) * 1 + 0 ∧ (n : ℕ) * 1 + 0 - 0 < 64 by omega)
        | ⟨3, _⟩ => exact (show 63 ≤ (i : ℕ) * 1 + w ∧ (i : ℕ) * 1 + w - 63 < 64 by omega)
        | ⟨4, _⟩ => exact (show 0 ≤ (d : ℕ) * 1 + 0 ∧ (d : ℕ) * 1 + 0 - 0 < 128 by omega)
    · rw [if_neg hc, dif_neg]
      intro hin
      exact hc (le_trans (hin 3).1 (show (i : ℕ) * 1 + w ≤ i + w by omega))
  refine (Finset.sum_congr rfl fun w _ => ?_).trans ((Finset.sum_congr rfl fun w _ => key w).trans ?_)
  · simp only [Equiv.trans_apply, Equiv.symm_apply_apply]
    rfl
  · refine (Finset.sum_range (n := 64) (fun w : ℕ => if 63 ≤ (i : ℕ) + w then f (i + w - 63) else 0)).symm.trans ?_
    rw [← Finset.sum_filter]
    symm
    refine Finset.sum_bij (fun j _ => j + 63 - i) ?_ ?_ ?_ ?_
    · intro j hj
      simp only [mem_range, mem_filter] at hj ⊢
      omega
    · intro j hj j' hj' e
      simp only [mem_range] at hj hj'
      have e' : j + 63 - (i : ℕ) = j' + 63 - i := e
      omega
    · intro w hw
      simp only [mem_range, mem_filter] at hw
      refine ⟨i + w - 63, ?_, ?_⟩
      · simp only [mem_range]
        omega
      · show (i : ℕ) + w - 63 + 63 - i = w
        omega
    · intro j hj
      simp only [mem_range] at hj
      congr 1
      omega

/-- A slice one long along the first axis, at a computed place of it. -/
theorem slice5 {n0 n1 n2 n3 n4 : ℕ} (x : (⟨5, ![n0, n1, n2, n3, n4]⟩ : Shape).Idx → EReal) (start : Fin 5 → Int)
    (hs : (⟨5, ![n0, n1, n2, n3, n4]⟩ : Shape).Slices (fun _ => 0) ⟨5, ![1, n1, n2, n3, n4]⟩) (j : Fin n0) (hj : start 0 = (j : ℕ))
    (h1 : start 1 = (0 : ℕ)) (h2 : start 2 = (0 : ℕ)) (h3 : start 3 = (0 : ℕ)) (h4 : start 4 = (0 : ℕ)) (a : Fin n1) (b : Fin n2) (c : Fin n3) (d : Fin n4) :
    Host.dynamicSlice (⟨5, ![1, n1, n2, n3, n4]⟩ : Shape) x start hs (ix5 0 a b c d) = x (ix5 j a b c d) := by
  have c0 := Host.clampedStart_of_le (s := ⟨5, ![n0, n1, n2, n3, n4]⟩) (t := ⟨5, ![1, n1, n2, n3, n4]⟩) hs.1 start 0 j hj (show (j : ℕ) + 1 ≤ n0 from j.isLt)
  have c1 := Host.clampedStart_of_le (s := ⟨5, ![n0, n1, n2, n3, n4]⟩) (t := ⟨5, ![1, n1, n2, n3, n4]⟩) hs.1 start 1 0 h1 (show 0 + n1 ≤ n1 by omega)
  have c2 := Host.clampedStart_of_le (s := ⟨5, ![n0, n1, n2, n3, n4]⟩) (t := ⟨5, ![1, n1, n2, n3, n4]⟩) hs.1 start 2 0 h2 (show 0 + n2 ≤ n2 by omega)
  have c3 := Host.clampedStart_of_le (s := ⟨5, ![n0, n1, n2, n3, n4]⟩) (t := ⟨5, ![1, n1, n2, n3, n4]⟩) hs.1 start 3 0 h3 (show 0 + n3 ≤ n3 by omega)
  have c4 := Host.clampedStart_of_le (s := ⟨5, ![n0, n1, n2, n3, n4]⟩) (t := ⟨5, ![1, n1, n2, n3, n4]⟩) hs.1 start 4 0 h4 (show 0 + n4 ≤ n4 by omega)
  rw [Host.dynamicSlice_apply]
  refine congrArg x ?_
  funext k
  apply Fin.ext
  match k with
  | ⟨0, _⟩ => exact congrArg (· + 0) c0
  | ⟨1, _⟩ => exact (congrArg (· + (a : ℕ)) c1).trans (Nat.zero_add _)
  | ⟨2, _⟩ => exact (congrArg (· + (b : ℕ)) c2).trans (Nat.zero_add _)
  | ⟨3, _⟩ => exact (congrArg (· + (c : ℕ)) c3).trans (Nat.zero_add _)
  | ⟨4, _⟩ => exact (congrArg (· + (d : ℕ)) c4).trans (Nat.zero_add _)

/-- The same with four axes. -/
theorem slice4 {n0 n1 n2 n3 : ℕ} (x : (⟨4, ![n0, n1, n2, n3]⟩ : Shape).Idx → EReal) (start : Fin 4 → Int)
    (hs : (⟨4, ![n0, n1, n2, n3]⟩ : Shape).Slices (fun _ => 0) ⟨4, ![1, n1, n2, n3]⟩) (j : Fin n0) (hj : start 0 = (j : ℕ))
    (h1 : start 1 = (0 : ℕ)) (h2 : start 2 = (0 : ℕ)) (h3 : start 3 = (0 : ℕ)) (a : Fin n1) (b : Fin n2) (c : Fin n3) :
    Host.dynamicSlice (⟨4, ![1, n1, n2, n3]⟩ : Shape) x start hs (ix4 0 a b c) = x (ix4 j a b c) := by
  have c0 := Host.clampedStart_of_le (s := ⟨4, ![n0, n1, n2, n3]⟩) (t := ⟨4, ![1, n1, n2, n3]⟩) hs.1 start 0 j hj (show (j : ℕ) + 1 ≤ n0 from j.isLt)
  have c1 := Host.clampedStart_of_le (s := ⟨4, ![n0, n1, n2, n3]⟩) (t := ⟨4, ![1, n1, n2, n3]⟩) hs.1 start 1 0 h1 (show 0 + n1 ≤ n1 by omega)
  have c2 := Host.clampedStart_of_le (s := ⟨4, ![n0, n1, n2, n3]⟩) (t := ⟨4, ![1, n1, n2, n3]⟩) hs.1 start 2 0 h2 (show 0 + n2 ≤ n2 by omega)
  have c3 := Host.clampedStart_of_le (s := ⟨4, ![n0, n1, n2, n3]⟩) (t := ⟨4, ![1, n1, n2, n3]⟩) hs.1 start 3 0 h3 (show 0 + n3 ≤ n3 by omega)
  rw [Host.dynamicSlice_apply]
  refine congrArg x ?_
  funext k
  apply Fin.ext
  match k with
  | ⟨0, _⟩ => exact congrArg (· + 0) c0
  | ⟨1, _⟩ => exact (congrArg (· + (a : ℕ)) c1).trans (Nat.zero_add _)
  | ⟨2, _⟩ => exact (congrArg (· + (b : ℕ)) c2).trans (Nat.zero_add _)
  | ⟨3, _⟩ => exact (congrArg (· + (c : ℕ)) c3).trans (Nat.zero_add _)

/-- An update one long along the first axis, at a computed place of it: the update there, the operand elsewhere. -/
theorem update5 {n0 n1 n2 n3 n4 : ℕ} (x : (⟨5, ![n0, n1, n2, n3, n4]⟩ : Shape).Idx → EReal) (u : (⟨5, ![1, n1, n2, n3, n4]⟩ : Shape).Idx → EReal) (start : Fin 5 → Int)
    (hs : (⟨5, ![n0, n1, n2, n3, n4]⟩ : Shape).Slices (fun _ => 0) ⟨5, ![1, n1, n2, n3, n4]⟩) (j : Fin n0) (hj : start 0 = (j : ℕ))
    (h1 : start 1 = (0 : ℕ)) (h2 : start 2 = (0 : ℕ)) (h3 : start 3 = (0 : ℕ)) (h4 : start 4 = (0 : ℕ)) (p : Fin n0) (a : Fin n1) (b : Fin n2) (c : Fin n3) (d : Fin n4) :
    Host.dynamicUpdateSlice x u start hs (ix5 p a b c d) = if p = j then u (ix5 0 a b c d) else x (ix5 p a b c d) := by
  have c0 := Host.clampedStart_of_le (s := ⟨5, ![n0, n1, n2, n3, n4]⟩) (t := ⟨5, ![1, n1, n2, n3, n4]⟩) hs.1 start 0 j hj (show (j : ℕ) + 1 ≤ n0 from j.isLt)
  have c1 := Host.clampedStart_of_le (s := ⟨5, ![n0, n1, n2, n3, n4]⟩) (t := ⟨5, ![1, n1, n2, n3, n4]⟩) hs.1 start 1 0 h1 (show 0 + n1 ≤ n1 by omega)
  have c2 := Host.clampedStart_of_le (s := ⟨5, ![n0, n1, n2, n3, n4]⟩) (t := ⟨5, ![1, n1, n2, n3, n4]⟩) hs.1 start 2 0 h2 (show 0 + n2 ≤ n2 by omega)
  have c3 := Host.clampedStart_of_le (s := ⟨5, ![n0, n1, n2, n3, n4]⟩) (t := ⟨5, ![1, n1, n2, n3, n4]⟩) hs.1 start 3 0 h3 (show 0 + n3 ≤ n3 by omega)
  have c4 := Host.clampedStart_of_le (s := ⟨5, ![n0, n1, n2, n3, n4]⟩) (t := ⟨5, ![1, n1, n2, n3, n4]⟩) hs.1 start 4 0 h4 (show 0 + n4 ≤ n4 by omega)
  rw [Host.dynamicUpdateSlice_apply]
  by_cases hp : p = j
  · subst hp
    rw [if_pos rfl, dif_pos]
    · refine congrArg u ?_
      funext k
      apply Fin.ext
      match k with
      | ⟨0, _⟩ => exact (congrArg ((p : ℕ) - ·) c0).trans (Nat.sub_self _)
      | ⟨1, _⟩ => exact congrArg ((a : ℕ) - ·) c1
      | ⟨2, _⟩ => exact congrArg ((b : ℕ) - ·) c2
      | ⟨3, _⟩ => exact congrArg ((c : ℕ) - ·) c3
      | ⟨4, _⟩ => exact congrArg ((d : ℕ) - ·) c4
    · intro k
      match k with
      | ⟨0, _⟩ => exact ⟨le_of_eq c0, lt_of_lt_of_eq (Nat.lt_succ_self (p : ℕ)) (congrArg (· + 1) c0).symm⟩
      | ⟨1, _⟩ => exact ⟨le_of_eq_of_le c1 (Nat.zero_le _), lt_of_lt_of_eq a.isLt ((Nat.zero_add _).symm.trans (congrArg (· + n1) c1).symm)⟩
      | ⟨2, _⟩ => exact ⟨le_of_eq_of_le c2 (Nat.zero_le _), lt_of_lt_of_eq b.isLt ((Nat.zero_add _).symm.trans (congrArg (· + n2) c2).symm)⟩
      | ⟨3, _⟩ => exact ⟨le_of_eq_of_le c3 (Nat.zero_le _), lt_of_lt_of_eq c.isLt ((Nat.zero_add _).symm.trans (congrArg (· + n3) c3).symm)⟩
      | ⟨4, _⟩ => exact ⟨le_of_eq_of_le c4 (Nat.zero_le _), lt_of_lt_of_eq d.isLt ((Nat.zero_add _).symm.trans (congrArg (· + n4) c4).symm)⟩
  · rw [if_neg hp, dif_neg]
    intro hin
    have l1 : (j : ℕ) ≤ p := le_of_eq_of_le c0.symm (hin 0).1
    have l2 : (p : ℕ) < j + 1 := lt_of_lt_of_eq (hin 0).2 (congrArg (· + 1) c0)
    exact hp (Fin.ext (by omega))

/-- A chunk's number as a word is that number. -/
theorem word_toInt : ∀ j : Fin 64, (BitVec.ofNat 32 j).toInt = ((j : ℕ) : Int) := by decide

/-! ### Before the loop -/

variable (q k g : S32768x512.Idx → EReal) (v r : S32768x1024.Idx → EReal) (w : S256.Idx → EReal)

/-- The scaled queries, by batch, head, chunk and token. -/
theorem q_at (b : Fin 8) (h : Fin 4) (n i : Fin 64) (d : Fin 128) :
    A_main_v8 (F := Ideal) q k g v (ix5 b h n i d) = (argsOf q k g v r w).Q (4096 * b + 64 * n + i) (128 * h + d) * sc := by
  pointwise [A_main_v8, A_main_v7, A_main_v6, A_main_v0, K_main_v5, K_main_cst]
  exact congrArg (· * sc) (rd_at q _ (4096 * b + 64 * n + i) (128 * h + d) (show (b : ℕ) * 4096 + (n * 64 + i) = 4096 * b + 64 * n + i by omega) (show (h : ℕ) * 128 + d = 128 * h + d by omega))

/-- The keys. -/
theorem k_at (b : Fin 8) (h : Fin 4) (n i : Fin 64) (d : Fin 128) :
    A_main_v10 (F := Ideal) q k g v (ix5 b h n i d) = (argsOf q k g v r w).K (4096 * b + 64 * n + i) (128 * h + d) := by
  pointwise [A_main_v10, A_main_v9, A_main_v1]
  show k _ = rd k (4096 * b + 64 * n + i) (128 * h + d)
  refine rd_at k _ _ _ ?_ ?_
  · show (b : ℕ) * 4096 + n * 64 + i = 4096 * b + 64 * n + i
    omega
  · show (h : ℕ) * 128 + d = 128 * h + d
    omega

/-- The values. -/
theorem v_at (b : Fin 8) (h : Fin 4) (n i : Fin 64) (e : Fin 256) :
    A_main_v12 (F := Ideal) q k g v (ix5 b h n i e) = (argsOf q k g v r w).V (4096 * b + 64 * n + i) (256 * h + e) := by
  pointwise [A_main_v12, A_main_v11, A_main_v3, A_main_v2]
  show v _ = rd v (4096 * b + 64 * n + i) (256 * h + e)
  refine rd_at v _ _ _ ?_ ?_
  · show (b : ℕ) * 4096 + n * 64 + i = 4096 * b + 64 * n + i
    omega
  · show (h : ℕ) * 256 + e = 256 * h + e
    omega

/-- The gates. -/
theorem g_at (b : Fin 8) (h : Fin 4) (n i : Fin 64) (d : Fin 128) :
    A_main_v14 (F := Ideal) q k g v (ix5 b h n i d) = (argsOf q k g v r w).G (4096 * b + 64 * n + i) (128 * h + d) := by
  pointwise [A_main_v14, A_main_v13, A_main_v4]
  show g _ = rd g (4096 * b + 64 * n + i) (128 * h + d)
  refine rd_at g _ _ _ ?_ ?_
  · show (b : ℕ) * 4096 + n * 64 + i = 4096 * b + 64 * n + i
    omega
  · show (h : ℕ) * 128 + d = 128 * h + d
    omega

/-- The summed gates. -/
theorem cum_at (b : Fin 8) (h : Fin 4) (n i : Fin 64) (d : Fin 128) :
    A_main_v15 (F := Ideal) q k g v (ix5 b h n i d) = cum (argsOf q k g v r w) (4096 * b + 64 * n) i (128 * h + d) := by
  have hz : K_main_call0_call0_v0 (F := Ideal) (Shape.Idx.first h_S_) = 0 := Ideal.ofBits_zero .f32
  show Ideal.hostReduceWindowAdd ![1, 1, 1, 64, 1] ![1, 1, 1, 1, 1] ![0, 0, 0, 63, 0] ![0, 0, 0, 0, 0] reduceWindows_S8x4x64x64x128_S8x4x64x64x128_w1s1p0_0_w1s1p0_0_w1s1p0_0_w64s1p63_0_w1s1p0_0 (A_main_v14 (F := Ideal) q k g v) (K_main_call0_call0_v0 (F := Ideal) (Shape.Idx.first h_S_)) _ = _
  rw [hz]
  exact runSum _ _ b h n i d (fun j => (argsOf q k g v r w).G (4096 * b + 64 * n + j) (128 * h + d)) fun j => g_at q k g v r w b h n j d

/-- The lower triangle, the diagonal with it. -/
theorem tril : ∀ i j : Fin 64, Scalar.select (IntOp.cmpi CmpIPredicate.sge (IntOp.addi (BitVec.ofNat 32 i) 0#32) (BitVec.ofNat 32 j)) 1#1 0#1
    = if (j : ℕ) ≤ i then 1#1 else 0#1 := by decide +kernel

/-- A chunk's own weights. -/
theorem att_at (b : Fin 8) (h : Fin 4) (n i j : Fin 64) :
    A_main_v27 (F := Ideal) q k g v (ix5 b h n i j) = att (argsOf q k g v r w) h (4096 * b + 64 * n) i j := by
  pointwise [A_main_v27, A_main_v22, A_main_v21, A_main_v20, A_main_v19, A_main_v16, A_main_v26, A_main_v25, A_main_v24, A_main_v23]
  refine Eq.trans (Finset.sum_congr rfl fun d _ => ?_) (Finset.sum_range (n := 128) (fun κ : ℕ =>
    ((argsOf q k g v r w).Q (4096 * b + 64 * n + i) (128 * h + κ) * sc * Ideal.exp (cum (argsOf q k g v r w) (4096 * b + 64 * n) i (128 * h + κ) - cum (argsOf q k g v r w) (4096 * b + 64 * n) 32 (128 * h + κ)))
    * ((argsOf q k g v r w).K (4096 * b + 64 * n + j) (128 * h + κ) * Ideal.exp (cum (argsOf q k g v r w) (4096 * b + 64 * n) 32 (128 * h + κ) - cum (argsOf q k g v r w) (4096 * b + 64 * n) j (128 * h + κ))))).symm
  rw [q_at q k g v r w, k_at q k g v r w, cum_at q k g v r w, cum_at q k g v r w, cum_at q k g v r w]
  rfl

/-- What a token gets from its own chunk. -/
theorem intra_at (b : Fin 8) (h : Fin 4) (n i : Fin 64) (e : Fin 256) :
    A_main_v29 (F := Ideal) q k g v (ix5 b h n i e) = intra (argsOf q k g v r w) h (4096 * b + 64 * n) i e := by
  pointwise [A_main_v29, A_main_v28, K_main_call2_v1, K_main_call2_v2, K_main_v18, K_main_call1_v0, K_main_call1_v1, K_main_call1_v2, K_main_call1_v3,
    K_main_call1_v4, K_main_call1_v5, K_main_call1_c, K_main_call1_c_0, K_main_c, K_main_v17, K_main_call2_v0, K_main_cst_0]
  refine Eq.trans (b := ∑ x : Fin 64, if (x : ℕ) < i + 1 then att (argsOf q k g v r w) h (4096 * b + 64 * n) i x * (argsOf q k g v r w).V (4096 * b + 64 * n + x) (256 * h + e) else 0)
    (Finset.sum_congr rfl fun x _ => ?_) ?_
  · rw [tril, att_at q k g v r w, v_at q k g v r w]
    by_cases hx : (x : ℕ) ≤ i
    · rw [if_pos hx, if_pos (by omega)]
      rfl
    · rw [if_neg hx, if_neg (by omega)]
      exact (congrArg (· * _) (Ideal.ofBits_zero .f32)).trans (zero_mul _)
  · refine (Finset.sum_range (n := 64) (fun x : ℕ => if x < i + 1 then att (argsOf q k g v r w) h (4096 * b + 64 * n) i x
      * (argsOf q k g v r w).V (4096 * b + 64 * n + x) (256 * h + e) else 0)).symm.trans ?_
    rw [← Finset.sum_filter]
    refine Finset.sum_congr ?_ fun _ _ => rfl
    ext x
    simp only [mem_filter, mem_range]
    omega

/-! ### The loop -/

/-- What does not change over the loop: the weighted queries. -/
theorem qg_at (b : Fin 8) (h : Fin 4) (n i : Fin 64) (d : Fin 128) :
    A_main_v40 (F := Ideal) q k g v (ix5 n b h i d)
      = (argsOf q k g v r w).Q (4096 * b + 64 * n + i) (128 * h + d) * sc * Ideal.exp (cum (argsOf q k g v r w) (4096 * b + 64 * n) i (128 * h + d)) := by
  pointwise [A_main_v40, A_main_v31, A_main_v30]
  rw [q_at q k g v r w, cum_at q k g v r w]

/-- The weighted keys. -/
theorem kd_at (b : Fin 8) (h : Fin 4) (n i : Fin 64) (d : Fin 128) :
    A_main_v41 (F := Ideal) q k g v (ix5 n b h i d)
      = (argsOf q k g v r w).K (4096 * b + 64 * n + i) (128 * h + d)
        * Ideal.exp (cum (argsOf q k g v r w) (4096 * b + 64 * n) 63 (128 * h + d) - cum (argsOf q k g v r w) (4096 * b + 64 * n) i (128 * h + d)) := by
  pointwise [A_main_v41, A_main_v38, A_main_v37, A_main_v36, A_main_v35, A_main_v34, A_main_v33, A_main_v32]
  rw [k_at q k g v r w, cum_at q k g v r w, cum_at q k g v r w]
  rfl

/-- The values by chunk. -/
theorem vc_at (b : Fin 8) (h : Fin 4) (n i : Fin 64) (e : Fin 256) :
    A_main_v42 (F := Ideal) q k g v (ix5 n b h i e) = (argsOf q k g v r w).V (4096 * b + 64 * n + i) (256 * h + e) := by
  pointwise [A_main_v42]
  exact v_at q k g v r w b h n i e

/-- The gates' sums at the chunks' ends. -/
theorem last_at (b : Fin 8) (h : Fin 4) (n : Fin 64) (d : Fin 128) :
    A_main_v43 (F := Ideal) q k g v (ix4 n b h d) = cum (argsOf q k g v r w) (4096 * b + 64 * n) 63 (128 * h + d) := by
  pointwise [A_main_v43, A_main_v33, A_main_v32]
  exact cum_at q k g v r w b h n 63 d

/-- What a token gets from its own chunk, by chunk. -/
theorem intrac_at (b : Fin 8) (h : Fin 4) (n i : Fin 64) (e : Fin 256) :
    A_main_v44 (F := Ideal) q k g v (ix5 n b h i e) = intra (argsOf q k g v r w) h (4096 * b + 64 * n) i e := by
  pointwise [A_main_v44]
  exact intra_at q k g v r w b h n i e

variable (s : State Ideal)

/-- A chunk's slices of the arrays the loop reads. -/
theorem b5_at (j : Fin 64) (b : Fin 8) (h : Fin 4) (i : Fin 64) (d : Fin 128) : b5 j s (ix4 b h i d) = s.main_v46_0 (ix5 j b h i d) := by
  pointwise [b5]
  exact slice5 s.main_v46_0 _ _ j (word_toInt j) rfl rfl rfl rfl b h i d
theorem b11_at (j : Fin 64) (b : Fin 8) (h : Fin 4) (i : Fin 64) (d : Fin 128) : b11 j s (ix4 b h i d) = s.main_v46_1 (ix5 j b h i d) := by
  pointwise [b11]
  exact slice5 s.main_v46_1 _ _ j (word_toInt j) rfl rfl rfl rfl b h i d
theorem b17_at (j : Fin 64) (b : Fin 8) (h : Fin 4) (i : Fin 64) (e : Fin 256) : b17 j s (ix4 b h i e) = s.main_v46_2 (ix5 j b h i e) := by
  pointwise [b17]
  exact slice5 s.main_v46_2 _ _ j (word_toInt j) rfl rfl rfl rfl b h i e
theorem b22_at (j : Fin 64) (b : Fin 8) (h : Fin 4) (d : Fin 128) : b22 j s (ix3 b h d) = s.main_v46_3 (ix4 j b h d) := by
  pointwise [b22]
  exact slice4 s.main_v46_3 _ _ j (word_toInt j) rfl rfl rfl b h d
theorem b28_at (j : Fin 64) (b : Fin 8) (h : Fin 4) (i : Fin 64) (e : Fin 256) : b28 j s (ix4 b h i e) = s.main_v46_4 (ix5 j b h i e) := by
  pointwise [b28]
  exact slice5 s.main_v46_4 _ _ j (word_toInt j) rfl rfl rfl rfl b h i e

/-- The state after a trip. -/
theorem b36_at (j : Fin 64) (b : Fin 8) (h : Fin 4) (d : Fin 128) (e : Fin 256) :
    b36 j s (ix4 b h d e) = Ideal.exp (s.main_v46_3 (ix4 j b h d)) * s.main_v46_6 (ix4 b h d e)
      + ∑ i : Fin 64, s.main_v46_1 (ix5 j b h i d) * s.main_v46_2 (ix5 j b h i e) := by
  pointwise [b36, b34, b35, b33, b32, b31]
  rw [b22_at]
  refine congrArg (_ + ·) (Finset.sum_congr rfl fun i _ => ?_)
  rw [b11_at, b17_at]

/-- The outputs after a trip: the trip's chunk is written. -/
theorem b42_at (j n : Fin 64) (b : Fin 8) (h : Fin 4) (i : Fin 64) (e : Fin 256) :
    b42 j s (ix5 n b h i e) = if n = j then s.main_v46_4 (ix5 j b h i e) + ∑ d : Fin 128, s.main_v46_0 (ix5 j b h i d) * s.main_v46_6 (ix4 b h d e)
      else s.main_v46_7 (ix5 n b h i e) := by
  refine (update5 s.main_v46_7 (b37 j s) _ _ j (word_toInt j) rfl rfl rfl rfl n b h i e).trans ?_
  refine if_congr Iff.rfl ?_ rfl
  pointwise [b37, b30, b29]
  rw [b28_at]
  refine congrArg (_ + ·) (Finset.sum_congr rfl fun d _ => ?_)
  rw [b5_at]

/-- The reference's last lines at an index, of the outputs the loop leaves: the norm, the weights and the gate. -/
theorem last_lines (x4 : S32768x1024.Idx → EReal) (x5 : S256.Idx → EReal) (t : Fin 32768) (d : Fin 1024) (o : ℕ → EReal)
    (ho : ∀ e : Fin 256, s.main_v46_7 (ix5 ⟨(t : ℕ) % 4096 / 64, by omega⟩ ⟨(t : ℕ) / 4096, by omega⟩ ⟨(d : ℕ) / 256, by omega⟩ ⟨(t : ℕ) % 4096 % 64, by omega⟩ e) = o e) :
    R_main_v66 s x4 x5 (ix2 t d) = o (d % 256) * Ideal.rsqrt (Ideal.div (∑ e ∈ range 256, o e * o e) wd + eps) * rd1 x5 (d % 256)
      * (rd x4 t d * Ideal.div 1 (1 + Ideal.exp (-rd x4 t d))) := by
  pointwise [R_main_v66]
  simp only [ho]
  have h5 : rd1 x5 ((d : ℕ) % 256) = x5 (ix1 ⟨(d : ℕ) % 256, Nat.mod_lt _ (by decide)⟩) := rd1_eq x5 ⟨(d : ℕ) % 256, Nat.mod_lt _ (by decide)⟩
  rw [rd_eq x4 t d, h5, Finset.sum_range (n := 256) (fun e => o e * o e)]

/-! ### The whole -/

open Cert.RefRun (seq)

variable (m : (ℓ : Loc nD τ sig) → Buf (Elt Ideal) ℓ) (c : Dev nD)

/-- The reference's arguments. -/
abbrev refArgs : Args :=
  argsOf (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5))

/-- What the loop only reads is as it was before it. -/
theorem seq_fixed (n : ℕ) : (seq m c n).main_v46_0 = (seq m c 0).main_v46_0 ∧ (seq m c n).main_v46_1 = (seq m c 0).main_v46_1
    ∧ (seq m c n).main_v46_2 = (seq m c 0).main_v46_2 ∧ (seq m c n).main_v46_3 = (seq m c 0).main_v46_3 ∧ (seq m c n).main_v46_4 = (seq m c 0).main_v46_4 := by
  induction n with
  | zero => exact ⟨rfl, rfl, rfl, rfl, rfl⟩
  | succ n ih => exact ih

/-- The state before chunk `n`. -/
theorem state_at (n : ℕ) (hn : n ≤ 64) (b : Fin 8) (h : Fin 4) (d : Fin 128) (e : Fin 256) :
    (seq m c n).main_v46_6 (ix4 b h d e) = state (refArgs m c) h (4096 * b) (fun _ _ => 0) n d e := by
  induction n generalizing d e with
  | zero =>
    show K_main_v39 (F := Ideal) (ix4 b h d e) = 0
    pointwise [K_main_v39, K_main_cst_1]
  | succ n ih =>
    obtain ⟨-, e1, e2, e3, -⟩ := seq_fixed m c n
    have hn' : n < 64 := hn
    refine (b36_at (seq m c n) ⟨n, hn'⟩ b h d e).trans ?_
    rw [ih (Nat.le_of_lt hn'), e1, e2, e3]
    refine congrArg₂ (fun x y : EReal => x + y) ?_ ?_
    · exact congrArg (fun x => Ideal.exp x * _) (last_at _ _ _ _ (m ((c.tc : Thread nD τ).loc main_arg4)) (m ((c.tc : Thread nD τ).loc main_arg5)) b h ⟨n, hn'⟩ d)
    · refine Eq.trans (Finset.sum_congr rfl fun i _ => ?_) (Finset.sum_range (n := 64) (fun j : ℕ =>
        ((refArgs m c).K (4096 * b + 64 * n + j) (128 * h + d) * Ideal.exp (cum (refArgs m c) (4096 * b + 64 * n) 63 (128 * h + d) - cum (refArgs m c) (4096 * b + 64 * n) j (128 * h + d)))
          * (refArgs m c).V (4096 * b + 64 * n + j) (256 * h + e))).symm
      exact congrArg₂ (fun x y : EReal => x * y) (kd_at _ _ _ _ (m ((c.tc : Thread nD τ).loc main_arg4)) (m ((c.tc : Thread nD τ).loc main_arg5)) b h ⟨n, hn'⟩ i d)
        (vc_at _ _ _ _ (m ((c.tc : Thread nD τ).loc main_arg4)) (m ((c.tc : Thread nD τ).loc main_arg5)) b h ⟨n, hn'⟩ i e)

/-- The outputs before chunk `n`: the chunks before it are there. -/
theorem outs_at (n : ℕ) (hn : n ≤ 64) (j : Fin 64) (hj : (j : ℕ) < n) (b : Fin 8) (h : Fin 4) (i : Fin 64) (e : Fin 256) :
    (seq m c n).main_v46_7 (ix5 j b h i e) = mix (refArgs m c) h (4096 * b + 64 * j) (state (refArgs m c) h (4096 * b) (fun _ _ => 0) j) i e := by
  induction n with
  | zero => exact absurd hj (Nat.not_lt_zero _)
  | succ n ih =>
    have hn' : n < 64 := hn
    obtain ⟨e0, -, -, -, e4⟩ := seq_fixed m c n
    refine (b42_at (seq m c n) ⟨n, hn'⟩ j b h i e).trans ?_
    by_cases hjn : j = ⟨n, hn'⟩
    · rw [if_pos hjn]
      subst hjn
      rw [e0, e4]
      refine congrArg₂ (fun x y : EReal => x + y) (intrac_at _ _ _ _ (m ((c.tc : Thread nD τ).loc main_arg4)) (m ((c.tc : Thread nD τ).loc main_arg5)) b h ⟨n, hn'⟩ i e) ?_
      refine Eq.trans (Finset.sum_congr rfl fun d _ => ?_) (Finset.sum_range (n := 128) (fun κ : ℕ =>
        ((refArgs m c).Q (4096 * b + 64 * n + i) (128 * h + κ) * sc * Ideal.exp (cum (refArgs m c) (4096 * b + 64 * n) i (128 * h + κ)))
          * state (refArgs m c) h (4096 * b) (fun _ _ => 0) n κ e)).symm
      exact congrArg₂ (fun x y : EReal => x * y) (qg_at _ _ _ _ (m ((c.tc : Thread nD τ).loc main_arg4)) (m ((c.tc : Thread nD τ).loc main_arg5)) b h ⟨n, hn'⟩ i d)
        (state_at m c n (Nat.le_of_lt hn') b h d e)
    · rw [if_neg hjn]
      refine ih (Nat.le_of_lt hn') ?_
      have : (j : ℕ) ≠ n := fun hh => hjn (Fin.ext hh)
      omega

/-- The reference's result. -/
theorem reference_eq (t : Fin 32768) (d : Fin 1024) :
    R_main_v66 (seq m c 64) (m ((c.tc : Thread nD τ).loc main_arg4)) (m ((c.tc : Thread nD τ).loc main_arg5)) (ix2 t d) = result (refArgs m c) t d := by
  generalize hs : seq m c 64 = s
  refine (last_lines s _ _ t d (mix (refArgs m c) ((d : ℕ) / 256) (4096 * (t / 4096) + 64 * (t % 4096 / 64))
    (state (refArgs m c) (d / 256) (4096 * (t / 4096)) (fun _ _ => 0) (t % 4096 / 64)) (t % 4096 % 64)) fun e => ?_).trans ?_
  · rw [← hs]
    exact outs_at m c 64 le_rfl ⟨(t : ℕ) % 4096 / 64, _⟩ (Fin.isLt _) ⟨(t : ℕ) / 4096, _⟩ ⟨(d : ℕ) / 256, _⟩ ⟨(t : ℕ) % 4096 % 64, _⟩ e
  · unfold result fin
    rw [show 4096 * ((t : ℕ) / 4096) + 64 * (t % 4096 / 64) = t / 64 * 64 by omega, show 4096 * ((t : ℕ) / 4096) = t / 4096 * 4096 by omega,
      show (t : ℕ) % 4096 % 64 = t % 64 by omega, show (t : ℕ) / 64 * 64 + t % 64 = t by omega, show 256 * ((d : ℕ) / 256) + d % 256 = d by omega]
    rfl

end Cert.Gla.Ref

end
-- ==== Proof.GlaClaim.lean ====
/- The claim about the gated linear attention: both programs leave the array `result`. -/
module

public import proofs.«01_k».proof.Defs
public import proofs.«01_k».proof.Proof.Gen.KernelIdeal
public import proofs.«01_k».proof.Proof.Gen.ReferenceIdeal
public import proofs.«01_k».proof.Proof.Grid
public import proofs.«01_k».proof.Proof.RefValue
public import Idealize.ShloMosaic.Lib.Claim

@[expose] public section

noncomputable section

namespace Cert.Gla

open Idealize.ShloMosaic Idealize.SL.Sem

/-- The shape the precondition's comparison takes. -/
theorem preFacts : Cert.Pre_gates_below_inf.Facts := ⟨by decide⟩

/-- The word of +∞. -/
theorem inf_word : Ideal.ofBits .f32 0x7F800000#32 = ⊤ := by
  simp [Ideal.ofBits, Ideal.ieee]

/-- The precondition says that no gate is +∞. -/
theorem below_of_pre (m : (ℓ : Loc Cert.KernelIdeal.nD Cert.KernelIdeal.τ Cert.KernelIdeal.sig) → Buf (Elt Ideal) ℓ)
    (h : Cert.Pre_KernelIdeal_gates_below_inf (hPre_gates_below_inf := preFacts) m) (c : Dev Cert.KernelIdeal.nD) :
    Below (m ((c.tc : Thread Cert.KernelIdeal.nD Cert.KernelIdeal.τ).loc Cert.KernelIdeal.main_arg2)) := by
  intro i
  obtain ⟨p, e, rfl⟩ : ∃ (p : Fin 32768) (e : Fin 512), i = ix2 p e := ⟨i 0, i 1, eq_ix2 i⟩
  have e := congrFun (h c) (ix2 p e)
  revert e
  pointwise [Cert.Pre_gates_below_inf.fn]
  rw [inf_word]
  intro hb
  by_contra hn
  rw [decide_eq_false hn] at hb
  exact absurd hb (by decide)

/-- The reference ends with its arguments unchanged and, having no semaphores, with none raised. -/
theorem reference_frame : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩) (Cert.RefRun.run m g)

/-- Kernel and reference compute the same array. -/
theorem algebraic : Cert.algebraic_KernelIdeal_ReferenceIdeal_pre_gates_below_inf (hKernelIdeal := Cert.KernelIdeal.Gen.facts)
    (hReferenceIdeal := Cert.ReferenceIdeal.Gen.facts) (hPre_gates_below_inf := preFacts) := by
  intro m g m' g' hpre hagree
  refine ⟨fun c => Cert.KernelIdeal.Value.G6 m c, Cert.KernelIdeal.Value.run m g, (θ_run Cert.ReferenceIdeal.defs _ _).mono (fun r h c => ⟨(h c).1.trans ?_, (h c).2⟩) (Cert.RefRun.run m' g')⟩
  obtain ⟨a0, a1, a2, a3, a4, a5⟩ := hagree c
  funext i
  obtain ⟨p, e, rfl⟩ : ∃ (p : Fin 32768) (e : Fin 1024), i = ix2 p e := ⟨i 0, i 1, eq_ix2 i⟩
  refine (Ref.reference_eq m' c p e).trans (Eq.trans ?_ (kernel_eq m c (below_of_pre m hpre c) p e).symm)
  have hA : Ref.refArgs m' c = args m c := by
    show argsOf _ _ _ _ _ _ = argsOf _ _ _ _ _ _
    rw [a0, a1, a2, a3, a4, a5]
  rw [hA]

end Cert.Gla

end
-- ==== Proof.PostFrame.lean ====
/- The second kernel runs to its end from any memory and leaves its arguments as they were. -/
module

public import proofs.«01_k».proof.Proof.PostRun

@[expose] public section

set_option maxRecDepth 16384

noncomputable section

namespace Cert.PostRun

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result's window: nothing is said of what is stored there. -/
abbrev forgets (w : Fin cfg0.W) : Bool := match w with
  | ⟨14, _⟩ => true
  | _ => false

/-- What the pipeline is run with: its arrays, each input's block left as it is, and the kernel's own buffers at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
  Φ _ := Pipeline.ΦA spec0 c
  q _ := fullShare
  owed _ := 0

/-- The arrays are those the kernel finds. -/
theorem A_eq (c : Dev nD) (w : Fin cfg0.W) : (dats m 0 c).A w = V m c (Pipeline.arrRef spec0 w) := by
  dsimp only [dats]

/-- Each input's buffer holds its block when the body starts. -/
theorem before_in (c : Dev nD) (t : Fin cfg0.N) :
    (∀ d, (dats m 0 c).before 0 t d = iblk m c 0 t)
      ∧ (∀ d, (dats m 0 c).before 1 t d = iblk m c 1 t)
      ∧ (∀ d, (dats m 0 c).before 2 t d = iblk m c 2 t)
      ∧ (∀ d, (dats m 0 c).before 3 t d = iblk m c 3 t)
      ∧ (∀ d, (dats m 0 c).before 4 t d = iblk m c 4 t)
      ∧ (∀ d, (dats m 0 c).before 5 t d = iblk m c 5 t)
      ∧ (∀ d, (dats m 0 c).before 6 t d = iblk m c 6 t)
      ∧ (∀ d, (dats m 0 c).before 7 t d = iblk m c 7 t)
      ∧ (∀ d, (dats m 0 c).before 8 t d = iblk m c 8 t)
      ∧ (∀ d, (dats m 0 c).before 9 t d = iblk m c 9 t)
      ∧ (∀ d, (dats m 0 c).before 10 t d = iblk m c 10 t)
      ∧ (∀ d, (dats m 0 c).before 11 t d = iblk m c 11 t)
      ∧ (∀ d, (dats m 0 c).before 12 t d = iblk m c 12 t)
      ∧ (∀ d, (dats m 0 c).before 13 t d = iblk m c 13 t) := by
  repeat' apply And.intro
  all_goals
    intro d
    exact (Dat.before_in_eq_fetched _ _ rfl (fun _ => rfl) (fun _ _ _ => rfl) (fun _ => rfl) t d).trans rfl

/-- What the body is given at a point. -/
def bodyPre (c : Dev nD) (t : Fin cfg0.N) : sProp 𝕄 :=
  iprop(Pipeline.ΦA spec0 c ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ X, owns (c : Thread nD τ) (ms0_14 t) fullShare X))

/-- What it gives back. -/
def bodyPost (c : Dev nD) (t : Fin cfg0.N) : sProp 𝕄 :=
  iprop(Pipeline.ΦA spec0 c ∗ (dats m 0 c).owesAt () t.succ
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (iblk m c 10 t)
    ∗ owns (c : Thread nD τ) (ms0_11 t) fullShare (iblk m c 11 t)
    ∗ owns (c : Thread nD τ) (ms0_12 t) fullShare (iblk m c 12 t)
    ∗ owns (c : Thread nD τ) (ms0_13 t) fullShare (iblk m c 13 t)
    ∗ (∃ X, owns (c : Thread nD τ) (ms0_14 t) fullShare X))

set_option maxHeartbeats 12800000 in
/-- The body runs at every point and leaves its inputs as they were. -/
theorem sound_body (c : Dev nD) (t : Fin cfg0.N) :
    bodyPre m c t ⊢ wp frame (wpE (defs₀ (F := F)) Variants.none c none) Set.univ (bodyAt0 t) (fun _ => bodyPost m c t) := by
  obtain ⟨b0, b1, b2, b3, b4, b5, b6, b7, b8, b9, b10, b11, b12, b13⟩ := before_in m c t
  unfold bodyPre bodyPost bodyAt0
  simp only [b0, b1, b2, b3, b4, b5, b6, b7, b8, b9, b10, b11, b12, b13]
  rw [show (dats m 0 c).owesAt () t.succ = (dats m 0 c).owesAt () t.castSucc from rfl, PhiA0_eq]
  iintro ⟨⟨⟨HS0, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((kernelRun c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [HS0]; · iexact HS0
  isplitl [HS1]; · iexact HS1
  iintro ⟨H0, H1, H2, H3, H4, H5, H6, H7, H8, H9, H10, H11, H12, H13, ⟨%e14, H14⟩, ⟨%fT0, HS0⟩, ⟨%es1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexists _; unfold owns; iexists _; isplitr
  swap; · iexact H14
  ipureintro; rfl

/-- The body of the pipeline at a point. -/
theorem defs₀_row (t : Fin cfg0.N) : defs₀ (F := F) .tc cfg0.body (cfg0.bodyArgs t (cfg0.slots t)) = bodyAt0 t := by
  unfold defs₀; rw [Defs.onTc_tc]

set_option maxHeartbeats 1600000 in
/-- What the pipeline asks of the body. -/
theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

set_option maxHeartbeats 1600000 in
set_option backward.isDefEq.respectTransparency.types false in
/-- The program runs to its end; every input's array is as the kernel found it, so is every other array, and the semaphores are at zero. -/
theorem run_main : θ_run defs (onTc (τ := τ) (main (F := F))) (s₀ m ρ)
    (fun r => Pipeline.RDat.FramePost cfg0 (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

set_option maxHeartbeats 1600000 in
/-- Every run ends with the arrays the kernel is called on as they were, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun r h => ⟨fun c => ⟨((Pipeline.RDat.FramePost.arr_in h.1 c 0 rfl).trans (A_eq m c 0)).trans (V_kept m c main_arg0 (by decide)),
      ((Pipeline.RDat.FramePost.arr_in h.1 c 1 rfl).trans (A_eq m c 1)).trans (V_kept m c main_arg1 (by decide)),
      ((h.1 c).2 main_arg2 (Pipeline.mem_restRefs_of main_arg2 (by decide) (by decide))).trans (V_kept m c main_arg2 (by decide)),
      ((h.1 c).2 main_arg3 (Pipeline.mem_restRefs_of main_arg3 (by decide) (by decide))).trans (V_kept m c main_arg3 (by decide)),
      ((h.1 c).2 main_arg4 (Pipeline.mem_restRefs_of main_arg4 (by decide) (by decide))).trans (V_kept m c main_arg4 (by decide)),
      ((h.1 c).2 main_arg5 (Pipeline.mem_restRefs_of main_arg5 (by decide) (by decide))).trans (V_kept m c main_arg5 (by decide)),
      ((Pipeline.RDat.FramePost.arr_in h.1 c 6 rfl).trans (A_eq m c 6)).trans (V_kept m c main_arg6 (by decide)),
      ((Pipeline.RDat.FramePost.arr_in h.1 c 7 rfl).trans (A_eq m c 7)).trans (V_kept m c main_arg7 (by decide)),
      ((h.1 c).2 main_arg8 (Pipeline.mem_restRefs_of main_arg8 (by decide) (by decide))).trans (V_kept m c main_arg8 (by decide)),
      ((h.1 c).2 main_arg9 (Pipeline.mem_restRefs_of main_arg9 (by decide) (by decide))).trans (V_kept m c main_arg9 (by decide)),
      ((h.1 c).2 main_arg10 (Pipeline.mem_restRefs_of main_arg10 (by decide) (by decide))).trans (V_kept m c main_arg10 (by decide)),
      ((Pipeline.RDat.FramePost.arr_in h.1 c 11 rfl).trans (A_eq m c 11)).trans (V_kept m c main_arg11 (by decide)),
      ((h.1 c).2 main_arg12 (Pipeline.mem_restRefs_of main_arg12 (by decide) (by decide))).trans (V_kept m c main_arg12 (by decide)),
      ((h.1 c).2 main_arg13 (Pipeline.mem_restRefs_of main_arg13 (by decide) (by decide))).trans (V_kept m c main_arg13 (by decide))⟩, h.2⟩) (run_main m ρ)

end Cert.PostRun

end
-- ==== Proof.PostSpec.lean ====
/- The second kernel's work as plain formulas over the extended reals: the projection back to the residual stream, the attention over the
   memory, the convolved feed-forward. Arrays are functions of a token and a column. Both programs are read down to these. -/
module

public import proofs.«01_k».proof.Proof.Spec

@[expose] public section

noncomputable section

namespace Cert.Post

open Idealize.ShloMosaic Finset

/-- The arguments, by token or row and column. -/
structure Args where
  X : ℕ → ℕ → EReal
  O : ℕ → ℕ → EReal
  WT : ℕ → ℕ → EReal
  GX : ℕ → EReal
  WQ : ℕ → ℕ → EReal
  GQ : ℕ → EReal
  KM : ℕ → ℕ → EReal
  VM : ℕ → ℕ → EReal
  WO : ℕ → ℕ → EReal
  GF : ℕ → EReal
  WU : ℕ → ℕ → EReal
  CW : ℕ → ℕ → EReal
  CB : ℕ → EReal
  WD : ℕ → ℕ → EReal

open Cert.Gla (rd rd1)

/-- The arguments as the formulas take them. -/
def argsOf (x o : (⟨2, ![32768, 1024]⟩ : Shape).Idx → EReal) (wt : (⟨2, ![1024, 1024]⟩ : Shape).Idx → EReal) (gx : (⟨1, ![1024]⟩ : Shape).Idx → EReal)
    (wq : (⟨2, ![1024, 1024]⟩ : Shape).Idx → EReal) (gq : (⟨1, ![256]⟩ : Shape).Idx → EReal) (km vm : (⟨2, ![2048, 1024]⟩ : Shape).Idx → EReal)
    (wo : (⟨2, ![1024, 1024]⟩ : Shape).Idx → EReal) (gf : (⟨1, ![1024]⟩ : Shape).Idx → EReal) (wu : (⟨2, ![1024, 5632]⟩ : Shape).Idx → EReal)
    (cw : (⟨2, ![3, 5632]⟩ : Shape).Idx → EReal) (cb : (⟨1, ![5632]⟩ : Shape).Idx → EReal) (wd : (⟨2, ![2816, 1024]⟩ : Shape).Idx → EReal) : Args :=
  ⟨rd x, rd o, rd wt, rd1 gx, rd wq, rd1 gq, rd km, rd vm, rd wo, rd1 gf, rd wu, rd cw, rd1 cb, rd wd⟩

/-- The model's width as a number. -/
abbrev w1024 : EReal := Ideal.ofBits .f32 0x44800000#32
/-- A head's width as a number. -/
abbrev w256 : EReal := Ideal.ofBits .f32 0x43800000#32
/-- The norms' guard against division by zero. -/
abbrev eps : EReal := Ideal.ofBits .f32 0x358637BD#32
/-- The scores' scale. -/
abbrev sc : EReal := Ideal.ofBits .f32 0x3D800000#32

/-- A row divided by the root of its mean square and weighted. -/
def rms (n : ℕ) (w : EReal) (x g : ℕ → EReal) (d : ℕ) : EReal :=
  x d * Ideal.rsqrt (Ideal.div (∑ k : Fin n, x k * x k) w + eps) * g d

/-- The largest of 256 scores. -/
def top (s : ℕ → EReal) : EReal := fold max (Ideal.ofBits .f32 0xFF800000#32) (fun k : Fin 256 => s k) univ

/-- The softmax of 256 scores. -/
def soft (s : ℕ → EReal) (j : ℕ) : EReal := Ideal.div (Ideal.exp (s j - top s)) (∑ k : Fin 256, Ideal.exp (s k - top s))

variable (I : Args)

/-- The residual stream after the mixer. -/
def x1 (t d : ℕ) : EReal := I.X t d + ∑ k : Fin 1024, I.O t k * I.WT k d

/-- The queries before their norm. -/
def qu (t j : ℕ) : EReal := ∑ k : Fin 1024, rms 1024 w1024 (x1 I t) I.GX k * I.WQ k j

/-- A head's query. -/
def qn (t h e : ℕ) : EReal := rms 256 w256 (fun e => qu I t (256 * h + e)) I.GQ e

/-- A head's score for the memory's place `s`. -/
def score (t h s : ℕ) : EReal := (∑ e : Fin 256, qn I t h e * I.KM (t / 4096 * 256 + s) (256 * h + e)) * sc

/-- What a head reads from the memory. -/
def att (t h e : ℕ) : EReal := ∑ s : Fin 256, soft (score I t h) s * I.VM (t / 4096 * 256 + s) (256 * h + e)

/-- The residual stream after the attention. -/
def x2 (t d : ℕ) : EReal := x1 I t d + ∑ j : Fin 1024, att I t (j / 256) (j % 256) * I.WO j d

/-- The feed-forward's inner activations. -/
def up (t c : ℕ) : EReal := ∑ k : Fin 1024, rms 1024 w1024 (x2 I t) I.GF k * I.WU k c

/-- They, `n` tokens before, zero before the sequence starts. -/
def back (n t c : ℕ) : EReal := if t % 4096 < n then 0 else up I (t - n) c

/-- They, after the convolution over three tokens. -/
def conv (t c : ℕ) : EReal := I.CB c + I.CW 2 c * up I t c + I.CW 1 c * back I 1 t c + I.CW 0 c * back I 2 t c

/-- The gated products. -/
def gated (t c : ℕ) : EReal := conv I t c * Ideal.div 1 (1 + Ideal.exp (0 - conv I t c)) * conv I t (2816 + c)

/-- The result at token `t` and column `d`. -/
def result (t d : ℕ) : EReal := x2 I t d + ∑ c : Fin 2816, gated I t c * I.WD c d

end Cert.Post

end
-- ==== Proof.PostHead.lean ====
/- The second kernel's block of 512 tokens, read at a place: the residual stream, the attention, the inner activations, the convolution and the gate. -/
module

public import proofs.«01_k».proof.Proof.PostSpec
public import proofs.«01_k».proof.Proof.Gen.Kernel2Ideal.Skeleton

@[expose] public section

noncomputable section

namespace Cert.Post

open Idealize.ShloMosaic Idealize.ShloMosaic.TcCoe Finset Cert.Kernel2Ideal Cert.Kernel2Ideal.Gen

variable {I : Args} {T : ℕ}

/-- Two sums of equal terms. -/
theorem sum_eq {n : ℕ} {f g : Fin n → EReal} (h : ∀ k, f k = g k) : ∑ k, f k = ∑ k, g k := sum_congr rfl fun k _ => h k

/-- The residual stream after the mixer. -/
theorem x1_at {x : FVec Ideal S512x1024 .f32} {o : FVec Ideal S512x1024 .bf16} {w : FVec Ideal S1024x1024 .bf16}
    (hx : ∀ (a : Fin 512) (d : Fin 1024), x (ix2 a d) = I.X (T + a) d) (ho : ∀ (a : Fin 512) (d : Fin 1024), o (ix2 a d) = I.O (T + a) d)
    (hw : ∀ (k d : Fin 1024), w (ix2 k d) = I.WT k d) (a : Fin 512) (d : Fin 1024) : k0_pay2 (F := Ideal) x o w (ix2 a d) = x1 I (T + a) d := by
  pointwise [k0_pay2]
  simp only [hx, ho, hw]
  rfl

/-- A residual stream, normed. -/
theorem norm_at {s : ℕ → ℕ → EReal} {G : ℕ → EReal} {x : FVec Ideal S512x1024 .f32} {g : FVec Ideal S1x1024 .f32}
    (hx : ∀ (a : Fin 512) (d : Fin 1024), x (ix2 a d) = s (T + a) d) (hg : ∀ d : Fin 1024, g (ix2 0 d) = G d) (a : Fin 512) (d : Fin 1024) :
    k0_pay20 (F := Ideal) x g (ix2 a d) = rms 1024 w1024 (s (T + a)) G d := by
  pointwise [k0_pay20]
  simp only [hx, hg]
  rfl

/-- The query's norm follows the mixer's residual stream. -/
theorem pay3_eq (x : FVec Ideal S512x1024 .f32) (o : FVec Ideal S512x1024 .bf16) (w : FVec Ideal S1024x1024 .bf16) (g : FVec Ideal S1x1024 .f32) :
    k0_pay3 (F := Ideal) x o w g = k0_pay20 (k0_pay2 x o w) g := rfl

/-- A head's queries before their norm. -/
theorem qu_at {h : ℕ} {hn : FVec Ideal S512x1024 .bf16} {w : FVec Ideal S1024x256 .bf16}
    (hh : ∀ (a : Fin 512) (d : Fin 1024), hn (ix2 a d) = rms 1024 w1024 (x1 I (T + a)) I.GX d)
    (hw : ∀ (k : Fin 1024) (e : Fin 256), w (ix2 k e) = I.WQ k (256 * h + e)) (a : Fin 512) (e : Fin 256) :
    k0_pay9 (F := Ideal) hn (k0_pay8 w) (ix2 a e) = qu I (T + a) (256 * h + e) := by
  pointwise [k0_pay9, k0_pay8]
  simp only [hh, hw]
  rfl

/-- A head's queries. -/
theorem qn_at {h : ℕ} {q : FVec Ideal S512x256 .f32} {g : FVec Ideal S1x256 .f32}
    (hq : ∀ (a : Fin 512) (e : Fin 256), q (ix2 a e) = qu I (T + a) (256 * h + e)) (hg : ∀ e : Fin 256, g (ix2 0 e) = I.GQ e) (a : Fin 512) (e : Fin 256) :
    k0_pay10 (F := Ideal) (k0_pay4 g) q (ix2 a e) = qn I (T + a) h e := by
  pointwise [k0_pay10, k0_pay4]
  simp only [hq, hg]
  rfl

/-- A head's scores, their maximum taken and exponentiated. -/
theorem exp_at {h : ℕ} {q : FVec Ideal S512x256 .bf16} {k : FVec Ideal S256x256 .bf16} {M : ℕ}
    (hq : ∀ (a : Fin 512) (e : Fin 256), q (ix2 a e) = qn I (T + a) h e) (hk : ∀ (s e : Fin 256), k (ix2 s e) = I.KM (M * 256 + s) (256 * h + e))
    (hM : ∀ a : Fin 512, (T + a) / 4096 = M) (a : Fin 512) (s : Fin 256) :
    k0_pay15 (F := Ideal) q k (ix2 a s) = Ideal.exp (score I (T + a) h s - top (score I (T + a) h)) := by
  pointwise [k0_pay15]
  simp only [hq, hk]
  unfold top score
  rw [hM]

/-- The last head's scores. -/
theorem score_at {h : ℕ} {hn : FVec Ideal S512x1024 .bf16} {w : FVec Ideal S1024x256 .bf16} {g : FVec Ideal S1x256 .f32} {k : FVec Ideal S256x256 .bf16} {M : ℕ}
    (hh : ∀ (a : Fin 512) (d : Fin 1024), hn (ix2 a d) = rms 1024 w1024 (x1 I (T + a)) I.GX d)
    (hw : ∀ (k : Fin 1024) (e : Fin 256), w (ix2 k e) = I.WQ k (256 * h + e)) (hg : ∀ e : Fin 256, g (ix2 0 e) = I.GQ e)
    (hk : ∀ (s e : Fin 256), k (ix2 s e) = I.KM (M * 256 + s) (256 * h + e))
    (hM : ∀ a : Fin 512, (T + a) / 4096 = M) (a : Fin 512) (s : Fin 256) :
    k0_pay14 (F := Ideal) (k0_pay4 g) (k0_pay9 hn (k0_pay8 w)) (k0_pay13 hn (k0_pay8 w)) k (ix2 a s) = score I (T + a) h s := by
  pointwise [k0_pay14, k0_pay4, k0_pay13]
  simp only [qu_at hh hw, hg, hk]
  unfold score
  rw [hM]
  rfl

/-- The last head's largest score. -/
theorem top_at {h : ℕ} {hn : FVec Ideal S512x1024 .bf16} {w : FVec Ideal S1024x256 .bf16} {g : FVec Ideal S1x256 .f32} {k : FVec Ideal S256x256 .bf16} {M : ℕ}
    (hh : ∀ (a : Fin 512) (d : Fin 1024), hn (ix2 a d) = rms 1024 w1024 (x1 I (T + a)) I.GX d)
    (hw : ∀ (k : Fin 1024) (e : Fin 256), w (ix2 k e) = I.WQ k (256 * h + e)) (hg : ∀ e : Fin 256, g (ix2 0 e) = I.GQ e)
    (hk : ∀ (s e : Fin 256), k (ix2 s e) = I.KM (M * 256 + s) (256 * h + e))
    (hM : ∀ a : Fin 512, (T + a) / 4096 = M) (a : Fin 512) (s : Fin 256) :
    k0_pay18 (F := Ideal) (k0_pay4 g) (k0_pay9 hn (k0_pay8 w)) (k0_pay13 hn (k0_pay8 w)) k (ix2 a s) = top (score I (T + a) h) := by
  pointwise [k0_pay18]
  simp only [score_at hh hw hg hk hM]
  rfl

/-- Four heads' exponentials and values, joined and projected: the residual stream after the attention. -/
theorem x2_at {M : ℕ} {x : FVec Ideal S512x1024 .f32} {s3 p0 p1 p2 t3 : FVec Ideal S512x256 .f32} {v0 v1 v2 v3 : FVec Ideal S256x256 .bf16} {w : FVec Ideal S1024x1024 .bf16}
    (hx : ∀ (a : Fin 512) (d : Fin 1024), x (ix2 a d) = x1 I (T + a) d)
    (h0 : ∀ (a : Fin 512) (s : Fin 256), p0 (ix2 a s) = Ideal.exp (score I (T + a) 0 s - top (score I (T + a) 0)))
    (h1 : ∀ (a : Fin 512) (s : Fin 256), p1 (ix2 a s) = Ideal.exp (score I (T + a) 1 s - top (score I (T + a) 1)))
    (h2 : ∀ (a : Fin 512) (s : Fin 256), p2 (ix2 a s) = Ideal.exp (score I (T + a) 2 s - top (score I (T + a) 2)))
    (h3 : ∀ (a : Fin 512) (s : Fin 256), s3 (ix2 a s) = score I (T + a) 3 s)
    (ht : ∀ (a : Fin 512) (s : Fin 256), t3 (ix2 a s) = top (score I (T + a) 3))
    (w0 : ∀ (s e : Fin 256), v0 (ix2 s e) = I.VM (M * 256 + s) (256 * 0 + e)) (w1 : ∀ (s e : Fin 256), v1 (ix2 s e) = I.VM (M * 256 + s) (256 * 1 + e))
    (w2 : ∀ (s e : Fin 256), v2 (ix2 s e) = I.VM (M * 256 + s) (256 * 2 + e)) (w3 : ∀ (s e : Fin 256), v3 (ix2 s e) = I.VM (M * 256 + s) (256 * 3 + e))
    (hw : ∀ (k d : Fin 1024), w (ix2 k d) = I.WO k d) (hM : ∀ a : Fin 512, (T + a) / 4096 = M) (a : Fin 512) (d : Fin 1024) :
    k0_pay19 (F := Ideal) x s3 p0 p1 p2 t3 v0 v1 v2 v3 w (ix2 a d) = x2 I (T + a) d := by
  pointwise [k0_pay19]
  simp only [hx, h0, h1, h2, h3, ht, w0, w1, w2, w3, hw]
  refine congrArg₂ (· + ·) rfl (sum_eq fun j => congrArg₂ (· * ·) ?_ rfl)
  unfold att soft
  rw [hM]
  have hj := j.isLt
  split_ifs with c0 c1 c2
  · rw [show (j : ℕ) / 256 = 0 by omega, show (j : ℕ) % 256 = j by omega]
  · rw [show (j : ℕ) / 256 = 1 by omega, show (j : ℕ) % 256 = j - 256 by omega]
  · rw [show (j : ℕ) / 256 = 2 by omega, show (j : ℕ) % 256 = j - 256 - 256 by omega]
  · rw [show (j : ℕ) / 256 = 3 by omega, show (j : ℕ) % 256 = j - 256 - 256 - 256 by omega]

/-- A column tile of the inner activations. -/
theorem up_at {n : ℕ} {h : FVec Ideal S512x1024 .bf16} {w : FVec Ideal S1024x256 .bf16}
    (hh : ∀ (a : Fin 512) (d : Fin 1024), h (ix2 a d) = rms 1024 w1024 (x2 I (T + a)) I.GF d)
    (hw : ∀ (k : Fin 1024) (e : Fin 256), w (ix2 k e) = I.WU k (n + e)) (a : Fin 512) (e : Fin 256) :
    k0_pay52 (F := Ideal) h w (ix2 a e) = up I (T + a) (n + e) := by
  pointwise [k0_pay52]
  simp only [hh, hw]
  rfl

/-- A tile's last eight rows. -/
theorem tail_at {n : ℕ} {u : FVec Ideal S512x256 .f32} (hu : ∀ (a : Fin 512) (e : Fin 256), u (ix2 a e) = up I (T + a) (n + e)) (r : Fin 8) (e : Fin 256) :
    k0_pay56 (F := Ideal) u (ix3 0 r e) = up I (T + 504 + r) (n + e) := by
  pointwise [k0_pay56]
  rw [hu]
  exact congrArg (fun t => up I t _) (by show T + (504 + (r : ℕ)) = _; omega)

/-- A column tile of the convolution, from the rows kept of the tokens before. -/
theorem conv_at {n : ℕ} {h : FVec Ideal S512x1024 .bf16} {w : FVec Ideal S1024x256 .bf16} {f : BitVec 1} {p : FVec Ideal S1x8x256 .f32}
    {cw : FVec Ideal S3x256 .f32} {cb : FVec Ideal S1x256 .f32} (hT : T % 512 = 0)
    (hh : ∀ (a : Fin 512) (d : Fin 1024), h (ix2 a d) = rms 1024 w1024 (x2 I (T + a)) I.GF d)
    (hw : ∀ (k : Fin 1024) (e : Fin 256), w (ix2 k e) = I.WU k (n + e))
    (hp : ∀ (r : Fin 8) (e : Fin 256), (Scalar.select f (0 : EReal) (p (ix3 0 r e)) : EReal) = if T % 4096 = 0 then 0 else up I (T - 8 + r) (n + e))
    (hcw : ∀ (j : Fin 3) (e : Fin 256), cw (ix2 j e) = I.CW j (n + e)) (hcb : ∀ e : Fin 256, cb (ix2 0 e) = I.CB (n + e)) (a : Fin 512) (e : Fin 256) :
    k0_pay54 (F := Ideal) h f w p cw cb (ix2 a e) = conv I (T + a) (n + e) := by
  pointwise [k0_pay54]
  simp only [up_at hh hw, hcw, hcb]
  have ha := a.isLt
  have e1 : (if h_1 : 7 + (a : ℕ) < 8 then (Scalar.select f (0 : EReal) (p (ix3 0 ⟨7 + (a : ℕ), h_1⟩ e)) : EReal) else up I (T + (7 + (a : ℕ) - 8)) (n + e))
      = back I 1 (T + a) (n + e) := by
    unfold back
    by_cases c1 : 7 + (a : ℕ) < 8
    · rw [dif_pos c1, hp]
      by_cases hz : T % 4096 = 0
      · rw [if_pos hz, if_pos (by omega)]
      · rw [if_neg hz, if_neg (by omega)]
        exact congrArg (fun t => up I t _) (by show T - 8 + (7 + (a : ℕ)) = _; omega)
    · rw [dif_neg c1, if_neg (by omega)]
      exact congrArg (fun t => up I t _) (by omega)
  have e2 : (if h_1 : 6 + (a : ℕ) < 8 then (Scalar.select f (0 : EReal) (p (ix3 0 ⟨6 + (a : ℕ), h_1⟩ e)) : EReal) else up I (T + (6 + (a : ℕ) - 8)) (n + e))
      = back I 2 (T + a) (n + e) := by
    unfold back
    by_cases c1 : 6 + (a : ℕ) < 8
    · rw [dif_pos c1, hp]
      by_cases hz : T % 4096 = 0
      · rw [if_pos hz, if_pos (by omega)]
      · rw [if_neg hz, if_neg (by omega)]
        exact congrArg (fun t => up I t _) (by show T - 8 + (6 + (a : ℕ)) = _; omega)
    · rw [dif_neg c1, if_neg (by omega)]
      exact congrArg (fun t => up I t _) (by omega)
  exact congrArg₂ (· + ·) (congrArg₂ (· + ·) rfl (congrArg (_ * ·) e1)) (congrArg (_ * ·) e2)

/-- A column tile of the gated products. -/
theorem gated_at {n : ℕ} {g v : FVec Ideal S512x256 .f32} (hg : ∀ (a : Fin 512) (e : Fin 256), g (ix2 a e) = conv I (T + a) (n + e))
    (hv : ∀ (a : Fin 512) (e : Fin 256), v (ix2 a e) = conv I (T + a) (2816 + n + e)) (a : Fin 512) (e : Fin 256) :
    k0_pay42 (F := Ideal) g v (subf (broadcast S512x256 (Scalar.ofBits .f32 0x00000000#32)) g) (ix2 a e) = gated I (T + a) (n + e) := by
  pointwise [k0_pay42]
  simp only [hg, hv]
  unfold gated
  rw [Nat.add_assoc]

/-- The result's block. -/
theorem result_at {x : FVec Ideal S512x1024 .f32} {g : FVec Ideal S512x2816 .bf16} {w : FVec Ideal S2816x1024 .bf16}
    (hx : ∀ (a : Fin 512) (d : Fin 1024), x (ix2 a d) = x2 I (T + a) d) (hg : ∀ (a : Fin 512) (c : Fin 2816), g (ix2 a c) = gated I (T + a) c)
    (hw : ∀ (c : Fin 2816) (d : Fin 1024), w (ix2 c d) = I.WD c d) (a : Fin 512) (d : Fin 1024) :
    k0_pay1 (F := Ideal) x g w (ix2 a d) = result I (T + a) d := by
  pointwise [k0_pay1]
  simp only [hx, hg, hw]
  rfl

end Cert.Post

end
-- ==== Proof.PostRunIdeal.lean ====
/- One point of the second kernel's grid, at the idealized program: its run, and what it stores. -/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.PostRunIdeal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's arrays when the kernel starts: after the host's casts of the weights to bf16 and its reshapes of the vectors to rows. -/
abbrev V (c : Dev nD) (b : Ref sig .tc) : Buf (Elt F) ((c : Thread nD τ).loc b) := StableHlo.after hostOps0 (fun b => m (c, b)) b

/-- The host's operations allocate nothing. -/
theorem hostOps0_fresh : (hostOps0 : List (HloOp τ sig (Elt F))).Forall fun op => op.fresh = ∅ := by
  simp only [List.Forall]; repeat' constructor

set_option maxHeartbeats 800000 in
/-- The program is the host's operations and then the kernel. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The arrays the host's operations write. -/
abbrev written : List (Ref sig .tc) := [main_v0, main_v1, main_v2, main_v3, main_v4, main_v5, main_v6, main_v7, main_v8]

/-- The host's operations leave every other array as it was. -/
theorem V_kept (c : Dev nD) (b : Ref sig .tc) (h : ∀ r ∈ written, b ≠ r) : V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    repeat' apply And.intro
    all_goals exact StableHlo.devRef_ne_of_ne (h _ (by decide))))

/-- Window `w`'s block at point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each window's buffer at a point. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x5632 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S3x5632 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x5632 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S2816x1024 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S512x1024 .f32 := win0_14.stage (cfg0.slots t 14)
abbrev hs0_14 (t : Fin cfg0.N) : (ms0_14 t).IsWhole := hstage0_14 ((cfg0.slots t 14).cast nbuf0_14)
/-- The kernel's own buffers: the gated products, and the last rows of the block before. -/
abbrev scM0_0 : Memref sig .tc .vmem S512x2816 .bf16 := Memref.whole cc0_scratch0
@[inherit_doc scM0_0] abbrev scM0_1 : Memref sig .tc .vmem S22x8x256 .f32 := Memref.whole cc0_scratch1

/-- The kernel's own buffers and the generator, at anything. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

set_option maxHeartbeats 1600000 in
/-- One point of the grid runs to its end and leaves its inputs as they were; what it stores, as pieces (last first): into the result's block,
    into the last rows carried to the next point, and into the gated products. -/
noncomputable def kernelRun (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x256 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S3x5632 .f32) (harg12 : arg12.IsWhole) (arg13 : Memref sig .tc .vmem S1x5632 .f32) (harg13 : arg13.IsWhole) (arg14 : Memref sig .tc .vmem S2816x1024 .bf16) (harg14 : arg14.IsWhole) (arg15 : Memref sig .tc .vmem S512x1024 .f32) (harg15 : arg15.IsWhole) (arg16 : Memref sig .tc .vmem S512x2816 .bf16) (harg16 : arg16.IsWhole) (arg17 : Memref sig .tc .vmem S22x8x256 .f32) (harg17 : arg17.IsWhole)
    (x0 : Vec F S512x1024 .f32) (x1 : Vec F S512x1024 .bf16) (x2 : Vec F S1024x1024 .bf16) (x3 : Vec F S1x1024 .f32) (x4 : Vec F S1024x1024 .bf16) (x5 : Vec F S1x256 .f32) (x6 : Vec F S256x1024 .bf16) (x7 : Vec F S256x1024 .bf16) (x8 : Vec F S1024x1024 .bf16) (x9 : Vec F S1x1024 .f32) (x10 : Vec F S1024x5632 .bf16) (x11 : Vec F S3x5632 .f32) (x12 : Vec F S1x5632 .f32) (x13 : Vec F S2816x1024 .bf16) (xs1 : Vec F S22x8x256 .f32) :
    Σ' (L14 : List (View.Piece (Elt F) S512x1024 .f32)), Σ' (LS1 : List (View.Piece (Elt F) S22x8x256 .f32)), { LT0 : List (View.Piece (Elt F) S512x2816 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ owns (c : Thread nD τ) arg17 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f LT0) ∗ (∃ f, arg17.view.loc (c : Thread nD τ) ↦[arg17.view.set]{fullShare} arg17.view.writes (Elt F) f LS1)) -∗ K ⟨⟩))
          ⊢ wp frame (wpE (defs₀ (F := F)) Variants.none c none) E (cc0_post i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0_post_eq_skeleton]; unfold cc0_post_skel
    simp only [k0_part25_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg17.eq_unread hfs1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [HS0]; · iexists _; iexact HS0
    iexists _; iexact HS1

section
variable (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x256 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S3x5632 .f32) (harg12 : arg12.IsWhole) (arg13 : Memref sig .tc .vmem S1x5632 .f32) (harg13 : arg13.IsWhole) (arg14 : Memref sig .tc .vmem S2816x1024 .bf16) (harg14 : arg14.IsWhole) (arg15 : Memref sig .tc .vmem S512x1024 .f32) (harg15 : arg15.IsWhole) (arg16 : Memref sig .tc .vmem S512x2816 .bf16) (harg16 : arg16.IsWhole) (arg17 : Memref sig .tc .vmem S22x8x256 .f32) (harg17 : arg17.IsWhole)
  (x0 : Vec F S512x1024 .f32) (x1 : Vec F S512x1024 .bf16) (x2 : Vec F S1024x1024 .bf16) (x3 : Vec F S1x1024 .f32) (x4 : Vec F S1024x1024 .bf16) (x5 : Vec F S1x256 .f32) (x6 : Vec F S256x1024 .bf16) (x7 : Vec F S256x1024 .bf16) (x8 : Vec F S1024x1024 .bf16) (x9 : Vec F S1x1024 .f32) (x10 : Vec F S1024x5632 .bf16) (x11 : Vec F S3x5632 .f32) (x12 : Vec F S1x5632 .f32) (x13 : Vec F S2816x1024 .bf16) (xs1 : Vec F S22x8x256 .f32)

/-- The stores into the result cover its block. -/
theorem cover14 (y : S512x1024.Idx) : ∃ pc ∈ (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 xs1).1, y ∈ pc.1.set :=
  View.cover_of_tiledL (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 xs1).1 S512x1024.size (by sl_kernel_rfl) y

/-- The stores into the carried rows cover them. -/
theorem coverS (y : S22x8x256.Idx) : ∃ pc ∈ (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 xs1).2.1, y ∈ pc.1.set :=
  View.cover_of_tiledL (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 xs1).2.1 S1x8x256.size (by sl_kernel_rfl) y
end

end Cert.PostRunIdeal

end
-- ==== Proof.PostBlock.lean ====
/- One grid point of the second kernel: what its body leaves in the result's block and in the rows kept for the next point. -/
module

public import proofs.«01_k».proof.Proof.PostHead
public import proofs.«01_k».proof.Proof.PostRunIdeal
public import Idealize.ShloMosaic.Lib.Pipeline.ValueKit.Tiles

@[expose] public section

set_option maxRecDepth 16384

noncomputable section

namespace Cert.Post

open Idealize.ShloMosaic Idealize.ShloMosaic.TcCoe Finset Cert.Kernel2Ideal Cert.Kernel2Ideal.Gen Cert.PostRunIdeal
open Idealize.SL.Sem

/-- The input blocks hold the tokens from `T` on, their sequence's memory, and the weights. -/
structure BlockAt (I : Args) (T : ℕ) (x0 : Vec Ideal S512x1024 .f32) (x1 : Vec Ideal S512x1024 .bf16) (x2 : Vec Ideal S1024x1024 .bf16) (x3 : Vec Ideal S1x1024 .f32) (x4 : Vec Ideal S1024x1024 .bf16) (x5 : Vec Ideal S1x256 .f32) (x6 : Vec Ideal S256x1024 .bf16) (x7 : Vec Ideal S256x1024 .bf16) (x8 : Vec Ideal S1024x1024 .bf16) (x9 : Vec Ideal S1x1024 .f32) (x10 : Vec Ideal S1024x5632 .bf16) (x11 : Vec Ideal S3x5632 .f32) (x12 : Vec Ideal S1x5632 .f32) (x13 : Vec Ideal S2816x1024 .bf16) : Prop where
  hT : T % 512 = 0
  x : ∀ (a : Fin 512) (d : Fin 1024), x0 (ix2 a d) = I.X (T + a) d
  o : ∀ (a : Fin 512) (d : Fin 1024), x1 (ix2 a d) = I.O (T + a) d
  wt : ∀ k d : Fin 1024, x2 (ix2 k d) = I.WT k d
  gx : ∀ d : Fin 1024, x3 (ix2 0 d) = I.GX d
  wq : ∀ k d : Fin 1024, x4 (ix2 k d) = I.WQ k d
  gq : ∀ e : Fin 256, x5 (ix2 0 e) = I.GQ e
  km : ∀ (s : Fin 256) (d : Fin 1024), x6 (ix2 s d) = I.KM (T / 4096 * 256 + s) d
  vm : ∀ (s : Fin 256) (d : Fin 1024), x7 (ix2 s d) = I.VM (T / 4096 * 256 + s) d
  wo : ∀ k d : Fin 1024, x8 (ix2 k d) = I.WO k d
  gf : ∀ d : Fin 1024, x9 (ix2 0 d) = I.GF d
  wu : ∀ (k : Fin 1024) (c : Fin 5632), x10 (ix2 k c) = I.WU k c
  cw : ∀ (j : Fin 3) (c : Fin 5632), x11 (ix2 j c) = I.CW j c
  cb : ∀ c : Fin 5632, x12 (ix2 0 c) = I.CB c
  wd : ∀ (k : Fin 2816) (d : Fin 1024), x13 (ix2 k d) = I.WD k d

/-- A block read whole is the block. -/
theorem ld_all {n k : ℕ} {e : EltTy} (x : Vec Ideal (⟨2, ![n, k]⟩ : Shape) e) (inb) (a : Fin n) (b : Fin k) :
    View.ld (Val := Elt Ideal) (e' := e) x (Rect.unit (s := ⟨2, ![n, k]⟩) ![0, 0] ![n, k] inb) (ix2 a b) = x (ix2 a b) :=
  congrFun (View.ld_unit_zero (S := ⟨2, ![n, k]⟩) (funext fun a => by fin_cases a <;> rfl) _ x) _

/-- Columns read out of a block. -/
theorem ld_cols {r n k : ℕ} {e : EltTy} (x : Vec Ideal (⟨2, ![r, n]⟩ : Shape) e) (o : ℕ) (inb) (a : Fin r) (b : Fin k) (h : o + b < n) :
    View.ld (Val := Elt Ideal) (e' := e) x (Rect.unit (s := ⟨2, ![r, n]⟩) ![0, o] ![r, k] inb) (ix2 a b) = x (ix2 a ⟨o + b, h⟩) :=
  View.ld_unit_apply_of x ![0, o] ![r, k] inb (ix2 a b) (ix2 a ⟨o + b, h⟩) fun i => by
    fin_cases i
    · show (a : ℕ) = 0 + a
      omega
    · rfl

/-- A tile's kept rows read out of all of them. -/
theorem ld_rows (x : Vec Ideal S22x8x256 .f32) (j : ℕ) (hj : j < 22) (inb) (r : Fin 8) (e : Fin 256) :
    View.ld (Val := Elt Ideal) (e' := .f32) x (Rect.unit (s := S22x8x256) ![j, 0, 0] ![1, 8, 256] inb) (ix3 0 r e) = x (ix3 ⟨j, hj⟩ r e) :=
  View.ld_unit_apply_of x ![j, 0, 0] ![1, 8, 256] inb (ix3 0 r e) (ix3 ⟨j, hj⟩ r e) fun i => by
    fin_cases i
    · rfl
    · show (r : ℕ) = 0 + r
      omega
    · show (e : ℕ) = 0 + e
      omega

/-- The residual stream after the attention, as the body computes it from the blocks. -/
def res (x0 : Vec Ideal S512x1024 .f32) (x1 : Vec Ideal S512x1024 .bf16) (x2 : Vec Ideal S1024x1024 .bf16) (x3 : Vec Ideal S1x1024 .f32) (x4 : Vec Ideal S1024x1024 .bf16) (x5 : Vec Ideal S1x256 .f32) (x6 : Vec Ideal S256x1024 .bf16) (x7 : Vec Ideal S256x1024 .bf16) (x8 : Vec Ideal S1024x1024 .bf16) : FVec Ideal S512x1024 .f32 :=
  k0_pay19 (k0_pay2 (View.ld x0 (Rect.unit ![0, 0] ![512, 1024] inb_S512x1024_S512x1024_0_0)) (View.ld x1 (Rect.unit ![0, 0] ![512, 1024] inb_S512x1024_S512x1024_0_0)) (View.ld x2 (Rect.unit ![0, 0] ![1024, 1024] inb_S1024x1024_S1024x1024_0_0)))
    (k0_pay14 (k0_pay4 (View.ld x5 (Rect.unit ![0, 0] ![1, 256] inb_S1x256_S1x256_0_0))) (k0_pay9 (k0_pay3 (View.ld x0 (Rect.unit ![0, 0] ![512, 1024] inb_S512x1024_S512x1024_0_0)) (View.ld x1 (Rect.unit ![0, 0] ![512, 1024] inb_S512x1024_S512x1024_0_0)) (View.ld x2 (Rect.unit ![0, 0] ![1024, 1024] inb_S1024x1024_S1024x1024_0_0)) (View.ld x3 (Rect.unit ![0, 0] ![1, 1024] inb_S1x1024_S1x1024_0_0))) (k0_pay8 (View.ld x4 (Rect.unit ![0, 768] ![1024, 256] inb_S1024x1024_S1024x256_0_768)))) (k0_pay13 (k0_pay3 (View.ld x0 (Rect.unit ![0, 0] ![512, 1024] inb_S512x1024_S512x1024_0_0)) (View.ld x1 (Rect.unit ![0, 0] ![512, 1024] inb_S512x1024_S512x1024_0_0)) (View.ld x2 (Rect.unit ![0, 0] ![1024, 1024] inb_S1024x1024_S1024x1024_0_0)) (View.ld x3 (Rect.unit ![0, 0] ![1, 1024] inb_S1x1024_S1x1024_0_0))) (k0_pay8 (View.ld x4 (Rect.unit ![0, 768] ![1024, 256] inb_S1024x1024_S1024x256_0_768)))) (View.ld x6 (Rect.unit ![0, 768] ![256, 256] inb_S256x1024_S256x256_0_768)))
    (k0_pay15 (k0_pay10 (k0_pay4 (View.ld x5 (Rect.unit ![0, 0] ![1, 256] inb_S1x256_S1x256_0_0))) (k0_pay5 (View.ld x0 (Rect.unit ![0, 0] ![512, 1024] inb_S512x1024_S512x1024_0_0)) (View.ld x1 (Rect.unit ![0, 0] ![512, 1024] inb_S512x1024_S512x1024_0_0)) (View.ld x2 (Rect.unit ![0, 0] ![1024, 1024] inb_S1024x1024_S1024x1024_0_0)) (View.ld x3 (Rect.unit ![0, 0] ![1, 1024] inb_S1x1024_S1x1024_0_0)) (View.ld x4 (Rect.unit ![0, 0] ![1024, 256] inb_S1024x1024_S1024x256_0_0)))) (View.ld x6 (Rect.unit ![0, 0] ![256, 256] inb_S256x1024_S256x256_0_0)))
    (k0_pay16 (k0_pay11 (k0_pay4 (View.ld x5 (Rect.unit ![0, 0] ![1, 256] inb_S1x256_S1x256_0_0))) (k0_pay6 (View.ld x0 (Rect.unit ![0, 0] ![512, 1024] inb_S512x1024_S512x1024_0_0)) (View.ld x1 (Rect.unit ![0, 0] ![512, 1024] inb_S512x1024_S512x1024_0_0)) (View.ld x2 (Rect.unit ![0, 0] ![1024, 1024] inb_S1024x1024_S1024x1024_0_0)) (View.ld x3 (Rect.unit ![0, 0] ![1, 1024] inb_S1x1024_S1x1024_0_0)) (View.ld x4 (Rect.unit ![0, 256] ![1024, 256] inb_S1024x1024_S1024x256_0_256)))) (View.ld x6 (Rect.unit ![0, 256] ![256, 256] inb_S256x1024_S256x256_0_256)))
    (k0_pay17 (k0_pay12 (k0_pay4 (View.ld x5 (Rect.unit ![0, 0] ![1, 256] inb_S1x256_S1x256_0_0))) (k0_pay7 (View.ld x0 (Rect.unit ![0, 0] ![512, 1024] inb_S512x1024_S512x1024_0_0)) (View.ld x1 (Rect.unit ![0, 0] ![512, 1024] inb_S512x1024_S512x1024_0_0)) (View.ld x2 (Rect.unit ![0, 0] ![1024, 1024] inb_S1024x1024_S1024x1024_0_0)) (View.ld x3 (Rect.unit ![0, 0] ![1, 1024] inb_S1x1024_S1x1024_0_0)) (View.ld x4 (Rect.unit ![0, 512] ![1024, 256] inb_S1024x1024_S1024x256_0_512)))) (View.ld x6 (Rect.unit ![0, 512] ![256, 256] inb_S256x1024_S256x256_0_512)))
    (k0_pay18 (k0_pay4 (View.ld x5 (Rect.unit ![0, 0] ![1, 256] inb_S1x256_S1x256_0_0))) (k0_pay9 (k0_pay3 (View.ld x0 (Rect.unit ![0, 0] ![512, 1024] inb_S512x1024_S512x1024_0_0)) (View.ld x1 (Rect.unit ![0, 0] ![512, 1024] inb_S512x1024_S512x1024_0_0)) (View.ld x2 (Rect.unit ![0, 0] ![1024, 1024] inb_S1024x1024_S1024x1024_0_0)) (View.ld x3 (Rect.unit ![0, 0] ![1, 1024] inb_S1x1024_S1x1024_0_0))) (k0_pay8 (View.ld x4 (Rect.unit ![0, 768] ![1024, 256] inb_S1024x1024_S1024x256_0_768)))) (k0_pay13 (k0_pay3 (View.ld x0 (Rect.unit ![0, 0] ![512, 1024] inb_S512x1024_S512x1024_0_0)) (View.ld x1 (Rect.unit ![0, 0] ![512, 1024] inb_S512x1024_S512x1024_0_0)) (View.ld x2 (Rect.unit ![0, 0] ![1024, 1024] inb_S1024x1024_S1024x1024_0_0)) (View.ld x3 (Rect.unit ![0, 0] ![1, 1024] inb_S1x1024_S1x1024_0_0))) (k0_pay8 (View.ld x4 (Rect.unit ![0, 768] ![1024, 256] inb_S1024x1024_S1024x256_0_768)))) (View.ld x6 (Rect.unit ![0, 768] ![256, 256] inb_S256x1024_S256x256_0_768)))
    (View.ld x7 (Rect.unit ![0, 0] ![256, 256] inb_S256x1024_S256x256_0_0)) (View.ld x7 (Rect.unit ![0, 256] ![256, 256] inb_S256x1024_S256x256_0_256)) (View.ld x7 (Rect.unit ![0, 512] ![256, 256] inb_S256x1024_S256x256_0_512)) (View.ld x7 (Rect.unit ![0, 768] ![256, 256] inb_S256x1024_S256x256_0_768)) (View.ld x8 (Rect.unit ![0, 0] ![1024, 1024] inb_S1024x1024_S1024x1024_0_0))

/-- It, normed for the feed-forward. -/
def hf (x0 : Vec Ideal S512x1024 .f32) (x1 : Vec Ideal S512x1024 .bf16) (x2 : Vec Ideal S1024x1024 .bf16) (x3 : Vec Ideal S1x1024 .f32) (x4 : Vec Ideal S1024x1024 .bf16) (x5 : Vec Ideal S1x256 .f32) (x6 : Vec Ideal S256x1024 .bf16) (x7 : Vec Ideal S256x1024 .bf16) (x8 : Vec Ideal S1024x1024 .bf16) (x9 : Vec Ideal S1x1024 .f32) : FVec Ideal S512x1024 .bf16 :=
  k0_pay20 (res x0 x1 x2 x3 x4 x5 x6 x7 x8) (View.ld x9 (Rect.unit ![0, 0] ![1, 1024] inb_S1x1024_S1x1024_0_0))

/-- Whether a point starts a sequence, as the body computes it from the point's number. -/
def first (w : BitVec 32) : BitVec 1 :=
  Scalar.cmpi .eq (Scalar.select (Scalar.andi (Scalar.xori (Scalar.cmpi .slt (Scalar.remsi (Scalar.muli w 512#32) 4096#32) 0#32) 0#1)
    (Scalar.cmpi .ne (Scalar.remsi (Scalar.muli w 512#32) 4096#32) 0#32)) (Scalar.addi (Scalar.remsi (Scalar.muli w 512#32) 4096#32) 4096#32)
    (Scalar.remsi (Scalar.muli w 512#32) 4096#32)) 0#32

theorem first_eq : ∀ k : Fin 64, first (BitVec.ofNat 32 k) = if (k : ℕ) % 8 = 0 then 1#1 else 0#1 := by
  decide +kernel

/-- The rows kept of the tokens before, none where a sequence starts. -/
theorem halo (k : Fin 64) (x y : EReal) (h : (k : ℕ) % 8 ≠ 0 → x = y) :
    (Scalar.select (first (BitVec.ofNat 32 k)) (0 : EReal) x : EReal) = if (512 * (k : ℕ)) % 4096 = 0 then 0 else y := by
  rw [first_eq]
  by_cases hk : (k : ℕ) % 8 = 0
  · rw [if_pos hk, if_pos (by omega)]
    rfl
  · rw [if_neg hk, if_neg (by omega)]
    exact h hk

variable {I : Args} {T : ℕ} {x0 : Vec Ideal S512x1024 .f32} {x1 : Vec Ideal S512x1024 .bf16} {x2 : Vec Ideal S1024x1024 .bf16} {x3 : Vec Ideal S1x1024 .f32} {x4 : Vec Ideal S1024x1024 .bf16} {x5 : Vec Ideal S1x256 .f32} {x6 : Vec Ideal S256x1024 .bf16} {x7 : Vec Ideal S256x1024 .bf16} {x8 : Vec Ideal S1024x1024 .bf16} {x9 : Vec Ideal S1x1024 .f32} {x10 : Vec Ideal S1024x5632 .bf16} {x11 : Vec Ideal S3x5632 .f32} {x12 : Vec Ideal S1x5632 .f32} {x13 : Vec Ideal S2816x1024 .bf16} {xs1 : Vec Ideal S22x8x256 .f32}

/-- Tokens of a block are of one sequence. -/
theorem BlockAt.seq (B : BlockAt I T x0 x1 x2 x3 x4 x5 x6 x7 x8 x9 x10 x11 x12 x13) (a : Fin 512) : (T + a) / 4096 = T / 4096 := by
  have := B.hT
  omega

/-- The residual stream after the attention is the formula's. -/
theorem BlockAt.res_at (B : BlockAt I T x0 x1 x2 x3 x4 x5 x6 x7 x8 x9 x10 x11 x12 x13) (a : Fin 512) (d : Fin 1024) : res x0 x1 x2 x3 x4 x5 x6 x7 x8 (ix2 a d) = Post.x2 I (T + a) d := by
  have hx1 := fun a d => x1_at (fun a d => (ld_all x0 inb_S512x1024_S512x1024_0_0 a d).trans (B.x a d)) (fun a d => (ld_all x1 inb_S512x1024_S512x1024_0_0 a d).trans (B.o a d))
    (fun a d => (ld_all x2 inb_S1024x1024_S1024x1024_0_0 a d).trans (B.wt a d)) a d
  have hn := fun a d => norm_at hx1 (fun d => (ld_all x3 inb_S1x1024_S1x1024_0_0 0 d).trans (B.gx d)) a d
  have hg := fun e => (ld_all x5 inb_S1x256_S1x256_0_0 0 e).trans (B.gq e)
  have hw := fun (h : ℕ) (hh : h < 4) (inb) (k : Fin 1024) (e : Fin 256) => (ld_cols x4 (256 * h) inb k e (by omega)).trans (B.wq k _)
  have hk := fun (h : ℕ) (hh : h < 4) (inb) (s e : Fin 256) => (ld_cols x6 (256 * h) inb s e (by omega)).trans (B.km s _)
  have hv := fun (h : ℕ) (hh : h < 4) (inb) (s e : Fin 256) => (ld_cols x7 (256 * h) inb s e (by omega)).trans (B.vm s _)
  have hp := fun (h : ℕ) (hh : h < 4) (i4) (i6) (a : Fin 512) (s : Fin 256) => exp_at (qn_at (qu_at hn (hw h hh i4)) hg) (hk h hh i6) B.seq a s
  exact x2_at hx1 (fun a s => hp 0 (by decide) _ _ a s) (fun a s => hp 1 (by decide) _ _ a s) (fun a s => hp 2 (by decide) _ _ a s)
    (fun a s => score_at hn (hw 3 (by decide) _) hg (hk 3 (by decide) _) B.seq a s) (fun a s => top_at hn (hw 3 (by decide) _) hg (hk 3 (by decide) _) B.seq a s)
    (hv 0 (by decide) _) (hv 1 (by decide) _) (hv 2 (by decide) _) (hv 3 (by decide) _)
    (fun k d => (ld_all x8 inb_S1024x1024_S1024x1024_0_0 k d).trans (B.wo k d)) B.seq a d

/-- The feed-forward's normed input is the formula's. -/
theorem BlockAt.hf_at (B : BlockAt I T x0 x1 x2 x3 x4 x5 x6 x7 x8 x9 x10 x11 x12 x13) (a : Fin 512) (d : Fin 1024) : hf x0 x1 x2 x3 x4 x5 x6 x7 x8 x9 (ix2 a d) = rms 1024 w1024 (Post.x2 I (T + a)) I.GF d :=
  norm_at B.res_at (fun d => (ld_all x9 inb_S1x1024_S1x1024_0_0 0 d).trans (B.gf d)) a d

/-- A column tile of the convolution as the body computes it: tile `j`, whose columns start at `n`. -/
def convTile (x0 : Vec Ideal S512x1024 .f32) (x1 : Vec Ideal S512x1024 .bf16) (x2 : Vec Ideal S1024x1024 .bf16) (x3 : Vec Ideal S1x1024 .f32) (x4 : Vec Ideal S1024x1024 .bf16) (x5 : Vec Ideal S1x256 .f32) (x6 : Vec Ideal S256x1024 .bf16) (x7 : Vec Ideal S256x1024 .bf16) (x8 : Vec Ideal S1024x1024 .bf16) (x9 : Vec Ideal S1x1024 .f32) (x10 : Vec Ideal S1024x5632 .bf16) (x11 : Vec Ideal S3x5632 .f32) (x12 : Vec Ideal S1x5632 .f32) (xs1 : Vec Ideal S22x8x256 .f32)
    (w : BitVec 32) (j n : ℕ) (i0 : ∀ a, (![0, n] : Fin 2 → ℕ) a + (⟨2, ![1024, 256]⟩ : Shape).size a ≤ S1024x5632.size a) (i1 : ∀ a, (![j, 0, 0] : Fin 3 → ℕ) a + (⟨3, ![1, 8, 256]⟩ : Shape).size a ≤ S22x8x256.size a)
    (i2 : ∀ a, (![0, n] : Fin 2 → ℕ) a + (⟨2, ![3, 256]⟩ : Shape).size a ≤ S3x5632.size a) (i3 : ∀ a, (![0, n] : Fin 2 → ℕ) a + (⟨2, ![1, 256]⟩ : Shape).size a ≤ S1x5632.size a) : FVec Ideal S512x256 .f32 :=
  k0_pay54 (hf x0 x1 x2 x3 x4 x5 x6 x7 x8 x9) (first w) (View.ld x10 (Rect.unit (s := S1024x5632) ![0, n] ![1024, 256] i0)) (View.ld xs1 (Rect.unit (s := S22x8x256) ![j, 0, 0] ![1, 8, 256] i1))
    (View.ld x11 (Rect.unit (s := S3x5632) ![0, n] ![3, 256] i2)) (View.ld x12 (Rect.unit (s := S1x5632) ![0, n] ![1, 256] i3))

/-- It is the formula's, from the rows the point before kept. -/
theorem BlockAt.conv_tile {k : Fin 64} (B : BlockAt I (512 * k) x0 x1 x2 x3 x4 x5 x6 x7 x8 x9 x10 x11 x12 x13)
    (hc : (k : ℕ) % 8 ≠ 0 → ∀ (j : Fin 22) (r : Fin 8) (e : Fin 256), xs1 (ix3 j r e) = up I (512 * k - 8 + r) (256 * j + e))
    (j n : ℕ) (hj : j < 22) (hn : n = 256 * j) (i0) (i1) (i2) (i3) (a : Fin 512) (e : Fin 256) :
    convTile x0 x1 x2 x3 x4 x5 x6 x7 x8 x9 x10 x11 x12 xs1 (BitVec.ofNat 32 k) j n i0 i1 i2 i3 (ix2 a e) = conv I (512 * k + a) (n + e) := by
  subst hn
  exact conv_at B.hT B.hf_at (fun k e => (ld_cols x10 _ i0 k e (by omega)).trans (B.wu k _))
    (fun r e => halo k _ _ fun hk => (ld_rows xs1 j hj i1 r e).trans (hc hk _ r e))
    (fun k e => (ld_cols x11 _ i2 k e (by omega)).trans (B.cw k _)) (fun e => (ld_cols x12 _ i3 0 e (by omega)).trans (B.cb _)) a e

/-- A column tile of the gated products at its place among all of them. -/
theorem BlockAt.act_tile {k : Fin 64} (B : BlockAt I (512 * k) x0 x1 x2 x3 x4 x5 x6 x7 x8 x9 x10 x11 x12 x13)
    (hc : (k : ℕ) % 8 ≠ 0 → ∀ (j : Fin 22) (r : Fin 8) (e : Fin 256), xs1 (ix3 j r e) = up I (512 * k - 8 + r) (256 * j + e))
    (j j' n n' : ℕ) (hj : j < 11) (hj' : j' = j + 11) (hn : n = 256 * j) (hn' : n' = 256 * j') (i0) (i1) (i2) (i3) (i0') (i1') (i2') (i3')
    (a : Fin 512) (c : Fin 2816) (x : S512x256.Idx) (hx : ∀ q : Fin 2, (ix2 a c q : ℕ) = (![0, n] : Fin 2 → ℕ) q + x q) :
    k0_pay42 (F := Ideal) (convTile x0 x1 x2 x3 x4 x5 x6 x7 x8 x9 x10 x11 x12 xs1 (BitVec.ofNat 32 k) j n i0 i1 i2 i3) (convTile x0 x1 x2 x3 x4 x5 x6 x7 x8 x9 x10 x11 x12 xs1 (BitVec.ofNat 32 k) j' n' i0' i1' i2' i3')
      (subf (broadcast S512x256 (Scalar.ofBits .f32 0x00000000#32)) (convTile x0 x1 x2 x3 x4 x5 x6 x7 x8 x9 x10 x11 x12 xs1 (BitVec.ofNat 32 k) j n i0 i1 i2 i3)) x
      = gated I (512 * k + a) c := by
  obtain ⟨p, e, rfl⟩ : ∃ (p : Fin 512) (e : Fin 256), x = ix2 p e := ⟨x 0, x 1, eq_ix2 x⟩
  have e0 : (a : ℕ) = 0 + p := hx 0
  have e1 : (c : ℕ) = n + e := hx 1
  rw [gated_at (B.conv_tile hc j n (by omega) hn i0 i1 i2 i3) (fun a e => (B.conv_tile hc j' n' (by omega) hn' i0' i1' i2' i3' a e).trans (congrArg _ (by omega))),
    e1, show (a : ℕ) = p by omega]

/-- A tile's last eight rows at their place among the kept rows. -/
theorem BlockAt.tail_tile (B : BlockAt I T x0 x1 x2 x3 x4 x5 x6 x7 x8 x9 x10 x11 x12 x13) (j n : ℕ) (hn : n = 256 * j) (hj : j < 22) (i0)
    (j' : Fin 22) (r : Fin 8) (e : Fin 256) (x : S1x8x256.Idx) (hx : ∀ q : Fin 3, (ix3 j' r e q : ℕ) = (![j, 0, 0] : Fin 3 → ℕ) q + x q) :
    k0_pay56 (F := Ideal) (k0_pay52 (hf x0 x1 x2 x3 x4 x5 x6 x7 x8 x9) (View.ld x10 (Rect.unit (s := S1024x5632) ![0, n] ![1024, 256] i0))) x = up I (T + 504 + r) (256 * j' + e) := by
  obtain ⟨p, r', e', rfl⟩ : ∃ (p : Fin 1) (r' : Fin 8) (e' : Fin 256), x = ix3 p r' e' := ⟨x 0, x 1, x 2, eq_ix3 x⟩
  obtain rfl : p = 0 := Subsingleton.elim _ _
  have e0 : (j' : ℕ) = j + 0 := hx 0
  have e1 : (r : ℕ) = 0 + r' := hx 1
  have e2 : (e : ℕ) = 0 + e' := hx 2
  subst hn
  rw [tail_at (up_at B.hf_at (fun k e => (ld_cols x10 _ i0 k e (by omega)).trans (B.wu k _)))]
  rw [show (j' : ℕ) = j by omega, show (r : ℕ) = r' by omega, show (e : ℕ) = e' by omega]

end Cert.Post

end
-- ==== Proof.PostPoint.lean ====
/- One grid point of the second kernel: the stores of its body, read back as the formulas' values. -/
module

public import proofs.«01_k».proof.Proof.PostBlock

@[expose] public section

set_option maxRecDepth 16384

noncomputable section

namespace Cert.Post

open Idealize.ShloMosaic Idealize.ShloMosaic.TcCoe Idealize.ShloMosaic.Tactic Finset Cert.Kernel2Ideal Cert.Kernel2Ideal.Gen Cert.PostRunIdeal
open Idealize.SL.Sem

variable {I : Args} (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x256 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S3x5632 .f32) (harg12 : arg12.IsWhole) (arg13 : Memref sig .tc .vmem S1x5632 .f32) (harg13 : arg13.IsWhole) (arg14 : Memref sig .tc .vmem S2816x1024 .bf16) (harg14 : arg14.IsWhole) (arg15 : Memref sig .tc .vmem S512x1024 .f32) (harg15 : arg15.IsWhole) (arg16 : Memref sig .tc .vmem S512x2816 .bf16) (harg16 : arg16.IsWhole) (arg17 : Memref sig .tc .vmem S22x8x256 .f32) (harg17 : arg17.IsWhole)
variable (x0 : Vec Ideal S512x1024 .f32) (x1 : Vec Ideal S512x1024 .bf16) (x2 : Vec Ideal S1024x1024 .bf16) (x3 : Vec Ideal S1x1024 .f32) (x4 : Vec Ideal S1024x1024 .bf16) (x5 : Vec Ideal S1x256 .f32) (x6 : Vec Ideal S256x1024 .bf16) (x7 : Vec Ideal S256x1024 .bf16) (x8 : Vec Ideal S1024x1024 .bf16) (x9 : Vec Ideal S1x1024 .f32) (x10 : Vec Ideal S1024x5632 .bf16) (x11 : Vec Ideal S3x5632 .f32) (x12 : Vec Ideal S1x5632 .f32) (x13 : Vec Ideal S2816x1024 .bf16) (xs1 : Vec Ideal S22x8x256 .f32)

set_option maxHeartbeats 4000000 in
/-- The rows a point keeps are its block's last eight of the inner activations. -/
theorem rows_at (B : BlockAt I (512 * ((i 0 : Fin 64) : ℕ)) x0 x1 x2 x3 x4 x5 x6 x7 x8 x9 x10 x11 x12 x13) (j : Fin 22) (r : Fin 8) (e : Fin 256) (v : EReal)
    (hv : v = up I (512 * ((i 0 : Fin 64) : ℕ) + 504 + r) (256 * j + e)) :
    View.canon (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 xs1).2.1 (ix3 j r e) = v := by
  have hcov := coverS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 xs1
  refine View.canon_eq_of_allAt _ _ _ (hcov _) ?_
  clear hcov
  subst hv
  unfold kernelRun
  dsimp only
  sl_unfold_words
  simp only [View.readAt_eq_ld]
  rw [harg1.read_unread, harg2.read_unread, harg3.read_unread, harg4.read_unread, harg5.read_unread, harg6.read_unread, harg7.read_unread, harg8.read_unread, harg9.read_unread, harg10.read_unread, harg11.read_unread]

  refine View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_nil _ _))))))))))))))))))))))
  · exact B.tail_tile 21 5376 rfl (by decide) _ j r e x hx
  · exact B.tail_tile 10 2560 rfl (by decide) _ j r e x hx
  · exact B.tail_tile 20 5120 rfl (by decide) _ j r e x hx
  · exact B.tail_tile 9 2304 rfl (by decide) _ j r e x hx
  · exact B.tail_tile 19 4864 rfl (by decide) _ j r e x hx
  · exact B.tail_tile 8 2048 rfl (by decide) _ j r e x hx
  · exact B.tail_tile 18 4608 rfl (by decide) _ j r e x hx
  · exact B.tail_tile 7 1792 rfl (by decide) _ j r e x hx
  · exact B.tail_tile 17 4352 rfl (by decide) _ j r e x hx
  · exact B.tail_tile 6 1536 rfl (by decide) _ j r e x hx
  · exact B.tail_tile 16 4096 rfl (by decide) _ j r e x hx
  · exact B.tail_tile 5 1280 rfl (by decide) _ j r e x hx
  · exact B.tail_tile 15 3840 rfl (by decide) _ j r e x hx
  · exact B.tail_tile 4 1024 rfl (by decide) _ j r e x hx
  · exact B.tail_tile 14 3584 rfl (by decide) _ j r e x hx
  · exact B.tail_tile 3 768 rfl (by decide) _ j r e x hx
  · exact B.tail_tile 13 3328 rfl (by decide) _ j r e x hx
  · exact B.tail_tile 2 512 rfl (by decide) _ j r e x hx
  · exact B.tail_tile 12 3072 rfl (by decide) _ j r e x hx
  · exact B.tail_tile 1 256 rfl (by decide) _ j r e x hx
  · exact B.tail_tile 11 2816 rfl (by decide) _ j r e x hx
  · exact B.tail_tile 0 0 rfl (by decide) _ j r e x hx

/-- A place of the gated products, read whole. -/
theorem idx_all (a : Fin 512) (b : Fin 2816) :
    (Rect.unit (s := S512x2816) ![0, 0] ![512, 2816] inb_S512x2816_S512x2816_0_0).idx (ix2 a b) = ix2 a b := by
  funext q
  match q with
  | ⟨0, _⟩ => exact Fin.ext (show 0 + 1 * (a : ℕ) = a by omega)
  | ⟨1, _⟩ => exact Fin.ext (show 0 + 1 * (b : ℕ) = b by omega)

set_option maxHeartbeats 4000000 in
/-- The block a point leaves is the result's. -/
theorem block_at (B : BlockAt I (512 * ((i 0 : Fin 64) : ℕ)) x0 x1 x2 x3 x4 x5 x6 x7 x8 x9 x10 x11 x12 x13)
    (hc : ((i 0 : Fin 64) : ℕ) % 8 ≠ 0 → ∀ (j : Fin 22) (r : Fin 8) (e : Fin 256), xs1 (ix3 j r e) = up I (512 * ((i 0 : Fin 64) : ℕ) - 8 + r) (256 * j + e))
    (a : Fin 512) (d : Fin 1024) :
    View.canon (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 xs1).1 (ix2 a d) = result I (512 * ((i 0 : Fin 64) : ℕ) + a) d := by
  have hcov := cover14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 xs1
  refine View.canon_eq_of_allAt _ _ _ (hcov _) ?_
  clear hcov
  unfold kernelRun
  dsimp only
  sl_unfold_words
  simp only [View.readAt_eq_ld]
  rw [harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg17.read_unread]

  refine View.allAt_cons_unit _ _ _ _ _ (fun x hx => ?_) (View.allAt_nil _ _)
  obtain ⟨p, e, rfl⟩ : ∃ (p : Fin 512) (e : Fin 1024), x = ix2 p e := ⟨x 0, x 1, eq_ix2 x⟩
  have e0 : (a : ℕ) = 0 + p := hx 0
  have e1 : (d : ℕ) = 0 + e := hx 1
  refine (result_at B.res_at (fun a b => ?_) (fun k d => (ld_all x13 inb_S2816x1024_S2816x1024_0_0 k d).trans (B.wd k d)) p e).trans (by
    rw [show (a : ℕ) = p by omega, show (d : ℕ) = e by omega])
  clear hx e0 e1
  rw [View.readCov_eq_canon']
  refine (congrArg (View.canon _) (idx_all a b)).trans ?_
  refine View.canon_eq_of_allAt _ _ _ ?cov ?val
  case cov => exact View.cover_of_tiledL (s := S512x2816) _ S512x256.size (by sl_kernel_rfl) _
  refine View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_nil _ _)))))))))))
  · exact B.act_tile (k := (i 0 : Fin 64)) hc 10 21 2560 5376 (by decide) rfl rfl rfl _ _ _ _ _ _ _ _ a b x hx
  · exact B.act_tile (k := (i 0 : Fin 64)) hc 9 20 2304 5120 (by decide) rfl rfl rfl _ _ _ _ _ _ _ _ a b x hx
  · exact B.act_tile (k := (i 0 : Fin 64)) hc 8 19 2048 4864 (by decide) rfl rfl rfl _ _ _ _ _ _ _ _ a b x hx
  · exact B.act_tile (k := (i 0 : Fin 64)) hc 7 18 1792 4608 (by decide) rfl rfl rfl _ _ _ _ _ _ _ _ a b x hx
  · exact B.act_tile (k := (i 0 : Fin 64)) hc 6 17 1536 4352 (by decide) rfl rfl rfl _ _ _ _ _ _ _ _ a b x hx
  · exact B.act_tile (k := (i 0 : Fin 64)) hc 5 16 1280 4096 (by decide) rfl rfl rfl _ _ _ _ _ _ _ _ a b x hx
  · exact B.act_tile (k := (i 0 : Fin 64)) hc 4 15 1024 3840 (by decide) rfl rfl rfl _ _ _ _ _ _ _ _ a b x hx
  · exact B.act_tile (k := (i 0 : Fin 64)) hc 3 14 768 3584 (by decide) rfl rfl rfl _ _ _ _ _ _ _ _ a b x hx
  · exact B.act_tile (k := (i 0 : Fin 64)) hc 2 13 512 3328 (by decide) rfl rfl rfl _ _ _ _ _ _ _ _ a b x hx
  · exact B.act_tile (k := (i 0 : Fin 64)) hc 1 12 256 3072 (by decide) rfl rfl rfl _ _ _ _ _ _ _ _ a b x hx
  · exact B.act_tile (k := (i 0 : Fin 64)) hc 0 11 0 2816 (by decide) rfl rfl rfl _ _ _ _ _ _ _ _ a b x hx

end Cert.Post

end
-- ==== Proof.PostGrid.lean ====
/- The second kernel's input blocks at a grid point: parts of the arguments, some cast or laid out as a row before the kernel is called. -/
module

public import proofs.«01_k».proof.Proof.PostPoint

@[expose] public section

noncomputable section

namespace Cert.Post

open Idealize.ShloMosaic Idealize.ShloMosaic.TcCoe Idealize.ShloMosaic.Tactic Cert.Kernel2Ideal Cert.Kernel2Ideal.Gen Cert.PostRunIdeal
open Idealize.SL.Sem
open Cert.Gla (rd rd1 rd_at rd1_eq)

variable (m : (ℓ : Loc nD τ sig) → Buf (Elt Ideal) ℓ)

/-- The kernel's arguments. -/
abbrev kArgs (c : Dev nD) : Args :=
  argsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- The grid's points are numbered along its one axis. -/
theorem coord (t : Fin cfg0.N) : ((grid0.coords t 0 : Fin 64) : ℕ) = t.val :=
  (by decide +kernel : ∀ t : Fin grid0.N, ((grid0.coords t 0 : Fin 64) : ℕ) = t.val) t

/-- The blocks of tokens follow the grid. -/
theorem idx_tok : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_14.index t (0 : Fin 2) = t.val ∧ win0_14.index t (1 : Fin 2) = 0) := (by decide +kernel : ∀ t : Fin grid0.N, _)
/-- The blocks of the memory follow the sequences, eight points long each. -/
theorem idx_mem : ∀ t : Fin cfg0.N, (win0_6.index t (0 : Fin 2) = t.val / 8 ∧ win0_6.index t (1 : Fin 2) = 0)
    ∧ (win0_7.index t (0 : Fin 2) = t.val / 8 ∧ win0_7.index t (1 : Fin 2) = 0) := (by decide +kernel : ∀ t : Fin grid0.N, _)
/-- The weights are one block. -/
theorem idx_w : ∀ t : Fin cfg0.N, (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0) := (by decide +kernel : ∀ t : Fin grid0.N, _)

/-- A vector laid out as a row, read at a column. -/
theorem row_at {n : ℕ} (x : (⟨1, ![n]⟩ : Shape).Idx → EReal) (h : (⟨1, ![n]⟩ : Shape).ShapeCasts ⟨2, ![1, n]⟩) (y : (⟨2, ![1, n]⟩ : Shape).Idx) (e : Fin n)
    (h1 : ((y 1 : Fin n) : ℕ) = e) : (shapeCast (⟨2, ![1, n]⟩ : Shape) x h : (⟨2, ![1, n]⟩ : Shape).Idx → EReal) y = rd1 x e := by
  obtain rfl : y = ix2 (0 : Fin 1) e := (eq_ix2 y).trans (congrArg₂ ix2 (Subsingleton.elim _ _) (Fin.ext h1))
  rw [rd1_eq]
  exact congrArg x (Shape.reshapeEquiv_eq_of_rowMajor _ (by
    rw [Shape.rowMajor_val_two, Shape.rowMajor_val_one]
    show (e : ℕ) = 0 * n + e
    omega))

/-- A weight as the kernel takes it, narrowed, which over the reals changes nothing. -/
theorem V_wt (c : Dev nD) : V m c main_v0 = (show S1024x1024.Idx → EReal from m ((c : Thread nD τ).loc main_arg2)) := by
  show StableHlo.after hostOps0 (fun b => m (c, b)) main_v0 = _
  after_results
  rfl
/-- A vector as the kernel takes it, a row. -/
theorem V_gx (c : Dev nD) : V m c main_v6 = shapeCast S1x1024 (m ((c : Thread nD τ).loc main_arg3)) shapeCasts_S1024_S1x1024 := by
  show StableHlo.after hostOps0 (fun b => m (c, b)) main_v6 = _
  after_results
  rfl
/-- A weight as the kernel takes it, narrowed, which over the reals changes nothing. -/
theorem V_wq (c : Dev nD) : V m c main_v1 = (show S1024x1024.Idx → EReal from m ((c : Thread nD τ).loc main_arg4)) := by
  show StableHlo.after hostOps0 (fun b => m (c, b)) main_v1 = _
  after_results
  rfl
/-- A vector as the kernel takes it, a row. -/
theorem V_gq (c : Dev nD) : V m c main_v7 = shapeCast S1x256 (m ((c : Thread nD τ).loc main_arg5)) shapeCasts_S256_S1x256 := by
  show StableHlo.after hostOps0 (fun b => m (c, b)) main_v7 = _
  after_results
  rfl
/-- A weight as the kernel takes it, narrowed, which over the reals changes nothing. -/
theorem V_wo (c : Dev nD) : V m c main_v2 = (show S1024x1024.Idx → EReal from m ((c : Thread nD τ).loc main_arg8)) := by
  show StableHlo.after hostOps0 (fun b => m (c, b)) main_v2 = _
  after_results
  rfl
/-- A vector as the kernel takes it, a row. -/
theorem V_gf (c : Dev nD) : V m c main_v8 = shapeCast S1x1024 (m ((c : Thread nD τ).loc main_arg9)) shapeCasts_S1024_S1x1024 := by
  show StableHlo.after hostOps0 (fun b => m (c, b)) main_v8 = _
  after_results
  rfl
/-- A weight as the kernel takes it, narrowed, which over the reals changes nothing. -/
theorem V_wu (c : Dev nD) : V m c main_v3 = (show S1024x5632.Idx → EReal from m ((c : Thread nD τ).loc main_arg10)) := by
  show StableHlo.after hostOps0 (fun b => m (c, b)) main_v3 = _
  after_results
  rfl
/-- A vector as the kernel takes it, a row. -/
theorem V_cb (c : Dev nD) : V m c main_v5 = shapeCast S1x5632 (m ((c : Thread nD τ).loc main_arg12)) shapeCasts_S5632_S1x5632 := by
  show StableHlo.after hostOps0 (fun b => m (c, b)) main_v5 = _
  after_results
  rfl
/-- A weight as the kernel takes it, narrowed, which over the reals changes nothing. -/
theorem V_wd (c : Dev nD) : V m c main_v4 = (show S2816x1024.Idx → EReal from m ((c : Thread nD τ).loc main_arg13)) := by
  show StableHlo.after hostOps0 (fun b => m (c, b)) main_v4 = _
  after_results
  rfl

/-- The residual stream. -/
theorem blk_x (c : Dev nD) (t : Fin cfg0.N) (a : Fin 512) (d : Fin 1024) : iblk m c 0 t (ix2 a d) = (kArgs m c).X (512 * ((grid0.coords t 0 : Fin 64) : ℕ) + a) d :=
  (congrFun (V_kept m c main_arg0 (by decide)) (((cfg0.win 0).blk t).view.emb (ix2 a d))).trans (rd_at _ _ _ _
    (show win0_0.index t (0 : Fin 2) * 512 + 1 * (a : ℕ) = _ by rw [(idx_tok t).1.1, coord]; omega) (show win0_0.index t (1 : Fin 2) * 1024 + 1 * (d : ℕ) = d by rw [(idx_tok t).1.2]; omega))
/-- The mixer's output. -/
theorem blk_o (c : Dev nD) (t : Fin cfg0.N) (a : Fin 512) (d : Fin 1024) : iblk m c 1 t (ix2 a d) = (kArgs m c).O (512 * ((grid0.coords t 0 : Fin 64) : ℕ) + a) d :=
  (congrFun (V_kept m c main_arg1 (by decide)) (((cfg0.win 1).blk t).view.emb (ix2 a d))).trans (rd_at _ _ _ _
    (show win0_1.index t (0 : Fin 2) * 512 + 1 * (a : ℕ) = _ by rw [(idx_tok t).2.1.1, coord]; omega) (show win0_1.index t (1 : Fin 2) * 1024 + 1 * (d : ℕ) = d by rw [(idx_tok t).2.1.2]; omega))
/-- The output projection. -/
theorem blk_wt (c : Dev nD) (t : Fin cfg0.N) (a : Fin 1024) (d : Fin 1024) : iblk m c 2 t (ix2 a d) = (kArgs m c).WT (a) d :=
  (congrFun (V_wt m c) (((cfg0.win 2).blk t).view.emb (ix2 a d))).trans (rd_at _ _ _ _
    (show win0_2.index t (0 : Fin 2) * 1024 + 1 * (a : ℕ) = _ by rw [(idx_w t).1.1]; omega) (show win0_2.index t (1 : Fin 2) * 1024 + 1 * (d : ℕ) = d by rw [(idx_w t).1.2]; omega))
/-- The first norm's weights. -/
theorem blk_gx (c : Dev nD) (t : Fin cfg0.N) (d : Fin 1024) : iblk m c 3 t (ix2 0 d) = (kArgs m c).GX d :=
  (congrFun (V_gx m c) (((cfg0.win 3).blk t).view.emb (ix2 0 d))).trans (row_at _ _ _ _
    (show win0_3.index t (1 : Fin 2) * 1024 + 1 * (d : ℕ) = d by rw [(idx_w t).2.1.2]; omega))
/-- The queries' projection. -/
theorem blk_wq (c : Dev nD) (t : Fin cfg0.N) (a : Fin 1024) (d : Fin 1024) : iblk m c 4 t (ix2 a d) = (kArgs m c).WQ (a) d :=
  (congrFun (V_wq m c) (((cfg0.win 4).blk t).view.emb (ix2 a d))).trans (rd_at _ _ _ _
    (show win0_4.index t (0 : Fin 2) * 1024 + 1 * (a : ℕ) = _ by rw [(idx_w t).2.2.1.1]; omega) (show win0_4.index t (1 : Fin 2) * 1024 + 1 * (d : ℕ) = d by rw [(idx_w t).2.2.1.2]; omega))
/-- The queries' norm's weights. -/
theorem blk_gq (c : Dev nD) (t : Fin cfg0.N) (d : Fin 256) : iblk m c 5 t (ix2 0 d) = (kArgs m c).GQ d :=
  (congrFun (V_gq m c) (((cfg0.win 5).blk t).view.emb (ix2 0 d))).trans (row_at _ _ _ _
    (show win0_5.index t (1 : Fin 2) * 256 + 1 * (d : ℕ) = d by rw [(idx_w t).2.2.2.1.2]; omega))
/-- The memory's keys. -/
theorem blk_km (c : Dev nD) (t : Fin cfg0.N) (a : Fin 256) (d : Fin 1024) : iblk m c 6 t (ix2 a d) = (kArgs m c).KM (512 * ((grid0.coords t 0 : Fin 64) : ℕ) / 4096 * 256 + a) d :=
  (congrFun (V_kept m c main_arg6 (by decide)) (((cfg0.win 6).blk t).view.emb (ix2 a d))).trans (rd_at _ _ _ _
    (show win0_6.index t (0 : Fin 2) * 256 + 1 * (a : ℕ) = _ by rw [(idx_mem t).1.1, coord]; omega) (show win0_6.index t (1 : Fin 2) * 1024 + 1 * (d : ℕ) = d by rw [(idx_mem t).1.2]; omega))
/-- The memory's values. -/
theorem blk_vm (c : Dev nD) (t : Fin cfg0.N) (a : Fin 256) (d : Fin 1024) : iblk m c 7 t (ix2 a d) = (kArgs m c).VM (512 * ((grid0.coords t 0 : Fin 64) : ℕ) / 4096 * 256 + a) d :=
  (congrFun (V_kept m c main_arg7 (by decide)) (((cfg0.win 7).blk t).view.emb (ix2 a d))).trans (rd_at _ _ _ _
    (show win0_7.index t (0 : Fin 2) * 256 + 1 * (a : ℕ) = _ by rw [(idx_mem t).2.1, coord]; omega) (show win0_7.index t (1 : Fin 2) * 1024 + 1 * (d : ℕ) = d by rw [(idx_mem t).2.2]; omega))
/-- The attention's projection. -/
theorem blk_wo (c : Dev nD) (t : Fin cfg0.N) (a : Fin 1024) (d : Fin 1024) : iblk m c 8 t (ix2 a d) = (kArgs m c).WO (a) d :=
  (congrFun (V_wo m c) (((cfg0.win 8).blk t).view.emb (ix2 a d))).trans (rd_at _ _ _ _
    (show win0_8.index t (0 : Fin 2) * 1024 + 1 * (a : ℕ) = _ by rw [(idx_w t).2.2.2.2.1.1]; omega) (show win0_8.index t (1 : Fin 2) * 1024 + 1 * (d : ℕ) = d by rw [(idx_w t).2.2.2.2.1.2]; omega))
/-- The second norm's weights. -/
theorem blk_gf (c : Dev nD) (t : Fin cfg0.N) (d : Fin 1024) : iblk m c 9 t (ix2 0 d) = (kArgs m c).GF d :=
  (congrFun (V_gf m c) (((cfg0.win 9).blk t).view.emb (ix2 0 d))).trans (row_at _ _ _ _
    (show win0_9.index t (1 : Fin 2) * 1024 + 1 * (d : ℕ) = d by rw [(idx_w t).2.2.2.2.2.1.2]; omega))
/-- The inner projection. -/
theorem blk_wu (c : Dev nD) (t : Fin cfg0.N) (a : Fin 1024) (d : Fin 5632) : iblk m c 10 t (ix2 a d) = (kArgs m c).WU (a) d :=
  (congrFun (V_wu m c) (((cfg0.win 10).blk t).view.emb (ix2 a d))).trans (rd_at _ _ _ _
    (show win0_10.index t (0 : Fin 2) * 1024 + 1 * (a : ℕ) = _ by rw [(idx_w t).2.2.2.2.2.2.1.1]; omega) (show win0_10.index t (1 : Fin 2) * 5632 + 1 * (d : ℕ) = d by rw [(idx_w t).2.2.2.2.2.2.1.2]; omega))
/-- The convolution's taps. -/
theorem blk_cw (c : Dev nD) (t : Fin cfg0.N) (a : Fin 3) (d : Fin 5632) : iblk m c 11 t (ix2 a d) = (kArgs m c).CW (a) d :=
  (congrFun (V_kept m c main_arg11 (by decide)) (((cfg0.win 11).blk t).view.emb (ix2 a d))).trans (rd_at _ _ _ _
    (show win0_11.index t (0 : Fin 2) * 3 + 1 * (a : ℕ) = _ by rw [(idx_w t).2.2.2.2.2.2.2.1.1]; omega) (show win0_11.index t (1 : Fin 2) * 5632 + 1 * (d : ℕ) = d by rw [(idx_w t).2.2.2.2.2.2.2.1.2]; omega))
/-- The convolution's bias. -/
theorem blk_cb (c : Dev nD) (t : Fin cfg0.N) (d : Fin 5632) : iblk m c 12 t (ix2 0 d) = (kArgs m c).CB d :=
  (congrFun (V_cb m c) (((cfg0.win 12).blk t).view.emb (ix2 0 d))).trans (row_at _ _ _ _
    (show win0_12.index t (1 : Fin 2) * 5632 + 1 * (d : ℕ) = d by rw [(idx_w t).2.2.2.2.2.2.2.2.1.2]; omega))
/-- The projection back. -/
theorem blk_wd (c : Dev nD) (t : Fin cfg0.N) (a : Fin 2816) (d : Fin 1024) : iblk m c 13 t (ix2 a d) = (kArgs m c).WD (a) d :=
  (congrFun (V_wd m c) (((cfg0.win 13).blk t).view.emb (ix2 a d))).trans (rd_at _ _ _ _
    (show win0_13.index t (0 : Fin 2) * 2816 + 1 * (a : ℕ) = _ by rw [(idx_w t).2.2.2.2.2.2.2.2.2.1]; omega) (show win0_13.index t (1 : Fin 2) * 1024 + 1 * (d : ℕ) = d by rw [(idx_w t).2.2.2.2.2.2.2.2.2.2]; omega))

/-- A grid point's blocks. -/
theorem block_of (c : Dev nD) (t : Fin cfg0.N) :
    BlockAt (kArgs m c) (512 * ((grid0.coords t 0 : Fin 64) : ℕ)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) :=
  ⟨by omega, blk_x m c t, blk_o m c t, blk_wt m c t, blk_gx m c t, blk_wq m c t, blk_gq m c t, blk_km m c t, blk_vm m c t, blk_wo m c t, blk_gf m c t, blk_wu m c t, blk_cw m c t, blk_cb m c t, blk_wd m c t⟩

end Cert.Post

end
-- ==== Proof.PostValue.lean ====
/- The second kernel's run over the reals: what it leaves in the result, point by point, and its arguments unchanged. -/
module

public import proofs.«01_k».proof.Proof.PostGrid

@[expose] public section

set_option maxRecDepth 16384

noncomputable section

namespace Cert.Post

open Cert.Kernel2Ideal Cert.Kernel2Ideal.Gen Cert.PostRunIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The block of the result that point `n` leaves. -/
def outs (I : Args) (n : ℕ) : Vec Ideal S512x1024 .f32 := fun y => result I (512 * n + ((y 0 : Fin 512) : ℕ)) ((y 1 : Fin 1024) : ℕ)

/-- The rows point `n` keeps for the next one: the last eight of its inner activations, by column tile. -/
def rows (I : Args) (n : ℕ) : Vec Ideal S22x8x256 .f32 :=
  fun y => up I (512 * n + 504 + ((y 1 : Fin 8) : ℕ)) (256 * ((y 0 : Fin 22) : ℕ) + ((y 2 : Fin 256) : ℕ))

/-- The kernel's own buffers before point `n`: the kept rows are the point before's. -/
def PhiS (c : Dev nD) : (n : ℕ) → n ≤ cfg0.N → sProp 𝕄
  | 0, _ => Pipeline.ΦA spec0 c
  | n + 1, _ => iprop(iprop((∃ d, owns (c : Thread nD τ) scM0_0 fullShare d) ∗ owns (c : Thread nD τ) scM0_1 fullShare (rows (kArgs m c) n)) ∗ (∃ r, prngReg c r))

/-- Before the first point they hold anything. -/
theorem PhiS_zero (c : Dev nD) (n : ℕ) (h : n ≤ cfg0.N) (hz : n = 0) : PhiS m c n h = Pipeline.ΦA spec0 c := by
  subst hz; rfl
/-- After a point they hold its rows. -/
theorem PhiS_succ (c : Dev nD) (n : ℕ) (h : n + 1 ≤ cfg0.N) :
    PhiS m c (n + 1) h = iprop(iprop((∃ d, owns (c : Thread nD τ) scM0_0 fullShare d) ∗ owns (c : Thread nD τ) scM0_1 fullShare (rows (kArgs m c) n)) ∗ (∃ r, prngReg c r)) := rfl
/-- Before a later point they hold the rows of the one before. -/
theorem PhiS_pos (c : Dev nD) (n : ℕ) (h : n ≤ cfg0.N) (hz : ¬n = 0) :
    PhiS m c n h = iprop(iprop((∃ d, owns (c : Thread nD τ) scM0_0 fullShare d) ∗ owns (c : Thread nD τ) scM0_1 fullShare (rows (kArgs m c) (n - 1))) ∗ (∃ r, prngReg c r)) := by
  cases n with
  | zero => exact absurd rfl hz
  | succ n => rfl

/-- What the pipeline is run with: its arrays, each input's block left as it is, the result's block, the kept rows. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => outs (kArgs m c) t.val
  Φ t := PhiS m c t.val (Nat.le_of_lt_succ t.isLt)
  q _ := fullShare
  owed _ := 0

/-- The arrays are those the kernel finds. -/
theorem A_eq (c : Dev nD) (w : Fin cfg0.W) : (dats m 0 c).A w = V m c (Pipeline.arrRef spec0 w) := by
  dsimp only [dats]
/-- The result's block after a point. -/
theorem after_out (c : Dev nD) (t : Fin cfg0.N) : (dats m 0 c).after 14 t = outs (kArgs m c) t.val := by
  dsimp only [dats]
/-- The kernel's own buffers before a point. -/
theorem PhiS_castSucc (c : Dev nD) (t : Fin cfg0.N) : (dats m 0 c).Φ t.castSucc = PhiS m c t.val (Nat.le_of_lt t.isLt) := by
  dsimp only [dats]
  exact Pipeline.Dat.Φ_castSucc (PhiS m c) t

/-- Each input's buffer holds its block when the body starts. -/
theorem before_in (c : Dev nD) (t : Fin cfg0.N) :
    (∀ d, (dats m 0 c).before 0 t d = iblk m c 0 t)
      ∧ (∀ d, (dats m 0 c).before 1 t d = iblk m c 1 t)
      ∧ (∀ d, (dats m 0 c).before 2 t d = iblk m c 2 t)
      ∧ (∀ d, (dats m 0 c).before 3 t d = iblk m c 3 t)
      ∧ (∀ d, (dats m 0 c).before 4 t d = iblk m c 4 t)
      ∧ (∀ d, (dats m 0 c).before 5 t d = iblk m c 5 t)
      ∧ (∀ d, (dats m 0 c).before 6 t d = iblk m c 6 t)
      ∧ (∀ d, (dats m 0 c).before 7 t d = iblk m c 7 t)
      ∧ (∀ d, (dats m 0 c).before 8 t d = iblk m c 8 t)
      ∧ (∀ d, (dats m 0 c).before 9 t d = iblk m c 9 t)
      ∧ (∀ d, (dats m 0 c).before 10 t d = iblk m c 10 t)
      ∧ (∀ d, (dats m 0 c).before 11 t d = iblk m c 11 t)
      ∧ (∀ d, (dats m 0 c).before 12 t d = iblk m c 12 t)
      ∧ (∀ d, (dats m 0 c).before 13 t d = iblk m c 13 t) := by
  repeat' apply And.intro
  all_goals
    intro d
    exact (Dat.before_in_eq_fetched _ _ rfl (fun _ => rfl) (fun _ _ _ => rfl) (fun _ => rfl) t d).trans rfl
/-- And when it ends. -/
theorem after_in (c : Dev nD) (t : Fin cfg0.N) :
    ((dats m 0 c).after 0 t = iblk m c 0 t)
      ∧ ((dats m 0 c).after 1 t = iblk m c 1 t)
      ∧ ((dats m 0 c).after 2 t = iblk m c 2 t)
      ∧ ((dats m 0 c).after 3 t = iblk m c 3 t)
      ∧ ((dats m 0 c).after 4 t = iblk m c 4 t)
      ∧ ((dats m 0 c).after 5 t = iblk m c 5 t)
      ∧ ((dats m 0 c).after 6 t = iblk m c 6 t)
      ∧ ((dats m 0 c).after 7 t = iblk m c 7 t)
      ∧ ((dats m 0 c).after 8 t = iblk m c 8 t)
      ∧ ((dats m 0 c).after 9 t = iblk m c 9 t)
      ∧ ((dats m 0 c).after 10 t = iblk m c 10 t)
      ∧ ((dats m 0 c).after 11 t = iblk m c 11 t)
      ∧ ((dats m 0 c).after 12 t = iblk m c 12 t)
      ∧ ((dats m 0 c).after 13 t = iblk m c 13 t) := by
  repeat' apply And.intro
  all_goals dsimp only [dats]

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- What it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

section
variable (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x256 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S3x5632 .f32) (harg12 : arg12.IsWhole) (arg13 : Memref sig .tc .vmem S1x5632 .f32) (harg13 : arg13.IsWhole) (arg14 : Memref sig .tc .vmem S2816x1024 .bf16) (harg14 : arg14.IsWhole) (arg15 : Memref sig .tc .vmem S512x1024 .f32) (harg15 : arg15.IsWhole) (arg16 : Memref sig .tc .vmem S512x2816 .bf16) (harg16 : arg16.IsWhole) (arg17 : Memref sig .tc .vmem S22x8x256 .f32) (harg17 : arg17.IsWhole)
variable (x0 : Vec Ideal S512x1024 .f32) (x1 : Vec Ideal S512x1024 .bf16) (x2 : Vec Ideal S1024x1024 .bf16) (x3 : Vec Ideal S1x1024 .f32) (x4 : Vec Ideal S1024x1024 .bf16) (x5 : Vec Ideal S1x256 .f32) (x6 : Vec Ideal S256x1024 .bf16) (x7 : Vec Ideal S256x1024 .bf16) (x8 : Vec Ideal S1024x1024 .bf16) (x9 : Vec Ideal S1x1024 .f32) (x10 : Vec Ideal S1024x5632 .bf16) (x11 : Vec Ideal S3x5632 .f32) (x12 : Vec Ideal S1x5632 .f32) (x13 : Vec Ideal S2816x1024 .bf16) (xs1 : Vec Ideal S22x8x256 .f32)

/-- The result's block, read back after the body's stores. -/
theorem out_read {I : Args} (n : ℕ) (hn : ((i 0 : Fin 64) : ℕ) = n) (B : BlockAt I (512 * ((i 0 : Fin 64) : ℕ)) x0 x1 x2 x3 x4 x5 x6 x7 x8 x9 x10 x11 x12 x13)
    (hc : n % 8 ≠ 0 → xs1 = rows I (n - 1)) (f) :
    arg15.view.read (Elt Ideal) (arg15.view.writes (Elt Ideal) f (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 xs1).1) = outs I n := by
  refine (View.read_writes_eq_canon _ _ _ (cover14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 xs1)).trans (funext fun y => ?_)
  subst hn
  obtain ⟨a, d, rfl⟩ : ∃ (a : Fin 512) (d : Fin 1024), y = ix2 a d := ⟨y 0, y 1, eq_ix2 y⟩
  refine block_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 xs1 B (fun h j r e => ?_) a d
  rw [hc h]
  show up I (512 * (((i 0 : Fin 64) : ℕ) - 1) + 504 + (r : ℕ)) (256 * (j : ℕ) + (e : ℕ)) = _
  rw [show 512 * (((i 0 : Fin 64) : ℕ) - 1) + 504 + (r : ℕ) = 512 * ((i 0 : Fin 64) : ℕ) - 8 + r by omega]

/-- The kept rows, read back after the body's stores. -/
theorem rows_read {I : Args} (n : ℕ) (hn : ((i 0 : Fin 64) : ℕ) = n) (B : BlockAt I (512 * ((i 0 : Fin 64) : ℕ)) x0 x1 x2 x3 x4 x5 x6 x7 x8 x9 x10 x11 x12 x13) (f) :
    arg17.view.read (Elt Ideal) (arg17.view.writes (Elt Ideal) f (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 xs1).2.1) = rows I n := by
  refine (View.read_writes_eq_canon _ _ _ (coverS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 xs1)).trans (funext fun y => ?_)
  subst hn
  obtain ⟨j, r, e, rfl⟩ : ∃ (j : Fin 22) (r : Fin 8) (e : Fin 256), y = ix3 j r e := ⟨y 0, y 1, y 2, eq_ix3 y⟩
  exact rows_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 xs1 B j r e _ rfl
end

set_option maxHeartbeats 12800000 in
/-- The body at a point whose kept rows are the point before's, or anything where a sequence starts. -/
theorem sound_at (c : Dev nD) (t : Fin cfg0.N) (s1 : Vec Ideal S22x8x256 .f32) (hc : t.val % 8 ≠ 0 → s1 = rows (kArgs m c) (t.val - 1)) :
    iprop(iprop(iprop((∃ d, owns (c : Thread nD τ) scM0_0 fullShare d) ∗ owns (c : Thread nD τ) scM0_1 fullShare s1) ∗ (∃ r, prngReg c r)) ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))
    ⊢ wp frame (wpE (defs₀ (F := Ideal)) Variants.none c none) Set.univ (bodyAt0 t) (fun _ => bodyPost m c t) := by
  obtain ⟨b0, b1, b2, b3, b4, b5, b6, b7, b8, b9, b10, b11, b12, b13⟩ := before_in m c t
  obtain ⟨e0, e1, e2, e3, e4, e5, e6, e7, e8, e9, e10, e11, e12, e13⟩ := after_in m c t
  unfold bodyPost bodyAt0
  simp only [b0, b1, b2, b3, b4, b5, b6, b7, b8, b9, b10, b11, b12, b13]
  rw [show (dats m 0 c).Φ t.succ = PhiS m c (t.val + 1) t.isLt from rfl, PhiS_succ,
    show (dats m 0 c).owesAt () t.succ = (dats m 0 c).owesAt () t.castSucc from rfl, e0, e1, e2, e3, e4, e5, e6, e7, e8, e9, e10, e11, e12, e13, after_out]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((kernelRun c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [HS0]; · iexact HS0
  isplitl [HS1]; · iexact HS1
  iintro ⟨H0, H1, H2, H3, H4, H5, H6, H7, H8, H9, H10, H11, H12, H13, ⟨%e14, H14⟩, ⟨%fT0, HS0⟩, ⟨%es1, HS1⟩⟩
  isplitl [HS0 HS1 Hg]
  · isplitl [HS0 HS1]
    · isplitl [HS0]
      · iexists _; unfold owns; iexists _; isplitr
        swap; · iexact HS0
        ipureintro; rfl
      unfold owns; iexists _; isplitr
      swap; · iexact HS1
      ipureintro
      exact rows_read c (grid0.coords t) _ _ _ _ _ _ _ _ _ _ _ _ _ _ _ _ _ _ _ _ _ _ _ _ _ _ _ _ _ _ _ _ _ _ _ _ _ _ _ _ _ _ _ _ _ _ _ _ _ t.val (coord t) (block_of m c t) _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  unfold owns; iexists _; isplitr
  swap; · iexact H14
  ipureintro
  exact out_read c (grid0.coords t) _ _ _ _ _ _ _ _ _ _ _ _ _ _ _ _ _ _ _ _ _ _ _ _ _ _ _ _ _ _ _ _ _ _ _ _ _ _ _ _ _ _ _ _ _ _ _ _ _ t.val (coord t) (block_of m c t) hc _

set_option maxHeartbeats 1600000 in
/-- The body at every point. -/
theorem sound_body (c : Dev nD) (t : Fin cfg0.N) :
    bodyPre m c t ⊢ wp frame (wpE (defs₀ (F := Ideal)) Variants.none c none) Set.univ (bodyAt0 t) (fun _ => bodyPost m c t) := by
  unfold bodyPre
  by_cases hz : t.val = 0
  · rw [PhiS_castSucc m c t, PhiS_zero m c _ _ hz, PhiA0_eq]
    iintro ⟨⟨⟨HS0, ⟨%s1, HS1⟩⟩, Hg⟩, Hr⟩
    iapply (sound_at m c t s1 (fun h => absurd (by rw [hz]) h))
    isplitl [HS0 HS1 Hg]
    · isplitl [HS0 HS1]
      · isplitl [HS0]; · iexact HS0
        iexact HS1
      iexact Hg
    iexact Hr
  · rw [PhiS_castSucc m c t, PhiS_pos m c _ _ hz]
    exact sound_at m c t _ fun _ => rfl

/-- The body of the pipeline at a point. -/
theorem defs₀_row (t : Fin cfg0.N) : defs₀ (F := Ideal) .tc cfg0.body (cfg0.bodyArgs t (cfg0.slots t)) = bodyAt0 t := by
  unfold defs₀; rw [Defs.onTc_tc]

set_option maxHeartbeats 1600000 in
/-- What the pipeline asks of the body. -/
theorem body_obligation (c : Dev nD) :
    BodyObligation (dats m 0 c) (defs₀ (F := Ideal)) Variants.none () Set.univ := fun t => by
  rw [bigSep_W0, bigSep_W0, defs₀_row]
  exact triple_restated (sound_body m c t) rfl .rfl fun _ => .rfl

/-- Before the first point the buffers may hold anything. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point what they hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA0_eq]
  iintro ⟨⟨HS0, HS1⟩, Hg⟩
  isplitl [HS0 HS1]
  · isplitl [HS0]; · iexact HS0
    iexists _; iexact HS1
  iexact Hg

set_option maxHeartbeats 1600000 in
set_option backward.isDefEq.respectTransparency.types false in
/-- The program runs to its end; each array is as the points left it, every other one as it was, and the semaphores are at zero. -/
theorem run_main : θ_run defs (onTc (τ := τ) (main (F := Ideal))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The array the kernel leaves. -/
def final (c : Dev nD) : Buf (Elt Ideal) ((c : Thread nD τ).loc main_v9) :=
  fun i => result (kArgs m c) ((i 0 : Fin 32768) : ℕ) ((i 1 : Fin 1024) : ℕ)

/-- Each point writes its block of that array. -/
theorem flushed_eq (c : Dev nD) (t : Fin cfg0.N) : (dats m 0 c).flushed 14 t = ((cfg0.win 14).blk t).view.read (Elt Ideal) (final m c) := by
  show (cfg0.win 14).cut (grid0.coords t) ((dats m 0 c).after 14 t) = _
  rw [after_out]
  obtain ⟨-, -, e0, e1⟩ := idx_tok t
  funext y
  have hb0 : (((cfg0.win 14).blk t).view.emb y 0).val = win0_14.index t (0 : Fin 2) * 512 + 1 * (y 0).val := rfl
  have hb1 : (((cfg0.win 14).blk t).view.emb y 1).val = win0_14.index t (1 : Fin 2) * 1024 + 1 * (y 1).val := rfl
  show result (kArgs m c) (512 * t.val + (y 0).val) (y 1).val
    = result (kArgs m c) (((cfg0.win 14).blk t).view.emb y 0).val (((cfg0.win 14).blk t).view.emb y 1).val
  rw [hb0, hb1, e0, e1, Nat.one_mul, Nat.one_mul, Nat.zero_mul, Nat.zero_add, Nat.mul_comm]

/-- Every point writes its block back. -/
theorem flush_all : ∀ t : Fin cfg0.N, (cfg0.win 14).flush t = true := (by decide +kernel : ∀ t : Fin grid0.N, win0_14.flush t = true)

/-- The blocks fill the array. -/
theorem covered (i : S32768x1024.Idx) : ∃ t : Fin cfg0.N, (cfg0.win 14).flush t = true ∧ i ∈ ((cfg0.win 14).blk t).view.set := by
  have h0 : (i 0).val < 32768 := (i 0).isLt
  have h1 : (i 1).val < 1024 := (i 1).isLt
  have hN : cfg0.N = 64 := N_0
  let t : Fin cfg0.N := ⟨(i 0).val / 512, by omega⟩
  obtain ⟨-, -, e0, e1⟩ := idx_tok t
  have ht : t.val = (i 0).val / 512 := rfl
  refine ⟨t, flush_all t, ?_⟩
  show i ∈ ((View.whole main_v9).slice (win0_14.rect t)).set
  rw [View.set_slice_whole, Rect.mem_set_unit]
  intro a
  match a with
  | ⟨0, _⟩ => show win0_14.index t (0 : Fin 2) * 512 ≤ (i 0).val ∧ (i 0).val < win0_14.index t (0 : Fin 2) * 512 + 512; omega
  | ⟨1, _⟩ => show win0_14.index t (1 : Fin 2) * 1024 ≤ (i 1).val ∧ (i 1).val < win0_14.index t (1 : Fin 2) * 1024 + 1024; omega

/-- The points together leave that array. -/
theorem final_eq (c : Dev nD) : (dats m 0 c).arrAt 14 cfg0.N = final m c :=
  (dats m 0 c).arrAt_eq_of_cover 14 _ (fun t _ => flushed_eq m c t) covered

set_option maxHeartbeats 1600000 in
/-- Every run ends with the result's array so, the arguments as they were, and every semaphore at zero. -/
theorem kernel_run : θ_run defs (onTc (τ := τ) (main (F := Ideal))) ⟨m, fun _ => 0, ρ⟩ (fun r => (∀ c : Dev nD,
      r.2.mem ((c.tc : Thread nD τ).loc main_v9) = final m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun r h => ⟨fun c => ⟨((h.1 c).1 14).trans (final_eq m c), (((h.1 c).1 0).trans (((dats m 0 c).arrAt_in 0 rfl _).trans (A_eq m c 0))).trans (V_kept m c main_arg0 (by decide)),
      (((h.1 c).1 1).trans (((dats m 0 c).arrAt_in 1 rfl _).trans (A_eq m c 1))).trans (V_kept m c main_arg1 (by decide)),
      ((h.1 c).2 main_arg2 (Pipeline.mem_restRefs_of main_arg2 (by decide) (by decide))).trans (V_kept m c main_arg2 (by decide)),
      ((h.1 c).2 main_arg3 (Pipeline.mem_restRefs_of main_arg3 (by decide) (by decide))).trans (V_kept m c main_arg3 (by decide)),
      ((h.1 c).2 main_arg4 (Pipeline.mem_restRefs_of main_arg4 (by decide) (by decide))).trans (V_kept m c main_arg4 (by decide)),
      ((h.1 c).2 main_arg5 (Pipeline.mem_restRefs_of main_arg5 (by decide) (by decide))).trans (V_kept m c main_arg5 (by decide)),
      (((h.1 c).1 6).trans (((dats m 0 c).arrAt_in 6 rfl _).trans (A_eq m c 6))).trans (V_kept m c main_arg6 (by decide)),
      (((h.1 c).1 7).trans (((dats m 0 c).arrAt_in 7 rfl _).trans (A_eq m c 7))).trans (V_kept m c main_arg7 (by decide)),
      ((h.1 c).2 main_arg8 (Pipeline.mem_restRefs_of main_arg8 (by decide) (by decide))).trans (V_kept m c main_arg8 (by decide)),
      ((h.1 c).2 main_arg9 (Pipeline.mem_restRefs_of main_arg9 (by decide) (by decide))).trans (V_kept m c main_arg9 (by decide)),
      ((h.1 c).2 main_arg10 (Pipeline.mem_restRefs_of main_arg10 (by decide) (by decide))).trans (V_kept m c main_arg10 (by decide)),
      (((h.1 c).1 11).trans (((dats m 0 c).arrAt_in 11 rfl _).trans (A_eq m c 11))).trans (V_kept m c main_arg11 (by decide)),
      ((h.1 c).2 main_arg12 (Pipeline.mem_restRefs_of main_arg12 (by decide) (by decide))).trans (V_kept m c main_arg12 (by decide)),
      ((h.1 c).2 main_arg13 (Pipeline.mem_restRefs_of main_arg13 (by decide) (by decide))).trans (V_kept m c main_arg13 (by decide))⟩, h.2⟩) (run_main m ρ)

end Cert.Post

end
-- ==== Proof.PostRef.lean ====
/- The reference's second part read down to the formulas, intermediate array by intermediate array. -/
module

public import proofs.«01_k».proof.Proof.PostSpec
public import proofs.«01_k».proof.Proof.Gen.Reference2Ideal.Run

@[expose] public section

noncomputable section

namespace Cert.Post.Ref

open Idealize.ShloMosaic Idealize.ShloMosaic.TcCoe Finset Idealize.ShloMosaic.StableHlo Cert.Reference2Ideal Cert.Reference2Ideal.Gen Cert.Reference2Ideal.Value
open Cert.Gla (rd rd1 rd_eq rd1_eq rd_at)

variable (m : (ℓ : Loc nD τ sig) → Buf (Elt Ideal) ℓ) (c : Dev nD)

/-- The reference's arguments as the formulas take them. -/
def refArgs : Args :=
  argsOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13))

/-- Two sums of equal terms. -/
theorem sum_ext {n : ℕ} {f g : Fin n → EReal} (h : ∀ k, f k = g k) : ∑ k, f k = ∑ k, g k := sum_congr rfl fun k _ => h k

/-- The residual stream after the mixer. -/
theorem v4_eq (b : Fin 8) (n : Fin 4096) (d : Fin 1024) :
    (res_main_v4 (launchContents m c) (ix3 b n d) : EReal) = x1 (refArgs m c) (4096 * b + n) d := by
  pointwise [res_main_v4]
  exact congrArg₂ (· + ·) (rd_at _ _ _ _ (by show (b : ℕ) * 4096 + n = 4096 * b + n; omega) rfl)
    (sum_ext fun k => congrArg₂ (· * ·) (rd_at _ _ _ _ (by show (b : ℕ) * 4096 + n = 4096 * b + n; omega) rfl) (rd_at _ _ _ _ rfl rfl))

/-- The queries before their norm. -/
theorem v23_eq (b : Fin 8) (n : Fin 4096) (h : Fin 4) (e : Fin 256) :
    (res_main_v23 (launchContents m c) (ix4 b n h e) : EReal) = qu (refArgs m c) (4096 * b + n) (256 * h + e) := by
  pointwise [res_main_v23]
  simp only [v4_eq]
  exact sum_ext fun k => congrArg₂ (· * ·) (congrArg₂ (· * ·) rfl (rd1_eq _ k).symm)
    (rd_at _ _ _ _ rfl (by show (h : ℕ) * 256 + e = 256 * h + e; omega))

/-- The scores. -/
theorem v39_eq (b : Fin 8) (h : Fin 4) (n : Fin 4096) (s : Fin 256) :
    (res_main_v39 (launchContents m c) (ix4 b h n s) : EReal) = score (refArgs m c) (4096 * b + n) h s := by
  pointwise [res_main_v39]
  simp only [v23_eq]
  exact congrArg₂ (· * ·) (sum_ext fun k => congrArg₂ (· * ·) (congrArg₂ (· * ·) rfl (rd1_eq _ k).symm)
    (rd_at _ _ _ _ (by show (b : ℕ) * 256 + s = (4096 * b + n) / 4096 * 256 + s; omega) (by show (h : ℕ) * 256 + k = 256 * h + k; omega))) rfl

/-- The host's maximum along the last axis, over its places. -/
theorem red_row {n0 n1 n2 n3 : ℕ} (g : FVec Ideal ⟨4, ![n0, n1, n2, n3]⟩ .f32) (w : BitVec 32)
    (hr : (⟨4, ![n0, n1, n2, n3]⟩ : Shape).ReducesTo [3] ⟨3, ![n0, n1, n2]⟩) (hu : 0 < S_.numel) (b : Fin n0) (h : Fin n1) (n : Fin n2) :
    (Host.reduce FloatOps.maximumf g (constant S_ .f32 w) hr hu : FVec Ideal ⟨3, ![n0, n1, n2]⟩ .f32) (ix3 b h n)
      = fold max (Ideal.ofBits .f32 w) (fun k : Fin n3 => (g (ix4 b h n k) : EReal)) univ := by
  pointwise

/-- A row of scores less its maximum, exponentiated: the reference's operations at an index. -/
theorem exp_row (g : FVec Ideal S8x4x4096x256 .f32) (r : FVec Ideal S8x4x4096 .f32) (b : Fin 8) (h : Fin 4) (n : Fin 4096) (s : Fin 256) :
    (Host.exp (subf g (broadcastInDim S8x4x4096x256 ![0, 1, 2, 3] bcast_S8x4x4096x1_S8x4x4096x256_0_1_2_3 (broadcastInDim S8x4x4096x1 ![0, 1, 2] bcast_S8x4x4096_S8x4x4096x1_0_1_2 (maximumf (broadcastInDim S8x4x4096 ![] bcast_S_S8x4x4096 (constant S_ .f32 0xFF800000#32)) r)))) : FVec Ideal S8x4x4096x256 .f32) (ix4 b h n s)
      = Ideal.exp (g (ix4 b h n s) - max (Ideal.ofBits .f32 0xFF800000#32) (r (ix3 b h n))) := by
  pointwise

/-- A maximum is not below what it starts from. -/
theorem max_fold (w : EReal) (f : Fin 256 → EReal) : max w (fold max w f univ) = fold max w f univ :=
  max_eq_right (Finset.le_fold_max _ |>.mpr (Or.inl le_rfl))

/-- The scores' exponentials. -/
theorem v46_eq (b : Fin 8) (h : Fin 4) (n : Fin 4096) (s : Fin 256) :
    (res_main_v46 (launchContents m c) (ix4 b h n s) : EReal)
      = Ideal.exp (score (refArgs m c) (4096 * b + n) h s - top (score (refArgs m c) (4096 * b + n) h)) := by
  refine (exp_row (res_main_v39 (launchContents m c)) _ b h n s).trans (congrArg Ideal.exp (congrArg₂ (· - ·) (v39_eq m c b h n s) ((congrArg (max _) (red_row _ _ _ _ b h n)).trans ((max_fold _ _).trans ?_))))
  exact congrArg (fun f => fold max (Ideal.ofBits .f32 0xFF800000#32) f univ) (funext fun k => v39_eq m c b h n k)

/-- The residual stream after the attention. -/
theorem v55_eq (b : Fin 8) (n : Fin 4096) (d : Fin 1024) :
    (res_main_v55 (launchContents m c) (ix3 b n d) : EReal) = x2 (refArgs m c) (4096 * b + n) d := by
  pointwise [res_main_v55]
  simp only [v46_eq, v4_eq]
  exact congrArg₂ (· + ·) rfl (sum_ext fun j => congrArg₂ (· * ·) (sum_ext fun s => (mul_comm _ _).trans
    (congrArg₂ (· * ·) rfl (rd_at _ _ _ _ (by show (b : ℕ) * 256 + s = (4096 * b + n) / 4096 * 256 + s; omega)
      (by show (j : ℕ) = 256 * (j / 256) + j % 256; omega)))) (rd_at _ _ _ _ rfl rfl))

/-- The inner activations, two rows of zeros before them. -/
theorem v70_eq (b : Fin 8) (n : Fin 4098) (d : Fin 5632) :
    (res_main_v70 (launchContents m c) (ix3 b n d) : EReal) = if (n : ℕ) < 2 then 0 else up (refArgs m c) (4096 * b + n - 2) d := by
  pointwise [res_main_v70]
  simp only [v55_eq]
  by_cases hn : (n : ℕ) < 2
  · rw [if_pos hn, dif_neg (by omega)]
    show ((((0#32 : BitVec 32).toInt : ℝ)) : EReal) = 0
    simp
  · rw [if_neg hn, dif_pos (by omega), Nat.add_sub_assoc (by omega)]
    exact sum_ext fun k => congrArg₂ (· * ·) (congrArg₂ (· * ·) rfl (rd1_eq _ k).symm) (rd_at _ _ _ _ rfl rfl)

/-- The convolved activations. -/
theorem v93_eq (b : Fin 8) (n : Fin 4096) (d : Fin 5632) :
    (res_main_v93 (launchContents m c) (ix3 b n d) : EReal) = conv (refArgs m c) (4096 * b + n) d := by
  pointwise [res_main_v93]
  simp only [v70_eq]
  rw [if_neg (show ¬ 2 + (n : ℕ) < 2 by omega), show 4096 * (b : ℕ) + (2 + n) - 2 = 4096 * b + n by omega]
  have e1 : (if 1 + (n : ℕ) < 2 then (0 : EReal) else up (refArgs m c) (4096 * b + (1 + n) - 2) d) = back (refArgs m c) 1 (4096 * b + n) d := by
    unfold back
    rw [show (4096 * (b : ℕ) + n) % 4096 = n by omega, show 4096 * (b : ℕ) + (1 + n) - 2 = 4096 * b + n - 1 by omega]
    exact if_congr (by omega) rfl rfl
  have e2 : (if (n : ℕ) < 2 then (0 : EReal) else up (refArgs m c) (4096 * b + n - 2) d) = back (refArgs m c) 2 (4096 * b + n) d := by
    unfold back
    rw [show (4096 * (b : ℕ) + n) % 4096 = n by omega]
  rw [e1, e2]
  refine Eq.trans (congrArg₂ (· + ·) (congrArg₂ (· + ·) (congrArg₂ (· + ·) (congrArg (· * _) (rd_at _ _ 0 d rfl rfl)) (congrArg (· * _) (rd_at _ _ 1 d rfl rfl)))
    (congrArg (· * _) (rd_at _ _ 2 d rfl rfl))) (rd1_eq _ d).symm) ?_
  unfold conv
  show (_ + _ + _ : EReal) + _ = _
  rw [add_comm _ (rd1 _ _), add_comm _ (rd _ 2 _ * _), add_comm (rd _ 0 _ * _), ← add_assoc, ← add_assoc]
  rfl

/-- Nothing less a value is its negative. -/
theorem zero_sub' (x : EReal) : 0 - x = -x := by
  rw [sub_eq_add_neg, zero_add]

/-- What the reference leaves is the result. -/
theorem reference_eq (t : Fin 32768) (d : Fin 1024) :
    (shapeCast _ (addf (res_main_v55 (launchContents m c)) (Host.dotGeneral (φ₂ := .f32) dot_S8x4096x2816_S2816x1024_S8x4096x1024_2_0_01_1_n_n none (mulf (mulf (res_main_v94 (launchContents m c)) (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf (res_main_v94 (launchContents m c))))))) (extractStridedSlice S8x4096x2816 ![0, 0, 2816] (res_main_v93 (launchContents m c)) slices_S8x4096x5632_S8x4096x2816_0_0_2816)) ((launchContents m c) (Proc.devRef .tc main_arg13)))) shapeCasts_S8x4096x1024_S32768x1024 : FVec Ideal S32768x1024 .f32) (ix2 t d)
      = result (refArgs m c) t d := by
  pointwise [res_main_v94]
  simp only [v93_eq, v55_eq]
  rw [Nat.div_add_mod]
  exact congrArg₂ (· + ·) rfl (sum_ext fun k => congrArg₂ (· * ·)
    (congrArg₂ (· * ·) (congrArg (fun z => _ * Ideal.div 1 (1 + Ideal.exp z)) (zero_sub' _).symm) rfl) (rd_at _ _ _ _ rfl rfl))

end Cert.Post.Ref
-- ==== Proof.PostClaim.lean ====
/- The claims about the second kernel: both programs leave the array `result`. -/
module

public import proofs.«01_k».proof.Defs
public import proofs.«01_k».proof.Proof.Gen.Kernel2Ideal
public import proofs.«01_k».proof.Proof.Gen.Reference2Ideal
public import proofs.«01_k».proof.Proof.PostValue
public import proofs.«01_k».proof.Proof.PostRef
public import Idealize.ShloMosaic.Lib.Claim

@[expose] public section

noncomputable section

namespace Cert.Post

open Idealize.ShloMosaic Idealize.SL.Sem

/-- The ideal kernel ends with its arguments unchanged and every semaphore at zero. -/
theorem kernel_frame : Cert.quiescent_Kernel2Ideal (hKernel2Ideal := Cert.Kernel2Ideal.Gen.facts) := fun m g _ =>
  (θ_run Cert.Kernel2Ideal.defs _ _).mono (fun _ h => ⟨fun c => (h.1 c).2, h.2⟩) (kernel_run m g)

/-- The reference ends with its arguments unchanged and, having no semaphores, with none raised. -/
theorem reference_frame : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩) (Cert.Reference2Ideal.Value.run m g)

/-- Kernel and reference compute the same array. -/
theorem algebraic : Cert.algebraic_Kernel2Ideal_Reference2Ideal (hKernel2Ideal := Cert.Kernel2Ideal.Gen.facts)
    (hReference2Ideal := Cert.Reference2Ideal.Gen.facts) := by
  intro m g m' g' _ hagree
  refine ⟨fun c => final m c, (θ_run Cert.Kernel2Ideal.defs _ _).mono (fun r h => h.1) (kernel_run m g),
    (θ_run Cert.Reference2Ideal.defs _ _).mono (fun r h c => ⟨(h c).1.trans ?_, (h c).2⟩) (Cert.Reference2Ideal.Value.run m' g')⟩
  obtain ⟨a0, a1, a2, a3, a4, a5, a6, a7, a8, a9, a10, a11, a12, a13⟩ := hagree c
  funext i
  obtain ⟨p, e, rfl⟩ : ∃ (p : Fin 32768) (e : Fin 1024), i = ix2 p e := ⟨i 0, i 1, eq_ix2 i⟩
  refine (Ref.reference_eq m' c p e).trans ?_
  have hA : Ref.refArgs m' c = kArgs m c := by
    show argsOf _ _ _ _ _ _ _ _ _ _ _ _ _ _ = argsOf _ _ _ _ _ _ _ _ _ _ _ _ _ _
    rw [a0, a1, a2, a3, a4, a5, a6, a7, a8, a9, a10, a11, a12, a13]
  rw [hA]
  rfl

end Cert.Post

end
-- ==== Proof.ProjSpec.lean ====
/- The mixers' projections as plain formulas over the extended reals: a normed row of the residual stream times a weight. The projections'
   kernels and references are read down to these. -/
module

public import proofs.«01_k».proof.Proof.PostSpec

@[expose] public section

noncomputable section

namespace Cert.Proj

open Idealize.ShloMosaic Finset
open Cert.Gla (rd rd1 rd_eq rd1_eq rd_at)
open Cert.Post (rms w1024 eps)

/-- A normed row of the residual stream times a column of a weight. -/
def proj (x : ℕ → ℕ → EReal) (g : ℕ → EReal) (w : ℕ → ℕ → EReal) (t d : ℕ) : EReal := ∑ k : Fin 1024, rms 1024 w1024 (x t) g k * w k d

/-- A head's width. -/
abbrev w128 : EReal := Ideal.ofBits .f32 0x43000000#32

/-- A projection's columns from `n` on in heads of 128, each head normed. -/
def headed (x : ℕ → ℕ → EReal) (g : ℕ → EReal) (w : ℕ → ℕ → EReal) (q : ℕ → EReal) (n t d : ℕ) : EReal :=
  rms 128 w128 (fun j => proj x g w t (n + (128 * (d / 128) + j))) q (d % 128)

/-- A weight with 120 columns of zeros after its 2056th. -/
def wide (w : ℕ → ℕ → EReal) (k j : ℕ) : EReal := if j < 2056 then w k j else if j < 2176 then 0 else w k (j - 120)

/-- Two sums of equal terms. -/
theorem sum_eq {n : ℕ} {f g : Fin n → EReal} (h : ∀ k, f k = g k) : ∑ k, f k = ∑ k, g k := sum_congr rfl fun k _ => h k

/-- A projection reads one column. -/
theorem proj_col {x : ℕ → ℕ → EReal} {g : ℕ → EReal} {v w : ℕ → ℕ → EReal} {t d e : ℕ} (h : ∀ k, v k d = w k e) : proj x g v t d = proj x g w t e :=
  sum_eq fun k => congrArg _ (h k)

/-- The widened weight's columns before the zeros. -/
theorem proj_wide {x : ℕ → ℕ → EReal} {g : ℕ → EReal} {w : ℕ → ℕ → EReal} {t d : ℕ} (h : d < 2056) : proj x g (wide w) t d = proj x g w t d :=
  proj_col fun _ => if_pos h

/-- The widened weight's zero columns. -/
theorem proj_zero {x : ℕ → ℕ → EReal} {g : ℕ → EReal} {w : ℕ → ℕ → EReal} {t d : ℕ} (h : 2056 ≤ d) (h' : d < 2176) : proj x g (wide w) t d = 0 := by
  unfold proj
  refine Finset.sum_eq_zero fun k _ => ?_
  rw [show wide w k d = 0 from (if_neg (by omega)).trans (if_pos h'), mul_zero]

/-- The widened weight's columns after the zeros. -/
theorem proj_after {x : ℕ → ℕ → EReal} {g : ℕ → EReal} {w : ℕ → ℕ → EReal} {t d e : ℕ} (h : 2176 ≤ d) (he : d = e + 120) :
    proj x g (wide w) t d = proj x g w t e :=
  proj_col fun k => (if_neg (by omega)).trans ((if_neg (by omega)).trans (congrArg (w k) (by omega)))

/-- Heads after the zeros. -/
theorem headed_after {x : ℕ → ℕ → EReal} {g : ℕ → EReal} {w : ℕ → ℕ → EReal} {q : ℕ → EReal} {n n' t d : ℕ} (h : 2176 ≤ n) (hn : n = n' + 120) :
    headed x g (wide w) q n t d = headed x g w q n' t d := by
  unfold headed
  exact congrArg (fun f => rms 128 w128 f q (d % 128)) (funext fun j => proj_after (by omega) (by omega))

/-- A sum of products whose second factors are zero from the sixteenth on is that of the first sixteen. -/
theorem sum_short (f w : ℕ → EReal) (hw : ∀ k, 16 ≤ k → w k = 0) : (∑ k : Fin 128, f k * w k) = ∑ k : Fin 16, f k * w k := by
  rw [← Finset.sum_range (fun k => f k * w k), ← Finset.sum_range (fun k => f k * w k)]
  refine (Finset.sum_subset (Finset.range_subset_range.mpr (by omega)) fun k _ hk => ?_).symm
  rw [hw k (by simpa using hk), mul_zero]

/-- The gates' scale. -/
abbrev w16 : EReal := Ideal.ofBits .f32 0x41800000#32

/-- A gate from its pre-activation: the logarithm of the sigmoid, scaled. -/
def gate (y : EReal) : EReal := Ideal.div (min y 0 - Ideal.log1p (Ideal.exp (0 - FloatOps.absf (F := Ideal) (φ := .f32) y))) w16

/-- An exponential is not negative. -/
theorem exp_nonneg (x : EReal) : 0 ≤ Ideal.exp x := by
  match x with
  | none => exact le_refl _
  | some none => exact le_top
  | some (some r) => exact EReal.coe_nonneg.mpr (Real.exp_pos r).le

/-- The logarithm of one more than a value that is not negative is not minus infinity. -/
theorem log1p_ne_bot {x : EReal} (h : 0 ≤ x) : Ideal.log1p x ≠ ⊥ := by
  unfold Ideal.log1p
  have h1 : (1 : EReal) ≤ 1 + x := (add_zero (1 : EReal)).symm.le.trans (add_le_add le_rfl h)
  revert h1
  generalize (1 + x : EReal) = z
  intro h1
  match z with
  | none => exact absurd (le_bot_iff.mp (show (1 : EReal) ≤ ⊥ from h1)) (EReal.coe_ne_bot 1)
  | some none => exact fun e => absurd e (by simp [Ideal.log])
  | some (some r) =>
    have hr : (1 : ℝ) ≤ r := EReal.coe_le_coe_iff.mp h1
    show (if r ≤ 0 then ⊥ else ((Real.log r : ℝ) : EReal)) ≠ ⊥
    rw [if_neg (by linarith)]
    exact EReal.coe_ne_bot _

/-- The absolute value forgets the sign. -/
theorem abs_neg' (y : EReal) : FloatOps.absf (F := Ideal) (φ := .f32) (-y) = FloatOps.absf (F := Ideal) (φ := .f32) y := by
  show max (-y) (- -y) = max y (-y)
  rw [neg_neg, max_comm]

/-- The gate the other way about: less the softplus of the negative. -/
theorem gate_neg (y : EReal) :
    Ideal.div (-(max (-y) 0 + Ideal.log1p (Ideal.exp (-FloatOps.absf (F := Ideal) (φ := .f32) (-y))))) w16 = gate y := by
  unfold gate
  rw [abs_neg', sub_eq_add_neg 0, zero_add]
  congr 1
  have h0 : (max (-y) 0 : EReal) ≠ ⊥ := fun e => absurd (le_max_right (-y) (0 : EReal)) (by rw [e]; simp)
  rw [EReal.neg_add (Or.inl h0) (Or.inr (log1p_ne_bot (exp_nonneg _)))]
  congr 1
  rcases le_total y 0 with h | h
  · rw [min_eq_left h, max_eq_left (by simpa using EReal.neg_le_neg_iff.mpr h), neg_neg]
  · rw [min_eq_right h, max_eq_right (by simpa using EReal.neg_le_neg_iff.mpr h), neg_zero]

/-- A matrix read outside its bounds. -/
theorem rd_out {n0 n1 : ℕ} (x : (⟨2, ![n0, n1]⟩ : Shape).Idx → EReal) (a b : ℕ) (h : ¬(a < n0 ∧ b < n1)) : rd x a b = 0 := by
  unfold rd
  exact dif_neg h

/-- The whole numbers' zero as a real. -/
theorem zero_word : FloatOps.sitofp (F := Ideal) .f32 (0#32 : BitVec 32) = (0 : EReal) := by
  show ((((0#32 : BitVec 32).toInt : ℝ)) : EReal) = 0
  simp

/-- An index of an array's block, from its two coordinates. -/
theorem emb_at {n0 n1 b0 b1 : ℕ} (f : (⟨2, ![b0, b1]⟩ : Shape).Idx → (⟨2, ![n0, n1]⟩ : Shape).Idx) (a : Fin b0) (d : Fin b1) (p : Fin n0) (e : Fin n1)
    (h0 : ((f (ix2 a d) 0 : Fin n0) : ℕ) = p) (h1 : ((f (ix2 a d) 1 : Fin n1) : ℕ) = e) : f (ix2 a d) = ix2 p e :=
  (eq_ix2 _).trans (congrArg₂ ix2 (Fin.ext h0) (Fin.ext h1))

/-- A token's place in its block of 512. -/
def off (p : Fin 32768) : Fin 512 := ⟨p % 512, by omega⟩

/-- A token's row in an array of blocks of 512 tokens, block `i` of which is given by its index. -/
theorem emb_tok {n : ℕ} (f : (⟨2, ![512, n]⟩ : Shape).Idx → (⟨2, ![32768, n]⟩ : Shape).Idx) (p : Fin 32768) (d : Fin n) {i j : ℕ}
    (h0 : ((f (ix2 (off p) d) 0 : Fin 32768) : ℕ) = i * 512 + 1 * (off p : ℕ)) (h1 : ((f (ix2 (off p) d) 1 : Fin n) : ℕ) = j * n + 1 * (d : ℕ))
    (hi : i = (p : ℕ) / 512 ∧ j = 0) : f (ix2 (off p) d) = ix2 p d := by
  refine emb_at f _ d p d (h0.trans ?_) (h1.trans ?_)
  · rw [hi.1]
    show (p : ℕ) / 512 * 512 + 1 * ((p : ℕ) % 512) = p
    omega
  · rw [hi.2]
    omega

end Cert.Proj

end
-- ==== Proof.ProjGla.lean ====
/- The odd layer's projection: what its kernel leaves in the queries, keys, values, output gates and forget gates. -/
module

public import proofs.«01_k».proof.Proof.ProjSpec
public import proofs.«01_k».proof.Proof.PostGrid
public import proofs.«01_k».proof.Proof.Gen.Kernel3Ideal.Value

@[expose] public section

noncomputable section

namespace Cert.Proj.Gla

open Idealize.ShloMosaic Idealize.ShloMosaic.TcCoe Idealize.ShloMosaic.Tactic Cert.Kernel3Ideal Cert.Kernel3Ideal.Gen Cert.Kernel3Ideal.Value
open Idealize.SL.Sem
open Cert.Gla (rd rd1 rd_eq rd1_eq rd_at)
open Cert.Post (rms w1024 eps row_at ld_all ld_cols)

variable {X : ℕ → ℕ → EReal} {G : ℕ → EReal} {W K : ℕ → ℕ → EReal} {B : ℕ → EReal} {T : ℕ}

/-- The residual stream's block, normed. -/
theorem norm_at {x : FVec Ideal S512x1024 .f32} {g : FVec Ideal S1x1024 .f32}
    (hx : ∀ (a : Fin 512) (d : Fin 1024), x (ix2 a d) = X (T + a) d) (hg : ∀ d : Fin 1024, g (ix2 0 d) = G d) (a : Fin 512) (d : Fin 1024) :
    k0_pay1 (F := Ideal) x g (ix2 a d) = rms 1024 w1024 (X (T + a)) G d := by
  pointwise [k0_pay1]
  simp only [hx, hg]
  rfl

/-- A column tile of a projection. -/
theorem tile_at {n : ℕ} {h : FVec Ideal S512x1024 .bf16} {w : FVec Ideal S1024x512 .bf16}
    (hh : ∀ (a : Fin 512) (d : Fin 1024), h (ix2 a d) = rms 1024 w1024 (X (T + a)) G d)
    (hw : ∀ (k : Fin 1024) (e : Fin 512), w (ix2 k e) = W k (n + e)) (a e : Fin 512) :
    k0_pay7 (F := Ideal) h w (ix2 a e) = proj X G W (T + a) (n + e) := by
  pointwise [k0_pay7]
  simp only [hh, hw]
  rfl

/-- The forget gates: sixteen columns projected once more, the bias added, the logarithm of the sigmoid taken. -/
theorem gate_at {h : FVec Ideal S512x1024 .bf16} {w : FVec Ideal S1024x128 .bf16} {v : FVec Ideal S128x512 .bf16} {b : FVec Ideal S1x512 .f32}
    (hh : ∀ (a : Fin 512) (d : Fin 1024), h (ix2 a d) = rms 1024 w1024 (X (T + a)) G d)
    (hw : ∀ (k : Fin 1024) (e : Fin 128), w (ix2 k e) = W k (3072 + e)) (hv : ∀ (k : Fin 128) (e : Fin 512), v (ix2 k e) = K k e)
    (hb : ∀ e : Fin 512, b (ix2 0 e) = B e) (hK : ∀ k e, 16 ≤ k → K k e = 0) (a e : Fin 512) :
    k0_pay9 (F := Ideal) h w v b (ix2 a e) = gate ((∑ k : Fin 16, proj X G W (T + a) (3072 + k) * K k e) + B e) := by
  pointwise [k0_pay9]
  simp only [hh, hw, hv, hb]
  rw [← sum_short (fun k => proj X G W (T + a) (3072 + k)) (fun k => K k e) fun k hk => hK k e hk]
  rfl

/-- The blocks a point reads: 512 tokens from `T` on, and all of the weights. -/
structure BlockAt (X : ℕ → ℕ → EReal) (G : ℕ → EReal) (W K : ℕ → ℕ → EReal) (B : ℕ → EReal) (T : ℕ) (x0 : Vec Ideal S512x1024 .f32) (x1 : Vec Ideal S1x1024 .f32)
    (x2 : Vec Ideal S1024x3200 .bf16) (x3 : Vec Ideal S128x512 .bf16) (x4 : Vec Ideal S1x512 .f32) : Prop where
  x : ∀ (a : Fin 512) (d : Fin 1024), x0 (ix2 a d) = X (T + a) d
  g : ∀ d : Fin 1024, x1 (ix2 0 d) = G d
  w : ∀ (k : Fin 1024) (j : Fin 3200), x2 (ix2 k j) = W k j
  k : ∀ (k : Fin 128) (j : Fin 512), x3 (ix2 k j) = K k j
  b : ∀ d : Fin 512, x4 (ix2 0 d) = B d

variable {x0 : Vec Ideal S512x1024 .f32} {x1 : Vec Ideal S1x1024 .f32} {x2 : Vec Ideal S1024x3200 .bf16} {x3 : Vec Ideal S128x512 .bf16} {x4 : Vec Ideal S1x512 .f32}

/-- The block's rows, normed. -/
theorem BlockAt.norm (H : BlockAt X G W K B T x0 x1 x2 x3 x4) (a : Fin 512) (d : Fin 1024) :
    k0_pay1 (F := Ideal) (View.ld x0 r0_0) (View.ld x1 r0_1) (ix2 a d) = rms 1024 w1024 (X (T + a)) G d :=
  norm_at (fun a d => (ld_all x0 inb_S512x1024_S512x1024_0_0 a d).trans (H.x a d)) (fun d => (ld_all x1 inb_S1x1024_S1x1024_0_0 0 d).trans (H.g d)) a d

/-- A column tile a point stores, at its place. -/
theorem BlockAt.piece (H : BlockAt X G W K B T x0 x1 x2 x3 x4) (n o : ℕ) (hn : n + o + 512 ≤ 3200) (inb) (a : Fin 512) (d : ℕ) (y : S512x512.Idx)
    (h0 : (a : ℕ) = 0 + ((y 0 : Fin 512) : ℕ)) (h1 : d = o + ((y 1 : Fin 512) : ℕ)) :
    k0_pay7 (F := Ideal) (k0_pay1 (View.ld x0 r0_0) (View.ld x1 r0_1)) (View.ld x2 (Rect.unit (s := S1024x3200) ![0, n + o] S1024x512.size inb)) y = proj X G W (T + a) (n + d) := by
  obtain ⟨p, e, rfl⟩ : ∃ (p : Fin 512) (e : Fin 512), y = ix2 p e := ⟨y 0, y 1, eq_ix2 y⟩
  have e0 : (a : ℕ) = 0 + p := h0
  have e1 : d = o + e := h1
  refine (tile_at H.norm (fun k j => (ld_cols x2 (n + o) inb k j (by omega)).trans (H.w k _)) p e).trans ?_
  rw [show (a : ℕ) = p by omega, show n + d = n + o + e by omega]

/-- The block of queries. -/
theorem BlockAt.q (H : BlockAt X G W K B T x0 x1 x2 x3 x4) (a d : Fin 512) : out0_5 x0 x1 x2 x3 x4 (ix2 a d) = proj X G W (T + a) (0 + d) := by
  unfold out0_5
  exact View.canon_eq_of_allAt _ _ _ (cover0_5 _ _) (View.allAt_cons_unit _ _ _ _ _ (fun y hy => H.piece 0 0 (by omega) _ a d y (hy 0) (hy 1)) (View.allAt_nil _ _))
/-- The block of keys. -/
theorem BlockAt.keys (H : BlockAt X G W K B T x0 x1 x2 x3 x4) (a d : Fin 512) : out0_6 x0 x1 x2 x3 x4 (ix2 a d) = proj X G W (T + a) (512 + d) := by
  unfold out0_6
  exact View.canon_eq_of_allAt _ _ _ (cover0_6 _ _) (View.allAt_cons_unit _ _ _ _ _ (fun y hy => H.piece 512 0 (by omega) _ a d y (hy 0) (hy 1)) (View.allAt_nil _ _))
/-- The block of values. -/
theorem BlockAt.v (H : BlockAt X G W K B T x0 x1 x2 x3 x4) (a : Fin 512) (d : Fin 1024) : out0_7 x0 x1 x2 x3 x4 (ix2 a d) = proj X G W (T + a) (1024 + d) := by
  unfold out0_7
  exact View.canon_eq_of_allAt _ _ _ (cover0_7 _ _ _) (View.allAt_cons_unit _ _ _ _ _ (fun y hy => H.piece 1024 512 (by omega) _ a d y (hy 0) (hy 1))
    (View.allAt_cons_unit _ _ _ _ _ (fun y hy => H.piece 1024 0 (by omega) _ a d y (hy 0) (hy 1)) (View.allAt_nil _ _)))
/-- The block of output gates. -/
theorem BlockAt.r (H : BlockAt X G W K B T x0 x1 x2 x3 x4) (a : Fin 512) (d : Fin 1024) : out0_8 x0 x1 x2 x3 x4 (ix2 a d) = proj X G W (T + a) (2048 + d) := by
  unfold out0_8
  exact View.canon_eq_of_allAt _ _ _ (cover0_8 _ _ _) (View.allAt_cons_unit _ _ _ _ _ (fun y hy => H.piece 2048 512 (by omega) _ a d y (hy 0) (hy 1))
    (View.allAt_cons_unit _ _ _ _ _ (fun y hy => H.piece 2048 0 (by omega) _ a d y (hy 0) (hy 1)) (View.allAt_nil _ _)))
/-- The block of forget gates. -/
theorem BlockAt.gates (H : BlockAt X G W K B T x0 x1 x2 x3 x4) (hK : ∀ k e, 16 ≤ k → K k e = 0) (a d : Fin 512) :
    out0_9 x0 x1 x2 x3 x4 (ix2 a d) = gate ((∑ k : Fin 16, proj X G W (T + a) (3072 + k) * K k d) + B d) := by
  unfold out0_9
  refine View.canon_eq_of_allAt _ _ _ (cover0_9 _ _) (View.allAt_cons_unit _ _ _ _ _ (fun y hy => ?_) (View.allAt_nil _ _))
  obtain ⟨p, e, rfl⟩ : ∃ (p : Fin 512) (e : Fin 512), y = ix2 p e := ⟨y 0, y 1, eq_ix2 y⟩
  have e0 : (a : ℕ) = 0 + p := hy 0
  have e1 : (d : ℕ) = 0 + e := hy 1
  rw [show (a : ℕ) = p by omega, show (d : ℕ) = e by omega]
  exact gate_at H.norm (fun k j => (ld_cols x2 3072 inb_S1024x3200_S1024x128_0_3072 k j (by omega)).trans (H.w k _))
    (fun k j => (ld_all x3 inb_S128x512_S128x512_0_0 k j).trans (H.k k j)) (fun j => (ld_all x4 inb_S1x512_S1x512_0_0 0 j).trans (H.b j)) hK p e

variable (m : (ℓ : Loc nD τ sig) → Buf (Elt Ideal) ℓ)

/-- The residual stream. -/
abbrev aX (c : Dev nD) : ℕ → ℕ → EReal := rd (n0 := 32768) (n1 := 1024) (m ((c : Thread nD τ).loc main_arg0))
/-- The norm's weights. -/
abbrev aG (c : Dev nD) : ℕ → EReal := rd1 (n := 1024) (m ((c : Thread nD τ).loc main_arg1))
/-- The projection's weight. -/
abbrev aW (c : Dev nD) : ℕ → ℕ → EReal := rd (n0 := 1024) (n1 := 3088) (m ((c : Thread nD τ).loc main_arg2))
/-- The gates' weight. -/
abbrev aK (c : Dev nD) : ℕ → ℕ → EReal := rd (n0 := 16) (n1 := 512) (m ((c : Thread nD τ).loc main_arg3))
/-- The gates' bias. -/
abbrev aB (c : Dev nD) : ℕ → EReal := rd1 (n := 512) (m ((c : Thread nD τ).loc main_arg4))

/-- The blocks of tokens follow the grid. -/
theorem idx_tok : ∀ t : Fin cfg0.N, (win0_0.index t (0 : Fin 2) = t.val ∧ win0_0.index t (1 : Fin 2) = 0)
    ∧ (win0_5.index t (0 : Fin 2) = t.val ∧ win0_5.index t (1 : Fin 2) = 0) ∧ (win0_6.index t (0 : Fin 2) = t.val ∧ win0_6.index t (1 : Fin 2) = 0)
    ∧ (win0_7.index t (0 : Fin 2) = t.val ∧ win0_7.index t (1 : Fin 2) = 0) ∧ (win0_8.index t (0 : Fin 2) = t.val ∧ win0_8.index t (1 : Fin 2) = 0)
    ∧ (win0_9.index t (0 : Fin 2) = t.val ∧ win0_9.index t (1 : Fin 2) = 0) := (by decide +kernel : ∀ t : Fin grid0.N, _)
/-- The weights are one block. -/
theorem idx_w : ∀ t : Fin cfg0.N, (win0_1.index t (0 : Fin 2) = 0 ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) := (by decide +kernel : ∀ t : Fin grid0.N, _)
/-- Every point writes its blocks back. -/
theorem flush_all : ∀ t : Fin cfg0.N, (cfg0.win 5).flush t = true ∧ (cfg0.win 6).flush t = true ∧ (cfg0.win 7).flush t = true
    ∧ (cfg0.win 8).flush t = true ∧ (cfg0.win 9).flush t = true := (by decide +kernel : ∀ t : Fin grid0.N, _)

/-- The weight as the kernel takes it: columns of zeros after its own. -/
theorem V_w (c : Dev nD) (k : Fin 1024) (j : Fin 3200) : (V m c main_v1 : S1024x3200.Idx → EReal) (ix2 k j) = aW m c k j := by
  show (StableHlo.after (List.flatten [hostOps0, hostOps0_1, hostOps0_2, hostOps0_3, hostOps0_4]) (fun b => m (c, b)) main_v1 : S1024x3200.Idx → EReal) (ix2 k j) = _
  simp only [hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
  after_results_simp
  pointwise
  split_ifs with h
  · exact rd_at _ _ _ _ rfl rfl
  · exact zero_word.trans (rd_out _ _ _ (by omega)).symm
/-- The gates' weight as the kernel takes it: rows of zeros after its own. -/
theorem V_k (c : Dev nD) (k : Fin 128) (j : Fin 512) : (V m c main_v3 : S128x512.Idx → EReal) (ix2 k j) = aK m c k j := by
  show (StableHlo.after (List.flatten [hostOps0, hostOps0_1, hostOps0_2, hostOps0_3, hostOps0_4]) (fun b => m (c, b)) main_v3 : S128x512.Idx → EReal) (ix2 k j) = _
  simp only [hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
  after_results_simp
  pointwise
  split_ifs with h
  · exact rd_at _ _ _ _ rfl rfl
  · exact zero_word.trans (rd_out _ _ _ (by omega)).symm
/-- The gates' bias as a row. -/
theorem V_b (c : Dev nD) : V m c main_v4 = shapeCast S1x512 (m ((c : Thread nD τ).loc main_arg4)) shapeCasts_S512_S1x512 := by
  show StableHlo.after (List.flatten [hostOps0, hostOps0_1, hostOps0_2, hostOps0_3, hostOps0_4]) (fun b => m (c, b)) main_v4 = _
  simp only [hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
  after_results_simp
  rfl
/-- The norm's weights as a row. -/
theorem V_g (c : Dev nD) : V m c main_v5 = shapeCast S1x1024 (m ((c : Thread nD τ).loc main_arg1)) shapeCasts_S1024_S1x1024 := by
  show StableHlo.after (List.flatten [hostOps0, hostOps0_1, hostOps0_2, hostOps0_3, hostOps0_4]) (fun b => m (c, b)) main_v5 = _
  simp only [hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
  after_results_simp
  rfl

/-- The residual stream's block. -/
theorem blk_x (c : Dev nD) (t : Fin cfg0.N) (a : Fin 512) (d : Fin 1024) : (iblk m c 0 t : S512x1024.Idx → EReal) (ix2 a d) = aX m c (512 * t.val + a) d :=
  (congrFun (V_main_arg0 m c) (((cfg0.win 0).blk t).view.emb (ix2 a d))).trans (rd_at _ _ _ _
    (show win0_0.index t (0 : Fin 2) * 512 + 1 * (a : ℕ) = _ by rw [(idx_tok t).1.1]; omega) (show win0_0.index t (1 : Fin 2) * 1024 + 1 * (d : ℕ) = d by rw [(idx_tok t).1.2]; omega))
/-- The norm's weights' block. -/
theorem blk_g (c : Dev nD) (t : Fin cfg0.N) (d : Fin 1024) : (iblk m c 1 t : S1x1024.Idx → EReal) (ix2 0 d) = aG m c d :=
  (congrFun (V_g m c) (((cfg0.win 1).blk t).view.emb (ix2 0 d))).trans (row_at _ _ _ _
    (show win0_1.index t (1 : Fin 2) * 1024 + 1 * (d : ℕ) = d by rw [(idx_w t).1.2]; omega))
/-- The weight's block. -/
theorem blk_w (c : Dev nD) (t : Fin cfg0.N) (k : Fin 1024) (j : Fin 3200) : (iblk m c 2 t : S1024x3200.Idx → EReal) (ix2 k j) = aW m c k j :=
  (congrArg (V m c main_v1 : S1024x3200.Idx → EReal) (show ((cfg0.win 2).blk t).view.emb (ix2 k j) = ix2 k j from emb_at _ _ _ _ _
    (show win0_2.index t (0 : Fin 2) * 1024 + 1 * (k : ℕ) = _ by rw [(idx_w t).2.1.1]; omega) (show win0_2.index t (1 : Fin 2) * 3200 + 1 * (j : ℕ) = j by rw [(idx_w t).2.1.2]; omega))).trans (V_w m c k j)
/-- The gates' weight's block. -/
theorem blk_k (c : Dev nD) (t : Fin cfg0.N) (k : Fin 128) (j : Fin 512) : (iblk m c 3 t : S128x512.Idx → EReal) (ix2 k j) = aK m c k j :=
  (congrArg (V m c main_v3 : S128x512.Idx → EReal) (show ((cfg0.win 3).blk t).view.emb (ix2 k j) = ix2 k j from emb_at _ _ _ _ _
    (show win0_3.index t (0 : Fin 2) * 128 + 1 * (k : ℕ) = _ by rw [(idx_w t).2.2.1.1]; omega) (show win0_3.index t (1 : Fin 2) * 512 + 1 * (j : ℕ) = j by rw [(idx_w t).2.2.1.2]; omega))).trans (V_k m c k j)
/-- The gates' bias' block. -/
theorem blk_b (c : Dev nD) (t : Fin cfg0.N) (d : Fin 512) : (iblk m c 4 t : S1x512.Idx → EReal) (ix2 0 d) = aB m c d :=
  (congrFun (V_b m c) (((cfg0.win 4).blk t).view.emb (ix2 0 d))).trans (row_at _ _ _ _
    (show win0_4.index t (1 : Fin 2) * 512 + 1 * (d : ℕ) = d by rw [(idx_w t).2.2.2.2]; omega))

/-- The point that works off a token. -/
def pt (p : Fin 32768) : Fin cfg0.N := ⟨p / 512, by have h : cfg0.N = 64 := N_0; omega⟩

/-- A point's blocks. -/
theorem blk (c : Dev nD) (t : Fin cfg0.N) : BlockAt (aX m c) (aG m c) (aW m c) (aK m c) (aB m c) (512 * t.val) (iblk m c 0 t) (iblk m c 1 t) (iblk m c 2 t) (iblk m c 3 t) (iblk m c 4 t) :=
  ⟨blk_x m c t, blk_g m c t, blk_w m c t, blk_k m c t, blk_b m c t⟩

/-- A token is at its place in its point's block. -/
theorem tok_at (p : Fin 32768) : 512 * (pt p).val + (off p : ℕ) = p := by
  show 512 * ((p : ℕ) / 512) + (p : ℕ) % 512 = p
  omega

/-- The gates' weight has no more rows than its own. -/
theorem aK_zero (c : Dev nD) (k e : ℕ) (h : 16 ≤ k) : aK m c k e = 0 := rd_out _ _ _ (by omega)

/-- The queries. -/
theorem arr_q (c : Dev nD) (p : Fin 32768) (d : Fin 512) : ((dats m 0 c).arrAt 5 cfg0.N : S32768x512.Idx → EReal) (ix2 p d) = proj (aX m c) (aG m c) (aW m c) p (0 + d) :=
  (congrArg ((dats m 0 c).arrAt 5 cfg0.N : S32768x512.Idx → EReal) (emb_tok ((cfg0.win 5).blk (pt p)).view.emb p d rfl rfl (idx_tok (pt p)).2.1).symm).trans
    ((congrFun ((blocks5 m c (pt p) (flush_all _).1).trans (flushed5 m c (pt p))) (ix2 (off p) d)).trans (((blk m c (pt p)).q (off p) d).trans (by rw [tok_at])))
/-- The keys. -/
theorem arr_keys (c : Dev nD) (p : Fin 32768) (d : Fin 512) : ((dats m 0 c).arrAt 6 cfg0.N : S32768x512.Idx → EReal) (ix2 p d) = proj (aX m c) (aG m c) (aW m c) p (512 + d) :=
  (congrArg ((dats m 0 c).arrAt 6 cfg0.N : S32768x512.Idx → EReal) (emb_tok ((cfg0.win 6).blk (pt p)).view.emb p d rfl rfl (idx_tok (pt p)).2.2.1).symm).trans
    ((congrFun ((blocks6 m c (pt p) (flush_all _).2.1).trans (flushed6 m c (pt p))) (ix2 (off p) d)).trans (((blk m c (pt p)).keys (off p) d).trans (by rw [tok_at])))
/-- The values. -/
theorem arr_v (c : Dev nD) (p : Fin 32768) (d : Fin 1024) : ((dats m 0 c).arrAt 7 cfg0.N : S32768x1024.Idx → EReal) (ix2 p d) = proj (aX m c) (aG m c) (aW m c) p (1024 + d) :=
  (congrArg ((dats m 0 c).arrAt 7 cfg0.N : S32768x1024.Idx → EReal) (emb_tok ((cfg0.win 7).blk (pt p)).view.emb p d rfl rfl (idx_tok (pt p)).2.2.2.1).symm).trans
    ((congrFun ((blocks7 m c (pt p) (flush_all _).2.2.1).trans (flushed7 m c (pt p))) (ix2 (off p) d)).trans (((blk m c (pt p)).v (off p) d).trans (by rw [tok_at])))
/-- The output gates. -/
theorem arr_r (c : Dev nD) (p : Fin 32768) (d : Fin 1024) : ((dats m 0 c).arrAt 8 cfg0.N : S32768x1024.Idx → EReal) (ix2 p d) = proj (aX m c) (aG m c) (aW m c) p (2048 + d) :=
  (congrArg ((dats m 0 c).arrAt 8 cfg0.N : S32768x1024.Idx → EReal) (emb_tok ((cfg0.win 8).blk (pt p)).view.emb p d rfl rfl (idx_tok (pt p)).2.2.2.2.1).symm).trans
    ((congrFun ((blocks8 m c (pt p) (flush_all _).2.2.2.1).trans (flushed8 m c (pt p))) (ix2 (off p) d)).trans (((blk m c (pt p)).r (off p) d).trans (by rw [tok_at])))
/-- The forget gates. -/
theorem arr_gates (c : Dev nD) (p : Fin 32768) (d : Fin 512) : ((dats m 0 c).arrAt 9 cfg0.N : S32768x512.Idx → EReal) (ix2 p d) = gate ((∑ k : Fin 16, proj (aX m c) (aG m c) (aW m c) p (3072 + k) * aK m c k d) + aB m c d) :=
  (congrArg ((dats m 0 c).arrAt 9 cfg0.N : S32768x512.Idx → EReal) (emb_tok ((cfg0.win 9).blk (pt p)).view.emb p d rfl rfl (idx_tok (pt p)).2.2.2.2.2).symm).trans
    ((congrFun ((blocks9 m c (pt p) (flush_all _).2.2.2.2).trans (flushed9 m c (pt p))) (ix2 (off p) d)).trans (((blk m c (pt p)).gates (aK_zero m c) (off p) d).trans (by rw [tok_at])))

end Cert.Proj.Gla

end
-- ==== Proof.ProjRef.lean ====
/- What the projections' references read down to, and the odd layer's gates. -/
module

public import proofs.«01_k».proof.Proof.ProjSpec
public import proofs.«01_k».proof.Proof.Gen.Reference3Ideal.Run

@[expose] public section

noncomputable section

namespace Cert.Proj

open Idealize.ShloMosaic Finset
open Cert.Gla (rd rd1 rd_eq rd1_eq rd_at)
open Cert.Post (rms w1024 eps)

/-- A normed row, entry by entry. -/
theorem ref_row {n : ℕ} (x : (⟨2, ![n, 1024]⟩ : Shape).Idx → EReal) (g : (⟨1, ![1024]⟩ : Shape).Idx → EReal) (p : Fin n) (k : Fin 1024) :
    x (ix2 p k) * Ideal.rsqrt (Ideal.div (∑ j : Fin 1024, x (ix2 p j) * x (ix2 p j)) w1024 + eps) * g (ix1 k) = rms 1024 w1024 (rd x p) (rd1 g) k := by
  unfold rms
  simp only [rd_eq, rd1_eq]

/-- A normed row times a weight's column. -/
theorem proj_at {n D : ℕ} (x : (⟨2, ![n, 1024]⟩ : Shape).Idx → EReal) (g : (⟨1, ![1024]⟩ : Shape).Idx → EReal) (w : (⟨2, ![1024, D]⟩ : Shape).Idx → EReal)
    (p : Fin n) (q : Fin D) (e : ℕ) (h : (q : ℕ) = e) :
    (∑ k : Fin 1024, x (ix2 p k) * Ideal.rsqrt (Ideal.div (∑ j : Fin 1024, x (ix2 p j) * x (ix2 p j)) w1024 + eps) * g (ix1 k) * w (ix2 k q))
      = proj (rd x) (rd1 g) (rd w) p e :=
  sum_eq fun k => congrArg₂ (· * ·) (ref_row x g p k) (rd_at w _ _ _ rfl h)

/-- A head normed, entry by entry. -/
theorem headed_at {n D : ℕ} (x : (⟨2, ![n, 1024]⟩ : Shape).Idx → EReal) (g : (⟨1, ![1024]⟩ : Shape).Idx → EReal) (w : (⟨2, ![1024, D]⟩ : Shape).Idx → EReal)
    (q : (⟨1, ![128]⟩ : Shape).Idx → EReal) (o : ℕ) (ho : o + 512 ≤ D) (p : Fin n) (d : Fin 512) :
    (∑ k : Fin 1024, x (ix2 p k) * Ideal.rsqrt (Ideal.div (∑ j : Fin 1024, x (ix2 p j) * x (ix2 p j)) w1024 + eps) * g (ix1 k) * w (ix2 k ⟨o + d, by omega⟩))
      * Ideal.rsqrt (Ideal.div (∑ e : Fin 128,
          (∑ k : Fin 1024, x (ix2 p k) * Ideal.rsqrt (Ideal.div (∑ j : Fin 1024, x (ix2 p j) * x (ix2 p j)) w1024 + eps) * g (ix1 k)
            * w (ix2 k ⟨o + ((d : ℕ) / 128 * 128 + e), by omega⟩))
          * (∑ k : Fin 1024, x (ix2 p k) * Ideal.rsqrt (Ideal.div (∑ j : Fin 1024, x (ix2 p j) * x (ix2 p j)) w1024 + eps) * g (ix1 k)
            * w (ix2 k ⟨o + ((d : ℕ) / 128 * 128 + e), by omega⟩))) w128 + eps)
      * q (ix1 ⟨(d : ℕ) % 128, by omega⟩)
      = headed (rd x) (rd1 g) (rd w) (rd1 q) o p d := by
  unfold headed
  refine congrArg₂ (· * ·) (congrArg₂ (· * ·) (proj_at x g w p _ _ ?_) (congrArg (fun s => Ideal.rsqrt (Ideal.div s w128 + eps))
    (sum_eq fun e => congrArg₂ (· * ·) (proj_at x g w p _ _ ?_) (proj_at x g w p _ _ ?_)))) (rd1_eq q _).symm
  · show o + (d : ℕ) = o + (128 * ((d : ℕ) / 128) + (d : ℕ) % 128)
    omega
  all_goals
    show o + ((d : ℕ) / 128 * 128 + e) = o + (128 * ((d : ℕ) / 128) + e)
    omega

end Cert.Proj

namespace Cert.Proj.Gla

open Idealize.ShloMosaic Idealize.ShloMosaic.TcCoe Finset Idealize.ShloMosaic.StableHlo Cert.Reference3Ideal Cert.Reference3Ideal.Gen Cert.Reference3Ideal.Value
open Cert.Gla (rd rd1 rd_eq rd1_eq rd_at)
open Cert.Post (rms w1024 eps)

variable (m : (ℓ : Loc nD τ sig) → Buf (Elt Ideal) ℓ) (c : Dev nD)

/-- The gates from their pre-activations, as the reference takes them. -/
theorem gate_of (y : FVec Ideal S32768x512 .f32) (i : S32768x512.Idx) :
    (Host.divf (Host.negf (select (cmpf .une (subf (Host.negf y) (broadcastInDim S32768x512 ![] bcast_S_S32768x512 (constant S_ .f32 0x00000000#32))) (subf (Host.negf y) (broadcastInDim S32768x512 ![] bcast_S_S32768x512 (constant S_ .f32 0x00000000#32)))) (addf (Host.negf y) (broadcastInDim S32768x512 ![] bcast_S_S32768x512 (constant S_ .f32 0x00000000#32))) (addf (maximumf (Host.negf y) (broadcastInDim S32768x512 ![] bcast_S_S32768x512 (constant S_ .f32 0x00000000#32))) (Host.log1p (Host.exp (Host.negf (Host.absf (subf (Host.negf y) (broadcastInDim S32768x512 ![] bcast_S_S32768x512 (constant S_ .f32 0x00000000#32)))))))))) (broadcastInDim S32768x512 ![] bcast_S_S32768x512 (constant S_ .f32 0x41800000#32)) : FVec Ideal S32768x512 .f32) i
      = gate (y i) := by
  pointwise
  rw [if_neg (fun h => h rfl)]
  exact gate_neg _

/-- A gate as the reference leaves it. -/
theorem gate_ref (p : Fin 32768) (d : Fin 512) :
    (res_main_v25 m c : S32768x512.Idx → EReal) (ix2 p d)
      = gate ((∑ k : Fin 16, proj (rd (n0 := 32768) (n1 := 1024) (m ((c.tc : Thread nD τ).loc main_arg0))) (rd1 (n := 1024) (m ((c.tc : Thread nD τ).loc main_arg1)))
          (rd (n0 := 1024) (n1 := 3088) (m ((c.tc : Thread nD τ).loc main_arg2))) p (3072 + k) * rd (n0 := 16) (n1 := 512) (m ((c.tc : Thread nD τ).loc main_arg3)) k d)
          + rd1 (n := 512) (m ((c.tc : Thread nD τ).loc main_arg4)) d) := by
  unfold res_main_v25
  refine (gate_of _ _).trans (congrArg gate ?_)
  pointwise
  refine congrArg₂ (· + ·) (sum_eq fun k => congrArg₂ (· * ·) (proj_at _ _ _ _ _ _ rfl) (rd_eq _ _ _).symm) (rd1_eq _ _).symm

end Cert.Proj.Gla

end
-- ==== Proof.ProjGlaClaim.lean ====
/- The claims about the odd layer's projection: both programs leave the same five arrays. -/
module

public import proofs.«01_k».proof.Defs
public import proofs.«01_k».proof.Proof.Gen.Reference3Ideal
public import proofs.«01_k».proof.Proof.Gen.Reference3Ideal.Run
public import proofs.«01_k».proof.Proof.ProjGla
public import proofs.«01_k».proof.Proof.ProjRef
public import Idealize.ShloMosaic.Lib.Claim

@[expose] public section

noncomputable section

namespace Cert.Proj.Gla

open Idealize.ShloMosaic Idealize.ShloMosaic.TcCoe Idealize.SL.Sem
open Cert.Gla (rd rd1 rd_eq rd1_eq rd_at)
open Cert.Post (rms w1024 eps)

/-- The reference ends with its arguments unchanged and, having no semaphores, with none raised. -/
theorem reference_frame : Cert.quiescent_Reference3Ideal (hReference3Ideal := Cert.Reference3Ideal.Gen.facts) := fun m g _ =>
  (θ_run Cert.Reference3Ideal.defs _ _).mono (fun r h => ⟨fun c => (h c).2.2.2.2.2, sem_eq_zero_of_no_sems (by decide) r.2⟩) (Cert.Reference3Ideal.Value.run m g)

/-- Kernel and reference compute the same arrays. -/
theorem algebraic : Cert.algebraic_Kernel3Ideal_Reference3Ideal (hKernel3Ideal := Cert.Kernel3Ideal.Gen.facts)
    (hReference3Ideal := Cert.Reference3Ideal.Gen.facts) := by
  intro m g m' g' _ hagree
  refine ⟨_, _, _, _, _, Cert.Kernel3Ideal.Value.run_blocks m g,
    (θ_run Cert.Reference3Ideal.defs _ _).mono (fun r h c => ?_) (Cert.Reference3Ideal.Value.run m' g')⟩
  obtain ⟨a0, a1, a2, a3, a4⟩ := hagree c
  obtain ⟨h0, h1, h2, h3, h4, h5⟩ := h c
  refine ⟨h0.trans ?_, h1.trans ?_, h2.trans ?_, h3.trans ?_, h4.trans ?_, h5⟩
  · rw [a0, a1, a2]
    funext i
    obtain ⟨p, d, rfl⟩ : ∃ (p : Fin 32768) (d : Fin 512), i = ix2 p d := ⟨i 0, i 1, eq_ix2 i⟩
    refine Eq.trans ?_ (arr_q m c p d).symm
    pointwise
    exact proj_at _ _ _ _ _ _ rfl
  · rw [a0, a1, a2]
    funext i
    obtain ⟨p, d, rfl⟩ : ∃ (p : Fin 32768) (d : Fin 512), i = ix2 p d := ⟨i 0, i 1, eq_ix2 i⟩
    refine Eq.trans ?_ (arr_keys m c p d).symm
    pointwise
    exact proj_at _ _ _ _ _ _ rfl
  · rw [a0, a1, a2]
    funext i
    obtain ⟨p, d, rfl⟩ : ∃ (p : Fin 32768) (d : Fin 1024), i = ix2 p d := ⟨i 0, i 1, eq_ix2 i⟩
    refine Eq.trans ?_ (arr_v m c p d).symm
    pointwise
    exact proj_at _ _ _ _ _ _ rfl
  · rw [a0, a1, a2]
    funext i
    obtain ⟨p, d, rfl⟩ : ∃ (p : Fin 32768) (d : Fin 1024), i = ix2 p d := ⟨i 0, i 1, eq_ix2 i⟩
    refine Eq.trans ?_ (arr_r m c p d).symm
    pointwise
    exact proj_at _ _ _ _ _ _ rfl
  · funext i
    obtain ⟨p, d, rfl⟩ : ∃ (p : Fin 32768) (d : Fin 512), i = ix2 p d := ⟨i 0, i 1, eq_ix2 i⟩
    refine Eq.trans ?_ (arr_gates m c p d).symm
    refine (gate_ref m' c p d).trans ?_
    rw [a0, a1, a2, a3, a4]

end Cert.Proj.Gla

end
-- ==== Proof.ProjAb.lean ====
/- The even layer's projection: what its kernel leaves in the delta rule's inputs, its gates' columns, and the stick-breaking heads' queries, keys
   and values. -/
module

public import proofs.«01_k».proof.Proof.ProjSpec
public import proofs.«01_k».proof.Proof.PostGrid
public import proofs.«01_k».proof.Proof.Gen.Kernel4Ideal.Value

@[expose] public section

noncomputable section

namespace Cert.Proj.Ab

open Idealize.ShloMosaic Idealize.ShloMosaic.TcCoe Idealize.ShloMosaic.Tactic Cert.Kernel4Ideal Cert.Kernel4Ideal.Gen Cert.Kernel4Ideal.Value
open Idealize.SL.Sem
open Cert.Gla (rd rd1 rd_eq rd1_eq rd_at)
open Cert.Post (rms w1024 eps row_at ld_all ld_cols)

variable {X : ℕ → ℕ → EReal} {G : ℕ → EReal} {W : ℕ → ℕ → EReal} {Q K : ℕ → EReal} {T : ℕ}

/-- The residual stream's block, normed. -/
theorem norm_at {x : FVec Ideal S512x1024 .f32} {g : FVec Ideal S1x1024 .f32}
    (hx : ∀ (a : Fin 512) (d : Fin 1024), x (ix2 a d) = X (T + a) d) (hg : ∀ d : Fin 1024, g (ix2 0 d) = G d) (a : Fin 512) (d : Fin 1024) :
    k0_pay3 (F := Ideal) x g (ix2 a d) = rms 1024 w1024 (X (T + a)) G d := by
  pointwise [k0_pay3]
  simp only [hx, hg]
  rfl

/-- A column tile of a projection. -/
theorem tile_at {n : ℕ} {h : FVec Ideal S512x1024 .bf16} {w : FVec Ideal S1024x512 .bf16}
    (hh : ∀ (a : Fin 512) (d : Fin 1024), h (ix2 a d) = rms 1024 w1024 (X (T + a)) G d)
    (hw : ∀ (k : Fin 1024) (e : Fin 512), w (ix2 k e) = W k (n + e)) (a e : Fin 512) :
    k0_pay10 (F := Ideal) h w (ix2 a e) = proj X G W (T + a) (n + e) := by
  pointwise [k0_pay10]
  simp only [hh, hw]
  rfl

/-- The narrow tile. -/
theorem narrow_at {n : ℕ} {h : FVec Ideal S512x1024 .bf16} {w : FVec Ideal S1024x128 .bf16}
    (hh : ∀ (a : Fin 512) (d : Fin 1024), h (ix2 a d) = rms 1024 w1024 (X (T + a)) G d)
    (hw : ∀ (k : Fin 1024) (e : Fin 128), w (ix2 k e) = W k (n + e)) (a : Fin 512) (e : Fin 128) :
    k0_pay8 (F := Ideal) h w (ix2 a e) = proj X G W (T + a) (n + e) := by
  pointwise [k0_pay8]
  simp only [hh, hw]
  rfl

/-- One head of a tile, normed, as the kernel's payloads do it. -/
def head (o : ℕ) (hs : S512x512.Slices ![0, o] S512x128) (g : FVec Ideal S1x128 .f32) (v : FVec Ideal S512x512 .f32) : FVec Ideal S512x128 .bf16 :=
  truncf .bf16 (mulf (mulf (extractStridedSlice S512x128 ![0, o] v hs)
    (broadcastTo S512x128 (rsqrt (addf (divf (shapeCast S512x1 (multiReduction .add [1] S512 (mulf (extractStridedSlice S512x128 ![0, o] v hs)
      (extractStridedSlice S512x128 ![0, o] v hs)) 0x00000000#32 reduces_S512x128_S512 (.inl rfl) rfl) shapeCasts_S512_S512x1)
      (broadcast S512x1 (Scalar.ofBits (F := Ideal) .f32 0x43000000#32))) (broadcast S512x1 (Scalar.ofBits (F := Ideal) .f32 0x358637BD#32)))) broadcasts_S512x1_S512x128))
    (broadcastTo S512x128 g broadcasts_S1x128_S512x128)) bitsLt_bf16_f32

/-- A head of a tile, entry by entry. -/
theorem head_at {n : ℕ} (o : ℕ) (hs : S512x512.Slices ![0, o] S512x128) (ho : o + 128 ≤ 512) {g : FVec Ideal S1x128 .f32} {v : FVec Ideal S512x512 .f32}
    (hg : ∀ e : Fin 128, g (ix2 0 e) = Q e) (hv : ∀ a e : Fin 512, v (ix2 a e) = proj X G W (T + a) (n + e)) (a : Fin 512) (e : Fin 128) :
    head o hs g v (ix2 a e) = rms 128 w128 (fun j => proj X G W (T + a) (n + (o + j))) Q e := by
  pointwise [head]
  simp only [hg, hv]
  rfl

/-- The blocks a point reads: 512 tokens from `T` on, and all of the weights. -/
structure BlockAt (X : ℕ → ℕ → EReal) (G : ℕ → EReal) (W : ℕ → ℕ → EReal) (Q K : ℕ → EReal) (T : ℕ) (x0 : Vec Ideal S512x1024 .f32) (x1 : Vec Ideal S1x1024 .f32)
    (x2 : Vec Ideal S1024x3712 .bf16) (x3 : Vec Ideal S1x128 .f32) (x4 : Vec Ideal S1x128 .f32) : Prop where
  x : ∀ (a : Fin 512) (d : Fin 1024), x0 (ix2 a d) = X (T + a) d
  g : ∀ d : Fin 1024, x1 (ix2 0 d) = G d
  w : ∀ (k : Fin 1024) (j : Fin 3712), x2 (ix2 k j) = W k j
  q : ∀ d : Fin 128, x3 (ix2 0 d) = Q d
  k : ∀ d : Fin 128, x4 (ix2 0 d) = K d

variable {x0 : Vec Ideal S512x1024 .f32} {x1 : Vec Ideal S1x1024 .f32} {x2 : Vec Ideal S1024x3712 .bf16} {x3 : Vec Ideal S1x128 .f32} {x4 : Vec Ideal S1x128 .f32}

/-- The block's rows, normed. -/
theorem BlockAt.norm (H : BlockAt X G W Q K T x0 x1 x2 x3 x4) (a : Fin 512) (d : Fin 1024) :
    k0_pay3 (F := Ideal) (View.ld x0 r0_0) (View.ld x1 r0_1) (ix2 a d) = rms 1024 w1024 (X (T + a)) G d :=
  norm_at (fun a d => (ld_all x0 inb_S512x1024_S512x1024_0_0 a d).trans (H.x a d)) (fun d => (ld_all x1 inb_S1x1024_S1x1024_0_0 0 d).trans (H.g d)) a d

/-- A column tile a point stores, at its place. -/
theorem BlockAt.piece (H : BlockAt X G W Q K T x0 x1 x2 x3 x4) (n o : ℕ) (hn : n + o + 512 ≤ 3712) (inb) (a : Fin 512) (d : ℕ) (y : S512x512.Idx)
    (h0 : (a : ℕ) = 0 + ((y 0 : Fin 512) : ℕ)) (h1 : d = o + ((y 1 : Fin 512) : ℕ)) :
    k0_pay10 (F := Ideal) (k0_pay3 (View.ld x0 r0_0) (View.ld x1 r0_1)) (View.ld x2 (Rect.unit (s := S1024x3712) ![0, n + o] S1024x512.size inb)) y = proj X G W (T + a) (n + d) := by
  obtain ⟨p, e, rfl⟩ : ∃ (p : Fin 512) (e : Fin 512), y = ix2 p e := ⟨y 0, y 1, eq_ix2 y⟩
  have e0 : (a : ℕ) = 0 + p := h0
  have e1 : d = o + e := h1
  refine (tile_at H.norm (fun k j => (ld_cols x2 (n + o) inb k j (by omega)).trans (H.w k _)) p e).trans ?_
  rw [show (a : ℕ) = p by omega, show n + d = n + o + e by omega]

/-- A head of a column tile, normed, at its place. -/
theorem BlockAt.piece_head (H : BlockAt X G W Q K T x0 x1 x2 x3 x4) {N : ℕ → EReal} (x : Vec Ideal S1x128 .f32) (hx : ∀ d : Fin 128, x (ix2 0 d) = N d)
    (n h : ℕ) (hn : n + 512 ≤ 3712) (hh : h < 4) (hs) (inb) (a d : Fin 512) (y : S512x128.Idx)
    (h0 : (a : ℕ) = 0 + ((y 0 : Fin 512) : ℕ)) (h1 : (d : ℕ) = 128 * h + ((y 1 : Fin 128) : ℕ)) :
    head (128 * h) hs (k0_pay9 (View.ld x r0_12))
      (k0_pay10 (k0_pay3 (View.ld x0 r0_0) (View.ld x1 r0_1)) (View.ld x2 (Rect.unit (s := S1024x3712) ![0, n] S1024x512.size inb))) y
      = headed X G W N n (T + a) d := by
  obtain ⟨p, e, rfl⟩ : ∃ (p : Fin 512) (e : Fin 128), y = ix2 p e := ⟨y 0, y 1, eq_ix2 y⟩
  have e0 : (a : ℕ) = 0 + p := h0
  have e1 : (d : ℕ) = 128 * h + e := h1
  refine (head_at (Q := N) (128 * h) hs (by omega) (fun j => ?_) (fun a j => tile_at H.norm (fun k j => (ld_cols x2 n inb k j (by omega)).trans (H.w k _)) a j) p e).trans ?_
  · pointwise [k0_pay9]
    exact hx j
  · unfold headed
    rw [show (a : ℕ) = p by omega, show (d : ℕ) / 128 = h by omega, show (d : ℕ) % 128 = e by omega]

/-- The block of the delta rule's inputs. -/
theorem BlockAt.qkv (H : BlockAt X G W Q K T x0 x1 x2 x3 x4) (a : Fin 512) (d : Fin 1536) : out0_5 x0 x1 x2 x3 x4 (ix2 a d) = proj X G W (T + a) (0 + d) := by
  unfold out0_5
  exact View.canon_eq_of_allAt _ _ _ (cover0_5 _ _ _ _) (View.allAt_cons_unit _ _ _ _ _ (fun y hy => H.piece 0 1024 (by omega) _ a d y (hy 0) (hy 1))
    (View.allAt_cons_unit _ _ _ _ _ (fun y hy => H.piece 0 512 (by omega) _ a d y (hy 0) (hy 1))
      (View.allAt_cons_unit _ _ _ _ _ (fun y hy => H.piece 0 0 (by omega) _ a d y (hy 0) (hy 1)) (View.allAt_nil _ _))))
/-- The block of the delta rule's output gates. -/
theorem BlockAt.z (H : BlockAt X G W Q K T x0 x1 x2 x3 x4) (a d : Fin 512) : out0_6 x0 x1 x2 x3 x4 (ix2 a d) = proj X G W (T + a) (1536 + d) := by
  unfold out0_6
  exact View.canon_eq_of_allAt _ _ _ (cover0_6 _ _) (View.allAt_cons_unit _ _ _ _ _ (fun y hy => H.piece 1536 0 (by omega) _ a d y (hy 0) (hy 1)) (View.allAt_nil _ _))
/-- The block of the gates' columns. -/
theorem BlockAt.ab (H : BlockAt X G W Q K T x0 x1 x2 x3 x4) (a : Fin 512) (d : Fin 128) : out0_7 x0 x1 x2 x3 x4 (ix2 a d) = proj X G W (T + a) (2048 + d) := by
  unfold out0_7
  refine View.canon_eq_of_allAt _ _ _ (cover0_7 _ _) (View.allAt_cons_unit _ _ _ _ _ (fun y hy => ?_) (View.allAt_nil _ _))
  obtain ⟨p, e, rfl⟩ : ∃ (p : Fin 512) (e : Fin 128), y = ix2 p e := ⟨y 0, y 1, eq_ix2 y⟩
  have e0 : (a : ℕ) = 0 + p := hy 0
  have e1 : (d : ℕ) = 0 + e := hy 1
  rw [show (a : ℕ) = p by omega, show (d : ℕ) = e by omega]
  exact narrow_at H.norm (fun k j => (ld_cols x2 2048 inb_S1024x3712_S1024x128_0_2048 k j (by omega)).trans (H.w k _)) p e
/-- The block of queries. -/
theorem BlockAt.qs (H : BlockAt X G W Q K T x0 x1 x2 x3 x4) (a d : Fin 512) : out0_8 x0 x1 x2 x3 x4 (ix2 a d) = headed X G W Q 2176 (T + a) d := by
  unfold out0_8
  exact View.canon_eq_of_allAt _ _ _ (cover0_8 _ _ _ _ _)
    (View.allAt_cons_unit _ _ _ _ _ (fun y hy => H.piece_head x3 H.q 2176 3 (by omega) (by omega) slices_S512x512_o0_384_S512x128 inb_S1024x3712_S1024x512_0_2176 a d y (hy 0) (hy 1))
      (View.allAt_cons_unit _ _ _ _ _ (fun y hy => H.piece_head x3 H.q 2176 2 (by omega) (by omega) slices_S512x512_o0_256_S512x128 inb_S1024x3712_S1024x512_0_2176 a d y (hy 0) (hy 1))
        (View.allAt_cons_unit _ _ _ _ _ (fun y hy => H.piece_head x3 H.q 2176 1 (by omega) (by omega) slices_S512x512_o0_128_S512x128 inb_S1024x3712_S1024x512_0_2176 a d y (hy 0) (hy 1))
          (View.allAt_cons_unit _ _ _ _ _ (fun y hy => H.piece_head x3 H.q 2176 0 (by omega) (by omega) slices_S512x512_o0_0_S512x128 inb_S1024x3712_S1024x512_0_2176 a d y (hy 0) (hy 1)) (View.allAt_nil _ _)))))
/-- The block of keys. -/
theorem BlockAt.ks (H : BlockAt X G W Q K T x0 x1 x2 x3 x4) (a d : Fin 512) : out0_9 x0 x1 x2 x3 x4 (ix2 a d) = headed X G W K 2688 (T + a) d := by
  unfold out0_9
  exact View.canon_eq_of_allAt _ _ _ (cover0_9 _ _ _ _ _)
    (View.allAt_cons_unit _ _ _ _ _ (fun y hy => H.piece_head x4 H.k 2688 3 (by omega) (by omega) slices_S512x512_o0_384_S512x128 inb_S1024x3712_S1024x512_0_2688 a d y (hy 0) (hy 1))
      (View.allAt_cons_unit _ _ _ _ _ (fun y hy => H.piece_head x4 H.k 2688 2 (by omega) (by omega) slices_S512x512_o0_256_S512x128 inb_S1024x3712_S1024x512_0_2688 a d y (hy 0) (hy 1))
        (View.allAt_cons_unit _ _ _ _ _ (fun y hy => H.piece_head x4 H.k 2688 1 (by omega) (by omega) slices_S512x512_o0_128_S512x128 inb_S1024x3712_S1024x512_0_2688 a d y (hy 0) (hy 1))
          (View.allAt_cons_unit _ _ _ _ _ (fun y hy => H.piece_head x4 H.k 2688 0 (by omega) (by omega) slices_S512x512_o0_0_S512x128 inb_S1024x3712_S1024x512_0_2688 a d y (hy 0) (hy 1)) (View.allAt_nil _ _)))))
/-- The block of values. -/
theorem BlockAt.vs (H : BlockAt X G W Q K T x0 x1 x2 x3 x4) (a d : Fin 512) : out0_10 x0 x1 x2 x3 x4 (ix2 a d) = proj X G W (T + a) (3200 + d) := by
  unfold out0_10
  exact View.canon_eq_of_allAt _ _ _ (cover0_10 _ _) (View.allAt_cons_unit _ _ _ _ _ (fun y hy => H.piece 3200 0 (by omega) _ a d y (hy 0) (hy 1)) (View.allAt_nil _ _))

variable (m : (ℓ : Loc nD τ sig) → Buf (Elt Ideal) ℓ)

/-- The residual stream. -/
abbrev aX (c : Dev nD) : ℕ → ℕ → EReal := rd (n0 := 32768) (n1 := 1024) (m ((c : Thread nD τ).loc main_arg0))
/-- The norm's weights. -/
abbrev aG (c : Dev nD) : ℕ → EReal := rd1 (n := 1024) (m ((c : Thread nD τ).loc main_arg1))
/-- The projection's weight. -/
abbrev aW (c : Dev nD) : ℕ → ℕ → EReal := rd (n0 := 1024) (n1 := 3592) (m ((c : Thread nD τ).loc main_arg2))
/-- The queries' norm's weights. -/
abbrev aQ (c : Dev nD) : ℕ → EReal := rd1 (n := 128) (m ((c : Thread nD τ).loc main_arg3))
/-- The keys' norm's weights. -/
abbrev aK (c : Dev nD) : ℕ → EReal := rd1 (n := 128) (m ((c : Thread nD τ).loc main_arg4))

/-- The blocks of tokens follow the grid. -/
theorem idx_tok : ∀ t : Fin cfg0.N, (win0_0.index t (0 : Fin 2) = t.val ∧ win0_0.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) := (by decide +kernel : ∀ t : Fin grid0.N, _)
/-- The weights are one block. -/
theorem idx_w : ∀ t : Fin cfg0.N, (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0) := (by decide +kernel : ∀ t : Fin grid0.N, _)
/-- Every point writes its blocks back. -/
theorem flush_all : ∀ t : Fin cfg0.N, (cfg0.win 5).flush t = true ∧ (cfg0.win 6).flush t = true ∧ (cfg0.win 7).flush t = true
    ∧ (cfg0.win 8).flush t = true ∧ (cfg0.win 9).flush t = true ∧ (cfg0.win 10).flush t = true := (by decide +kernel : ∀ t : Fin grid0.N, _)

/-- The weight as the kernel takes it: 120 columns of zeros after the gates' eight. -/
theorem V_w (c : Dev nD) (k : Fin 1024) (j : Fin 3712) : (V m c main_v5 : S1024x3712.Idx → EReal) (ix2 k j) = wide (aW m c) k j := by
  show (StableHlo.after (List.flatten [hostOps0, hostOps0_1, hostOps0_2]) (fun b => m (c, b)) main_v5 : S1024x3712.Idx → EReal) (ix2 k j) = _
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp
  pointwise
  have hj := j.isLt
  rcases Nat.lt_or_ge (j : ℕ) 2048 with h | h
  · refine (dif_pos h).trans (Eq.trans ?_ (if_pos (Nat.lt_trans h (by norm_num))).symm)
    after_results_simp
    pointwise
    exact rd_at _ _ _ _ rfl rfl
  refine (dif_neg (Nat.not_lt.mpr h)).trans ?_
  rcases Nat.lt_or_ge ((j : ℕ) - 2048) 128 with h1 | h1
  · refine (dif_pos h1).trans ?_
    after_results_simp
    pointwise
    exact (Nat.lt_or_ge ((j : ℕ) - 2048) 8).elim
      (fun h2 => (dif_pos h2).trans ((rd_at _ _ _ _ rfl (by show 2048 + ((j : ℕ) - 2048) = j; omega)).trans (if_pos (by omega)).symm))
      (fun h2 => (dif_neg (Nat.not_lt.mpr h2)).trans (zero_word.trans ((if_neg (by omega)).trans (if_pos (by omega))).symm))
  · refine (dif_neg (Nat.not_lt.mpr h1)).trans ?_
    after_results_simp
    pointwise
    exact (rd_at _ _ _ _ rfl (by show 2056 + ((j : ℕ) - 2048 - 128) = j - 120; omega)).trans ((if_neg (by omega)).trans (if_neg (by omega))).symm
/-- The queries' norm's weights as a row. -/
theorem V_q (c : Dev nD) : V m c main_v6 = shapeCast S1x128 (m ((c : Thread nD τ).loc main_arg3)) shapeCasts_S128_S1x128 := by
  show StableHlo.after (List.flatten [hostOps0, hostOps0_1, hostOps0_2]) (fun b => m (c, b)) main_v6 = _
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp
  rfl
/-- The keys' norm's weights as a row. -/
theorem V_k (c : Dev nD) : V m c main_v7 = shapeCast S1x128 (m ((c : Thread nD τ).loc main_arg4)) shapeCasts_S128_S1x128 := by
  show StableHlo.after (List.flatten [hostOps0, hostOps0_1, hostOps0_2]) (fun b => m (c, b)) main_v7 = _
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp
  rfl
/-- The norm's weights as a row. -/
theorem V_g (c : Dev nD) : V m c main_v8 = shapeCast S1x1024 (m ((c : Thread nD τ).loc main_arg1)) shapeCasts_S1024_S1x1024 := by
  show StableHlo.after (List.flatten [hostOps0, hostOps0_1, hostOps0_2]) (fun b => m (c, b)) main_v8 = _
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp
  rfl

/-- The residual stream's block. -/
theorem blk_x (c : Dev nD) (t : Fin cfg0.N) (a : Fin 512) (d : Fin 1024) : (iblk m c 0 t : S512x1024.Idx → EReal) (ix2 a d) = aX m c (512 * t.val + a) d :=
  (congrFun (V_main_arg0 m c) (((cfg0.win 0).blk t).view.emb (ix2 a d))).trans (rd_at _ _ _ _
    (show win0_0.index t (0 : Fin 2) * 512 + 1 * (a : ℕ) = _ by rw [(idx_tok t).1.1]; omega) (show win0_0.index t (1 : Fin 2) * 1024 + 1 * (d : ℕ) = d by rw [(idx_tok t).1.2]; omega))
/-- The norm's weights' block. -/
theorem blk_g (c : Dev nD) (t : Fin cfg0.N) (d : Fin 1024) : (iblk m c 1 t : S1x1024.Idx → EReal) (ix2 0 d) = aG m c d :=
  (congrFun (V_g m c) (((cfg0.win 1).blk t).view.emb (ix2 0 d))).trans (row_at _ _ _ _
    (show win0_1.index t (1 : Fin 2) * 1024 + 1 * (d : ℕ) = d by rw [(idx_w t).1.2]; omega))
/-- The weight's block. -/
theorem blk_w (c : Dev nD) (t : Fin cfg0.N) (k : Fin 1024) (j : Fin 3712) : (iblk m c 2 t : S1024x3712.Idx → EReal) (ix2 k j) = wide (aW m c) k j :=
  (congrArg (V m c main_v5 : S1024x3712.Idx → EReal) (show ((cfg0.win 2).blk t).view.emb (ix2 k j) = ix2 k j from emb_at _ _ _ _ _
    (show win0_2.index t (0 : Fin 2) * 1024 + 1 * (k : ℕ) = _ by rw [(idx_w t).2.1.1]; omega) (show win0_2.index t (1 : Fin 2) * 3712 + 1 * (j : ℕ) = j by rw [(idx_w t).2.1.2]; omega))).trans (V_w m c k j)
/-- The queries' norm's weights' block. -/
theorem blk_q (c : Dev nD) (t : Fin cfg0.N) (d : Fin 128) : (iblk m c 3 t : S1x128.Idx → EReal) (ix2 0 d) = aQ m c d :=
  (congrFun (V_q m c) (((cfg0.win 3).blk t).view.emb (ix2 0 d))).trans (row_at _ _ _ _
    (show win0_3.index t (1 : Fin 2) * 128 + 1 * (d : ℕ) = d by rw [(idx_w t).2.2.1.2]; omega))
/-- The keys' norm's weights' block. -/
theorem blk_k (c : Dev nD) (t : Fin cfg0.N) (d : Fin 128) : (iblk m c 4 t : S1x128.Idx → EReal) (ix2 0 d) = aK m c d :=
  (congrFun (V_k m c) (((cfg0.win 4).blk t).view.emb (ix2 0 d))).trans (row_at _ _ _ _
    (show win0_4.index t (1 : Fin 2) * 128 + 1 * (d : ℕ) = d by rw [(idx_w t).2.2.2.2]; omega))

/-- The point that works off a token. -/
def pt (p : Fin 32768) : Fin cfg0.N := ⟨p / 512, by have h : cfg0.N = 64 := N_0; omega⟩

/-- A point's blocks. -/
theorem blk (c : Dev nD) (t : Fin cfg0.N) : BlockAt (aX m c) (aG m c) (wide (aW m c)) (aQ m c) (aK m c) (512 * t.val) (iblk m c 0 t) (iblk m c 1 t) (iblk m c 2 t) (iblk m c 3 t) (iblk m c 4 t) :=
  ⟨blk_x m c t, blk_g m c t, blk_w m c t, blk_q m c t, blk_k m c t⟩

/-- A token is at its place in its point's block. -/
theorem tok_at (p : Fin 32768) : 512 * (pt p).val + (off p : ℕ) = p := by
  show 512 * ((p : ℕ) / 512) + (p : ℕ) % 512 = p
  omega

/-- The delta rule's inputs. -/
theorem arr_qkv (c : Dev nD) (p : Fin 32768) (d : Fin 1536) : ((dats m 0 c).arrAt 5 cfg0.N : S32768x1536.Idx → EReal) (ix2 p d) = proj (aX m c) (aG m c) (wide (aW m c)) p (0 + d) :=
  (congrArg ((dats m 0 c).arrAt 5 cfg0.N : S32768x1536.Idx → EReal) (emb_tok ((cfg0.win 5).blk (pt p)).view.emb p d rfl rfl (idx_tok (pt p)).2.1).symm).trans
    ((congrFun ((blocks5 m c (pt p) (flush_all _).1).trans (flushed5 m c (pt p))) (ix2 (off p) d)).trans (((blk m c (pt p)).qkv (off p) d).trans (by rw [tok_at])))
/-- The delta rule's output gates. -/
theorem arr_z (c : Dev nD) (p : Fin 32768) (d : Fin 512) : ((dats m 0 c).arrAt 6 cfg0.N : S32768x512.Idx → EReal) (ix2 p d) = proj (aX m c) (aG m c) (wide (aW m c)) p (1536 + d) :=
  (congrArg ((dats m 0 c).arrAt 6 cfg0.N : S32768x512.Idx → EReal) (emb_tok ((cfg0.win 6).blk (pt p)).view.emb p d rfl rfl (idx_tok (pt p)).2.2.1).symm).trans
    ((congrFun ((blocks6 m c (pt p) (flush_all _).2.1).trans (flushed6 m c (pt p))) (ix2 (off p) d)).trans (((blk m c (pt p)).z (off p) d).trans (by rw [tok_at])))
/-- The gates' columns. -/
theorem arr_ab (c : Dev nD) (p : Fin 32768) (d : Fin 128) : ((dats m 0 c).arrAt 7 cfg0.N : S32768x128.Idx → EReal) (ix2 p d) = proj (aX m c) (aG m c) (wide (aW m c)) p (2048 + d) :=
  (congrArg ((dats m 0 c).arrAt 7 cfg0.N : S32768x128.Idx → EReal) (emb_tok ((cfg0.win 7).blk (pt p)).view.emb p d rfl rfl (idx_tok (pt p)).2.2.2.1).symm).trans
    ((congrFun ((blocks7 m c (pt p) (flush_all _).2.2.1).trans (flushed7 m c (pt p))) (ix2 (off p) d)).trans (((blk m c (pt p)).ab (off p) d).trans (by rw [tok_at])))
/-- The queries. -/
theorem arr_q (c : Dev nD) (p : Fin 32768) (d : Fin 512) : ((dats m 0 c).arrAt 8 cfg0.N : S32768x512.Idx → EReal) (ix2 p d) = headed (aX m c) (aG m c) (wide (aW m c)) (aQ m c) 2176 p d :=
  (congrArg ((dats m 0 c).arrAt 8 cfg0.N : S32768x512.Idx → EReal) (emb_tok ((cfg0.win 8).blk (pt p)).view.emb p d rfl rfl (idx_tok (pt p)).2.2.2.2.1).symm).trans
    ((congrFun ((blocks8 m c (pt p) (flush_all _).2.2.2.1).trans (flushed8 m c (pt p))) (ix2 (off p) d)).trans (((blk m c (pt p)).qs (off p) d).trans (by rw [tok_at])))
/-- The keys. -/
theorem arr_k (c : Dev nD) (p : Fin 32768) (d : Fin 512) : ((dats m 0 c).arrAt 9 cfg0.N : S32768x512.Idx → EReal) (ix2 p d) = headed (aX m c) (aG m c) (wide (aW m c)) (aK m c) 2688 p d :=
  (congrArg ((dats m 0 c).arrAt 9 cfg0.N : S32768x512.Idx → EReal) (emb_tok ((cfg0.win 9).blk (pt p)).view.emb p d rfl rfl (idx_tok (pt p)).2.2.2.2.2.1).symm).trans
    ((congrFun ((blocks9 m c (pt p) (flush_all _).2.2.2.2.1).trans (flushed9 m c (pt p))) (ix2 (off p) d)).trans (((blk m c (pt p)).ks (off p) d).trans (by rw [tok_at])))
/-- The values. -/
theorem arr_v (c : Dev nD) (p : Fin 32768) (d : Fin 512) : ((dats m 0 c).arrAt 10 cfg0.N : S32768x512.Idx → EReal) (ix2 p d) = proj (aX m c) (aG m c) (wide (aW m c)) p (3200 + d) :=
  (congrArg ((dats m 0 c).arrAt 10 cfg0.N : S32768x512.Idx → EReal) (emb_tok ((cfg0.win 10).blk (pt p)).view.emb p d rfl rfl (idx_tok (pt p)).2.2.2.2.2.2).symm).trans
    ((congrFun ((blocks10 m c (pt p) (flush_all _).2.2.2.2.2).trans (flushed10 m c (pt p))) (ix2 (off p) d)).trans (((blk m c (pt p)).vs (off p) d).trans (by rw [tok_at])))

end Cert.Proj.Ab

end
-- ==== Proof.ProjAbClaim.lean ====
/- The claims about the even layer's projection: both programs leave the same six arrays. -/
module

public import proofs.«01_k».proof.Defs
public import proofs.«01_k».proof.Proof.Gen.Reference4Ideal
public import proofs.«01_k».proof.Proof.Gen.Reference4Ideal.Run
public import proofs.«01_k».proof.Proof.ProjAb
public import proofs.«01_k».proof.Proof.ProjRef
public import Idealize.ShloMosaic.Lib.Claim

@[expose] public section

noncomputable section

namespace Cert.Proj.Ab

open Idealize.ShloMosaic Idealize.ShloMosaic.TcCoe Idealize.SL.Sem
open Cert.Gla (rd rd1 rd_eq rd1_eq rd_at)
open Cert.Post (rms w1024 eps)

/-- The reference ends with its arguments unchanged and, having no semaphores, with none raised. -/
theorem reference_frame : Cert.quiescent_Reference4Ideal (hReference4Ideal := Cert.Reference4Ideal.Gen.facts) := fun m g _ =>
  (θ_run Cert.Reference4Ideal.defs _ _).mono (fun r h => ⟨fun c => (h c).2.2.2.2.2.2, sem_eq_zero_of_no_sems (by decide) r.2⟩) (Cert.Reference4Ideal.Value.run m g)

set_option maxHeartbeats 2000000 in
/-- Kernel and reference compute the same arrays. -/
theorem algebraic : Cert.algebraic_Kernel4Ideal_Reference4Ideal (hKernel4Ideal := Cert.Kernel4Ideal.Gen.facts)
    (hReference4Ideal := Cert.Reference4Ideal.Gen.facts) := by
  intro m g m' g' _ hagree
  refine ⟨_, _, _, _, _, _, Cert.Kernel4Ideal.Value.run_blocks m g,
    (θ_run Cert.Reference4Ideal.defs _ _).mono (fun r h c => ?_) (Cert.Reference4Ideal.Value.run m' g')⟩
  obtain ⟨a0, a1, a2, a3, a4⟩ := hagree c
  obtain ⟨h0, h1, h2, h3, h4, h5, h6⟩ := h c
  refine ⟨h0.trans ?_, h1.trans ?_, h2.trans ?_, h3.trans ?_, h4.trans ?_, h5.trans ?_, h6⟩
  · rw [a0, a1, a2]
    funext i
    obtain ⟨p, d, rfl⟩ : ∃ (p : Fin 32768) (d : Fin 1536), i = ix2 p d := ⟨i 0, i 1, eq_ix2 i⟩
    refine Eq.trans ?_ (arr_qkv m c p d).symm
    pointwise
    exact (proj_at (D := 3592) _ _ _ _ ⟨d, by omega⟩ d rfl).trans (proj_wide (by omega)).symm
  · rw [a0, a1, a2]
    funext i
    obtain ⟨p, d, rfl⟩ : ∃ (p : Fin 32768) (d : Fin 512), i = ix2 p d := ⟨i 0, i 1, eq_ix2 i⟩
    refine Eq.trans ?_ (arr_z m c p d).symm
    pointwise
    exact (proj_at _ _ _ _ _ (1536 + (d : ℕ)) rfl).trans (proj_wide (by omega)).symm
  · rw [a0, a1, a2]
    funext i
    obtain ⟨p, d, rfl⟩ : ∃ (p : Fin 32768) (d : Fin 128), i = ix2 p d := ⟨i 0, i 1, eq_ix2 i⟩
    refine Eq.trans ?_ (arr_ab m c p d).symm
    pointwise
    exact (Nat.lt_or_ge (d : ℕ) 8).elim
      (fun h => (dif_pos h).trans ((proj_at _ _ _ _ _ (2048 + (d : ℕ)) rfl).trans (proj_wide (by omega)).symm))
      (fun h => (dif_neg (Nat.not_lt.mpr h)).trans (zero_word.trans (proj_zero (by omega) (by omega)).symm))
  · rw [a0, a1, a2, a3]
    funext i
    obtain ⟨p, d, rfl⟩ : ∃ (p : Fin 32768) (d : Fin 512), i = ix2 p d := ⟨i 0, i 1, eq_ix2 i⟩
    refine Eq.trans ?_ (arr_q m c p d).symm
    pointwise
    exact (headed_at _ _ _ _ 2056 (by omega) p d).trans (headed_after (by omega) rfl).symm
  · rw [a0, a1, a2, a4]
    funext i
    obtain ⟨p, d, rfl⟩ : ∃ (p : Fin 32768) (d : Fin 512), i = ix2 p d := ⟨i 0, i 1, eq_ix2 i⟩
    refine Eq.trans ?_ (arr_k m c p d).symm
    pointwise
    exact (headed_at _ _ _ _ 2568 (by omega) p d).trans (headed_after (by omega) rfl).symm
  · rw [a0, a1, a2]
    funext i
    obtain ⟨p, d, rfl⟩ : ∃ (p : Fin 32768) (d : Fin 512), i = ix2 p d := ⟨i 0, i 1, eq_ix2 i⟩
    refine Eq.trans ?_ (arr_v m c p d).symm
    pointwise
    exact (proj_at _ _ _ _ _ (3080 + (d : ℕ)) rfl).trans (proj_after (by omega) (by omega)).symm

end Cert.Proj.Ab

end
-- ==== Proof.ProjMem.lean ====
/- The memory's projection: what its kernel leaves in the keys, normed by heads of 256, and the values. -/
module

public import proofs.«01_k».proof.Proof.ProjSpec
public import proofs.«01_k».proof.Proof.PostGrid
public import proofs.«01_k».proof.Proof.Gen.Kernel5Ideal.Value

@[expose] public section

noncomputable section

namespace Cert.Proj.Mem

open Idealize.ShloMosaic Idealize.ShloMosaic.TcCoe Idealize.ShloMosaic.Tactic Cert.Kernel5Ideal Cert.Kernel5Ideal.Gen Cert.Kernel5Ideal.Value
open Idealize.SL.Sem
open Cert.Gla (rd rd1 rd_eq rd1_eq rd_at)
open Cert.Post (rms w1024 w256 eps row_at ld_all ld_cols)

/-- A projection's columns in heads of 256, each head normed. -/
def keyed (x : ℕ → ℕ → EReal) (g : ℕ → EReal) (w : ℕ → ℕ → EReal) (q : ℕ → EReal) (t d : ℕ) : EReal :=
  rms 256 w256 (fun j => proj x g w t (256 * (d / 256) + j)) q (d % 256)

variable {X : ℕ → ℕ → EReal} {G : ℕ → EReal} {W : ℕ → ℕ → EReal} {Q : ℕ → EReal} {T : ℕ}

/-- The memory's block, normed. -/
theorem norm_at {x : FVec Ideal S256x1024 .f32} {g : FVec Ideal S1x1024 .f32}
    (hx : ∀ (a : Fin 256) (d : Fin 1024), x (ix2 a d) = X (T + a) d) (hg : ∀ d : Fin 1024, g (ix2 0 d) = G d) (a : Fin 256) (d : Fin 1024) :
    k0_pay3 (F := Ideal) x g (ix2 a d) = rms 1024 w1024 (X (T + a)) G d := by
  pointwise [k0_pay3]
  simp only [hx, hg]
  rfl

/-- A column tile of the projection. -/
theorem tile_at {n : ℕ} {h : FVec Ideal S256x1024 .bf16} {w : FVec Ideal S1024x512 .bf16}
    (hh : ∀ (a : Fin 256) (d : Fin 1024), h (ix2 a d) = rms 1024 w1024 (X (T + a)) G d)
    (hw : ∀ (k : Fin 1024) (e : Fin 512), w (ix2 k e) = W k (n + e)) (a : Fin 256) (e : Fin 512) :
    k0_pay10 (F := Ideal) h w (ix2 a e) = proj X G W (T + a) (n + e) := by
  pointwise [k0_pay10]
  simp only [hh, hw]
  rfl

/-- One head of a tile, normed, as the kernel's payloads do it. -/
def head (o : ℕ) (hs : S256x512.Slices ![0, o] S256x256) (g : FVec Ideal S1x256 .f32) (v : FVec Ideal S256x512 .f32) : FVec Ideal S256x256 .bf16 :=
  truncf .bf16 (mulf (mulf (extractStridedSlice S256x256 ![0, o] v hs)
    (broadcastTo S256x256 (rsqrt (addf (divf (shapeCast S256x1 (multiReduction .add [1] S256 (mulf (extractStridedSlice S256x256 ![0, o] v hs)
      (extractStridedSlice S256x256 ![0, o] v hs)) 0x00000000#32 reduces_S256x256_S256 (.inl rfl) rfl) shapeCasts_S256_S256x1)
      (broadcast S256x1 (Scalar.ofBits (F := Ideal) .f32 0x43800000#32))) (broadcast S256x1 (Scalar.ofBits (F := Ideal) .f32 0x358637BD#32)))) broadcasts_S256x1_S256x256))
    (broadcastTo S256x256 g broadcasts_S1x256_S256x256)) bitsLt_bf16_f32

/-- A head of a tile, entry by entry. -/
theorem head_at {n : ℕ} (o : ℕ) (hs : S256x512.Slices ![0, o] S256x256) (ho : o + 256 ≤ 512) {g : FVec Ideal S1x256 .f32} {v : FVec Ideal S256x512 .f32}
    (hg : ∀ e : Fin 256, g (ix2 0 e) = Q e) (hv : ∀ (a : Fin 256) (e : Fin 512), v (ix2 a e) = proj X G W (T + a) (n + e)) (a e : Fin 256) :
    head o hs g v (ix2 a e) = rms 256 w256 (fun j => proj X G W (T + a) (n + (o + j))) Q e := by
  pointwise [head]
  simp only [hg, hv]
  rfl

/-- The blocks a point reads: 256 memory tokens from `T` on, and all of the weights. -/
structure BlockAt (X : ℕ → ℕ → EReal) (G : ℕ → EReal) (W : ℕ → ℕ → EReal) (Q : ℕ → EReal) (T : ℕ) (x0 : Vec Ideal S256x1024 .f32) (x1 : Vec Ideal S1x1024 .f32)
    (x2 : Vec Ideal S1024x2048 .bf16) (x3 : Vec Ideal S1x256 .f32) : Prop where
  x : ∀ (a : Fin 256) (d : Fin 1024), x0 (ix2 a d) = X (T + a) d
  g : ∀ d : Fin 1024, x1 (ix2 0 d) = G d
  w : ∀ (k : Fin 1024) (j : Fin 2048), x2 (ix2 k j) = W k j
  q : ∀ d : Fin 256, x3 (ix2 0 d) = Q d

variable {x0 : Vec Ideal S256x1024 .f32} {x1 : Vec Ideal S1x1024 .f32} {x2 : Vec Ideal S1024x2048 .bf16} {x3 : Vec Ideal S1x256 .f32}

/-- The block's rows, normed. -/
theorem BlockAt.norm (H : BlockAt X G W Q T x0 x1 x2 x3) (a : Fin 256) (d : Fin 1024) :
    k0_pay3 (F := Ideal) (View.ld x0 r0_0) (View.ld x1 r0_1) (ix2 a d) = rms 1024 w1024 (X (T + a)) G d :=
  norm_at (fun a d => (ld_all x0 inb_S256x1024_S256x1024_0_0 a d).trans (H.x a d)) (fun d => (ld_all x1 inb_S1x1024_S1x1024_0_0 0 d).trans (H.g d)) a d

/-- A column tile a point stores, at its place. -/
theorem BlockAt.piece (H : BlockAt X G W Q T x0 x1 x2 x3) (n o : ℕ) (hn : n + o + 512 ≤ 2048) (inb) (a : Fin 256) (d : ℕ) (y : S256x512.Idx)
    (h0 : (a : ℕ) = 0 + ((y 0 : Fin 256) : ℕ)) (h1 : d = o + ((y 1 : Fin 512) : ℕ)) :
    k0_pay10 (F := Ideal) (k0_pay3 (View.ld x0 r0_0) (View.ld x1 r0_1)) (View.ld x2 (Rect.unit (s := S1024x2048) ![0, n + o] S1024x512.size inb)) y = proj X G W (T + a) (n + d) := by
  obtain ⟨p, e, rfl⟩ : ∃ (p : Fin 256) (e : Fin 512), y = ix2 p e := ⟨y 0, y 1, eq_ix2 y⟩
  have e0 : (a : ℕ) = 0 + p := h0
  have e1 : d = o + e := h1
  refine (tile_at H.norm (fun k j => (ld_cols x2 (n + o) inb k j (by omega)).trans (H.w k _)) p e).trans ?_
  rw [show (a : ℕ) = p by omega, show n + d = n + o + e by omega]

/-- A head of the column tile from `n` on, normed, at its place. -/
theorem BlockAt.piece_head (H : BlockAt X G W Q T x0 x1 x2 x3) (n o h : ℕ) (hn : n + 512 ≤ 2048) (ho : o + 256 ≤ 512) (hh : n + o = 256 * h) (hs) (inb)
    (a : Fin 256) (d : Fin 1024) (y : S256x256.Idx)
    (h0 : (a : ℕ) = 0 + ((y 0 : Fin 256) : ℕ)) (h1 : (d : ℕ) = n + o + ((y 1 : Fin 256) : ℕ)) :
    head o hs (k0_pay4 (View.ld x3 r0_2))
      (k0_pay10 (k0_pay3 (View.ld x0 r0_0) (View.ld x1 r0_1)) (View.ld x2 (Rect.unit (s := S1024x2048) ![0, n] S1024x512.size inb))) y
      = keyed X G W Q (T + a) d := by
  obtain ⟨p, e, rfl⟩ : ∃ (p : Fin 256) (e : Fin 256), y = ix2 p e := ⟨y 0, y 1, eq_ix2 y⟩
  have e0 : (a : ℕ) = 0 + p := h0
  have e1 : (d : ℕ) = n + o + e := h1
  refine (head_at (Q := Q) o hs ho (fun j => ?_) (fun a j => tile_at H.norm (fun k j => (ld_cols x2 n inb k j (by omega)).trans (H.w k _)) a j) p e).trans ?_
  · pointwise [k0_pay4]
    exact H.q j
  · unfold keyed
    rw [show (a : ℕ) = p by omega, show (d : ℕ) % 256 = e by omega]
    exact congrArg (fun f => rms 256 w256 f Q e) (funext fun j => congrArg (proj X G W (T + p)) (by omega))

/-- The block of keys. -/
theorem BlockAt.ks (H : BlockAt X G W Q T x0 x1 x2 x3) (a : Fin 256) (d : Fin 1024) : out0_4 x0 x1 x2 x3 (ix2 a d) = keyed X G W Q (T + a) d := by
  unfold out0_4
  exact View.canon_eq_of_allAt _ _ _ (cover0_4 _ _ _ _ _)
    (View.allAt_cons_unit _ _ _ _ _ (fun y hy => H.piece_head 512 256 3 (by omega) (by omega) rfl slices_S256x512_o0_256_S256x256 inb_S1024x2048_S1024x512_0_512 a d y (hy 0) (hy 1))
      (View.allAt_cons_unit _ _ _ _ _ (fun y hy => H.piece_head 512 0 2 (by omega) (by omega) rfl slices_S256x512_o0_0_S256x256 inb_S1024x2048_S1024x512_0_512 a d y (hy 0) (hy 1))
        (View.allAt_cons_unit _ _ _ _ _ (fun y hy => H.piece_head 0 256 1 (by omega) (by omega) rfl slices_S256x512_o0_256_S256x256 inb_S1024x2048_S1024x512_0_0 a d y (hy 0) (hy 1))
          (View.allAt_cons_unit _ _ _ _ _ (fun y hy => H.piece_head 0 0 0 (by omega) (by omega) rfl slices_S256x512_o0_0_S256x256 inb_S1024x2048_S1024x512_0_0 a d y (hy 0) (hy 1)) (View.allAt_nil _ _)))))
/-- The block of values. -/
theorem BlockAt.vs (H : BlockAt X G W Q T x0 x1 x2 x3) (a : Fin 256) (d : Fin 1024) : out0_5 x0 x1 x2 x3 (ix2 a d) = proj X G W (T + a) (1024 + d) := by
  unfold out0_5
  exact View.canon_eq_of_allAt _ _ _ (cover0_5 _ _ _) (View.allAt_cons_unit _ _ _ _ _ (fun y hy => H.piece 1024 512 (by omega) _ a d y (hy 0) (hy 1))
    (View.allAt_cons_unit _ _ _ _ _ (fun y hy => H.piece 1024 0 (by omega) _ a d y (hy 0) (hy 1)) (View.allAt_nil _ _)))

variable (m : (ℓ : Loc nD τ sig) → Buf (Elt Ideal) ℓ)

/-- The memory. -/
abbrev aX (c : Dev nD) : ℕ → ℕ → EReal := rd (n0 := 2048) (n1 := 1024) (m ((c : Thread nD τ).loc main_arg0))
/-- The norm's weights. -/
abbrev aG (c : Dev nD) : ℕ → EReal := rd1 (n := 1024) (m ((c : Thread nD τ).loc main_arg1))
/-- The projection's weight. -/
abbrev aW (c : Dev nD) : ℕ → ℕ → EReal := rd (n0 := 1024) (n1 := 2048) (m ((c : Thread nD τ).loc main_arg2))
/-- The keys' norm's weights. -/
abbrev aQ (c : Dev nD) : ℕ → EReal := rd1 (n := 256) (m ((c : Thread nD τ).loc main_arg3))

/-- The blocks of memory tokens follow the grid. -/
theorem idx_tok : ∀ t : Fin cfg0.N, (win0_0.index t (0 : Fin 2) = t.val ∧ win0_0.index t (1 : Fin 2) = 0)
    ∧ (win0_4.index t (0 : Fin 2) = t.val ∧ win0_4.index t (1 : Fin 2) = 0)
    ∧ (win0_5.index t (0 : Fin 2) = t.val ∧ win0_5.index t (1 : Fin 2) = 0) := (by decide +kernel : ∀ t : Fin grid0.N, _)
/-- The weights are one block. -/
theorem idx_w : ∀ t : Fin cfg0.N, (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0) := (by decide +kernel : ∀ t : Fin grid0.N, _)
/-- Every point writes its blocks back. -/
theorem flush_all : ∀ t : Fin cfg0.N, (cfg0.win 4).flush t = true ∧ (cfg0.win 5).flush t = true := (by decide +kernel : ∀ t : Fin grid0.N, _)

/-- The weight in bf16. -/
theorem V_w (c : Dev nD) : V m c main_v0 = (truncf .bf16 (m ((c : Thread nD τ).loc main_arg2) : FVec Ideal S1024x2048 .f32) bitsLt_bf16_f32 : FVec Ideal S1024x2048 .bf16) := by
  show StableHlo.after hostOps0 (fun b => m (c, b)) main_v0 = _
  simp only [hostOps0]
  after_results_simp
/-- The keys' norm's weights as a row. -/
theorem V_q (c : Dev nD) : V m c main_v1 = shapeCast S1x256 (m ((c : Thread nD τ).loc main_arg3)) shapeCasts_S256_S1x256 := by
  show StableHlo.after hostOps0 (fun b => m (c, b)) main_v1 = _
  simp only [hostOps0]
  after_results_simp
  rfl
/-- The norm's weights as a row. -/
theorem V_g (c : Dev nD) : V m c main_v2 = shapeCast S1x1024 (m ((c : Thread nD τ).loc main_arg1)) shapeCasts_S1024_S1x1024 := by
  show StableHlo.after hostOps0 (fun b => m (c, b)) main_v2 = _
  simp only [hostOps0]
  after_results_simp
  rfl

/-- The memory's block. -/
theorem blk_x (c : Dev nD) (t : Fin cfg0.N) (a : Fin 256) (d : Fin 1024) : (iblk m c 0 t : S256x1024.Idx → EReal) (ix2 a d) = aX m c (256 * t.val + a) d :=
  (congrFun (V_main_arg0 m c) (((cfg0.win 0).blk t).view.emb (ix2 a d))).trans (rd_at _ _ _ _
    (show win0_0.index t (0 : Fin 2) * 256 + 1 * (a : ℕ) = _ by rw [(idx_tok t).1.1]; omega) (show win0_0.index t (1 : Fin 2) * 1024 + 1 * (d : ℕ) = d by rw [(idx_tok t).1.2]; omega))
/-- The norm's weights' block. -/
theorem blk_g (c : Dev nD) (t : Fin cfg0.N) (d : Fin 1024) : (iblk m c 1 t : S1x1024.Idx → EReal) (ix2 0 d) = aG m c d :=
  (congrFun (V_g m c) (((cfg0.win 1).blk t).view.emb (ix2 0 d))).trans (row_at _ _ _ _
    (show win0_1.index t (1 : Fin 2) * 1024 + 1 * (d : ℕ) = d by rw [(idx_w t).1.2]; omega))
/-- The weight's block. -/
theorem blk_w (c : Dev nD) (t : Fin cfg0.N) (k : Fin 1024) (j : Fin 2048) : (iblk m c 2 t : S1024x2048.Idx → EReal) (ix2 k j) = aW m c k j :=
  (congrFun (V_w m c) (((cfg0.win 2).blk t).view.emb (ix2 k j))).trans (rd_at _ _ _ _
    (show win0_2.index t (0 : Fin 2) * 1024 + 1 * (k : ℕ) = _ by rw [(idx_w t).2.1.1]; omega) (show win0_2.index t (1 : Fin 2) * 2048 + 1 * (j : ℕ) = j by rw [(idx_w t).2.1.2]; omega))
/-- The keys' norm's weights' block. -/
theorem blk_q (c : Dev nD) (t : Fin cfg0.N) (d : Fin 256) : (iblk m c 3 t : S1x256.Idx → EReal) (ix2 0 d) = aQ m c d :=
  (congrFun (V_q m c) (((cfg0.win 3).blk t).view.emb (ix2 0 d))).trans (row_at _ _ _ _
    (show win0_3.index t (1 : Fin 2) * 256 + 1 * (d : ℕ) = d by rw [(idx_w t).2.2.2]; omega))

/-- The point that works off a memory token. -/
def pt (p : Fin 2048) : Fin cfg0.N := ⟨p / 256, by have h : cfg0.N = 8 := N_0; omega⟩

/-- A memory token's place in its block. -/
def place (p : Fin 2048) : Fin 256 := ⟨p % 256, by omega⟩

/-- A point's blocks. -/
theorem blk (c : Dev nD) (t : Fin cfg0.N) : BlockAt (aX m c) (aG m c) (aW m c) (aQ m c) (256 * t.val) (iblk m c 0 t) (iblk m c 1 t) (iblk m c 2 t) (iblk m c 3 t) :=
  ⟨blk_x m c t, blk_g m c t, blk_w m c t, blk_q m c t⟩

/-- A memory token is at its place in its point's block. -/
theorem tok_at (p : Fin 2048) : 256 * (pt p).val + (place p : ℕ) = p := by
  show 256 * ((p : ℕ) / 256) + (p : ℕ) % 256 = p
  omega

/-- A memory token's row in an array of blocks. -/
theorem emb_mem (f : (⟨2, ![256, 1024]⟩ : Shape).Idx → (⟨2, ![2048, 1024]⟩ : Shape).Idx) (p : Fin 2048) (d : Fin 1024) {i j : ℕ}
    (h0 : ((f (ix2 (place p) d) 0 : Fin 2048) : ℕ) = i * 256 + 1 * (place p : ℕ)) (h1 : ((f (ix2 (place p) d) 1 : Fin 1024) : ℕ) = j * 1024 + 1 * (d : ℕ))
    (hi : i = (p : ℕ) / 256 ∧ j = 0) : f (ix2 (place p) d) = ix2 p d := by
  refine emb_at f _ d p d (h0.trans ?_) (h1.trans ?_)
  · rw [hi.1]
    show (p : ℕ) / 256 * 256 + 1 * ((p : ℕ) % 256) = p
    omega
  · rw [hi.2]
    omega

/-- The keys. -/
theorem arr_k (c : Dev nD) (p : Fin 2048) (d : Fin 1024) : ((dats m 0 c).arrAt 4 cfg0.N : S2048x1024.Idx → EReal) (ix2 p d) = keyed (aX m c) (aG m c) (aW m c) (aQ m c) p d :=
  (congrArg ((dats m 0 c).arrAt 4 cfg0.N : S2048x1024.Idx → EReal) (emb_mem ((cfg0.win 4).blk (pt p)).view.emb p d rfl rfl (idx_tok (pt p)).2.1).symm).trans
    ((congrFun ((blocks4 m c (pt p) (flush_all _).1).trans (flushed4 m c (pt p))) (ix2 (place p) d)).trans (((blk m c (pt p)).ks (place p) d).trans (by rw [tok_at])))
/-- The values. -/
theorem arr_v (c : Dev nD) (p : Fin 2048) (d : Fin 1024) : ((dats m 0 c).arrAt 5 cfg0.N : S2048x1024.Idx → EReal) (ix2 p d) = proj (aX m c) (aG m c) (aW m c) p (1024 + d) :=
  (congrArg ((dats m 0 c).arrAt 5 cfg0.N : S2048x1024.Idx → EReal) (emb_mem ((cfg0.win 5).blk (pt p)).view.emb p d rfl rfl (idx_tok (pt p)).2.2).symm).trans
    ((congrFun ((blocks5 m c (pt p) (flush_all _).2).trans (flushed5 m c (pt p))) (ix2 (place p) d)).trans (((blk m c (pt p)).vs (place p) d).trans (by rw [tok_at])))

end Cert.Proj.Mem

end
-- ==== Proof.ProjMemClaim.lean ====
/- The claims about the memory's projection: both programs leave the same keys and values. -/
module

public import proofs.«01_k».proof.Defs
public import proofs.«01_k».proof.Proof.Gen.Reference5Ideal
public import proofs.«01_k».proof.Proof.Gen.Reference5Ideal.Run
public import proofs.«01_k».proof.Proof.ProjMem
public import proofs.«01_k».proof.Proof.ProjRef
public import Idealize.ShloMosaic.Lib.Claim

@[expose] public section

noncomputable section

namespace Cert.Proj.Mem

open Idealize.ShloMosaic Idealize.ShloMosaic.TcCoe Idealize.SL.Sem
open Cert.Gla (rd rd1 rd_eq rd1_eq rd_at)
open Cert.Post (rms w1024 w256 eps)

/-- A head of keys normed, entry by entry. -/
theorem keyed_at (x : (⟨2, ![2048, 1024]⟩ : Shape).Idx → EReal) (g : (⟨1, ![1024]⟩ : Shape).Idx → EReal) (w : (⟨2, ![1024, 2048]⟩ : Shape).Idx → EReal)
    (q : (⟨1, ![256]⟩ : Shape).Idx → EReal) (p : Fin 2048) (d : Fin 1024) :
    (∑ k : Fin 1024, x (ix2 p k) * Ideal.rsqrt (Ideal.div (∑ j : Fin 1024, x (ix2 p j) * x (ix2 p j)) w1024 + eps) * g (ix1 k)
        * w (ix2 k ⟨(d : ℕ) / 256 * 256 + (d : ℕ) % 256, by omega⟩))
      * Ideal.rsqrt (Ideal.div (∑ e : Fin 256,
          (∑ k : Fin 1024, x (ix2 p k) * Ideal.rsqrt (Ideal.div (∑ j : Fin 1024, x (ix2 p j) * x (ix2 p j)) w1024 + eps) * g (ix1 k)
            * w (ix2 k ⟨(d : ℕ) / 256 * 256 + e, by omega⟩))
          * (∑ k : Fin 1024, x (ix2 p k) * Ideal.rsqrt (Ideal.div (∑ j : Fin 1024, x (ix2 p j) * x (ix2 p j)) w1024 + eps) * g (ix1 k)
            * w (ix2 k ⟨(d : ℕ) / 256 * 256 + e, by omega⟩))) w256 + eps)
      * q (ix1 ⟨(d : ℕ) % 256, by omega⟩)
      = keyed (rd x) (rd1 g) (rd w) (rd1 q) p d := by
  unfold keyed
  refine congrArg₂ (· * ·) (congrArg₂ (· * ·) (proj_at x g w p _ _ ?_) (congrArg (fun s => Ideal.rsqrt (Ideal.div s w256 + eps))
    (sum_eq fun e => congrArg₂ (· * ·) (proj_at x g w p _ _ ?_) (proj_at x g w p _ _ ?_)))) (rd1_eq q _).symm
  · show (d : ℕ) / 256 * 256 + (d : ℕ) % 256 = 256 * ((d : ℕ) / 256) + (d : ℕ) % 256
    omega
  all_goals
    show (d : ℕ) / 256 * 256 + e = 256 * ((d : ℕ) / 256) + e
    omega

/-- The reference ends with its arguments unchanged and, having no semaphores, with none raised. -/
theorem reference_frame : Cert.quiescent_Reference5Ideal (hReference5Ideal := Cert.Reference5Ideal.Gen.facts) := fun m g _ =>
  (θ_run Cert.Reference5Ideal.defs _ _).mono (fun r h => ⟨fun c => (h c).2.2, sem_eq_zero_of_no_sems (by decide) r.2⟩) (Cert.Reference5Ideal.Value.run m g)

set_option maxHeartbeats 2000000 in
/-- Kernel and reference compute the same arrays. -/
theorem algebraic : Cert.algebraic_Kernel5Ideal_Reference5Ideal (hKernel5Ideal := Cert.Kernel5Ideal.Gen.facts)
    (hReference5Ideal := Cert.Reference5Ideal.Gen.facts) := by
  intro m g m' g' _ hagree
  refine ⟨_, _, Cert.Kernel5Ideal.Value.run_blocks m g,
    (θ_run Cert.Reference5Ideal.defs _ _).mono (fun r h c => ?_) (Cert.Reference5Ideal.Value.run m' g')⟩
  obtain ⟨a0, a1, a2, a3⟩ := hagree c
  obtain ⟨h0, h1, h2⟩ := h c
  refine ⟨h0.trans ?_, h1.trans ?_, h2⟩
  · rw [a0, a1, a2, a3]
    funext i
    obtain ⟨p, d, rfl⟩ : ∃ (p : Fin 2048) (d : Fin 1024), i = ix2 p d := ⟨i 0, i 1, eq_ix2 i⟩
    refine Eq.trans ?_ (arr_k m c p d).symm
    pointwise
    exact keyed_at _ _ _ _ p d
  · rw [a0, a1, a2]
    funext i
    obtain ⟨p, d, rfl⟩ : ∃ (p : Fin 2048) (d : Fin 1024), i = ix2 p d := ⟨i 0, i 1, eq_ix2 i⟩
    refine Eq.trans ?_ (arr_v m c p d).symm
    pointwise
    exact proj_at _ _ _ _ _ (1024 + (d : ℕ)) (by show 1024 + (d : ℕ) / 256 * 256 + (d : ℕ) % 256 = 1024 + d; omega)

end Cert.Proj.Mem

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.GlaClaim
public import proofs.«01_k».proof.Proof.PostFrame
public import proofs.«01_k».proof.Proof.PostClaim
public import proofs.«01_k».proof.Proof.ProjGlaClaim
public import proofs.«01_k».proof.Proof.ProjAbClaim
public import proofs.«01_k».proof.Proof.ProjMemClaim

public import Idealize.ShloMosaic.Adequacy
public import Idealize.ShloMosaic.Init

@[expose] public section

noncomputable section

namespace Cert.Proof

open Idealize.ShloMosaic Idealize.SL.Sem Cert.Kernel

/-- Everything claimed: the frames, that the ideal program is the kernel's own text, and that kernel and reference compute the same. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Gla.preFacts,
  fun m ρ _ => Cert.Kernel.Gen.frame m ρ, fun m ρ _ => Cert.KernelIdeal.Gen.frame m ρ, fun m ρ _ => Cert.KernelIdeal.Gen.frame m ρ,
  Cert.Gla.reference_frame, fun m ρ _ => Cert.Gla.reference_frame m ρ trivial,
  fun m ρ _ => Cert.PostRun.frame m ρ, Cert.Post.kernel_frame, Cert.Post.reference_frame,
  fun m ρ _ => Cert.Kernel3.Gen.frame m ρ, fun m ρ _ => Cert.Kernel3Ideal.Gen.frame m ρ, Cert.Proj.Gla.reference_frame,
  fun m ρ _ => Cert.Kernel4.Gen.frame m ρ, fun m ρ _ => Cert.Kernel4Ideal.Gen.frame m ρ, Cert.Proj.Ab.reference_frame,
  fun m ρ _ => Cert.Kernel5.Gen.frame m ρ, fun m ρ _ => Cert.Kernel5Ideal.Gen.frame m ρ, Cert.Proj.Mem.reference_frame,
  trivial, Cert.Gla.algebraic, trivial, Cert.Post.algebraic, trivial, Cert.Proj.Gla.algebraic, trivial, Cert.Proj.Ab.algebraic,
  trivial, Cert.Proj.Mem.algebraic⟩

end Cert.Proof

end
